-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_routed : Cert.Pre_routed.Facts] (m : (ℓ : Loc Cert.Reference.nD Cert.Reference.τ Cert.Reference.sig) → Buf (Elt Bits) ℓ) : Prop :=
  ∀ c : Dev Cert.Reference.nD,
    (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_counted : Cert.Pre_counted.Facts] (m : (ℓ : Loc Cert.Kernel5.nD Cert.Kernel5.τ Cert.Kernel5.sig) → Buf (Elt Bits) ℓ) : Prop :=
  ∀ c : Dev Cert.Kernel5.nD,
    (Cert.Pre_counted.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_counted : Cert.Pre_counted.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_counted.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal [hPre_counted : Cert.Pre_counted.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_counted.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_routed : Cert.Pre_routed.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_counted : Cert.Pre_counted.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_counted : Cert.Pre_counted.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] [hPre_counted : Cert.Pre_counted.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def bitexact_Kernel_Reference [hKernel : Cert.Kernel.Facts] [hReference : Cert.Reference.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v25)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v25) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v72) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_counted : Cert.Pre_counted.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_routed : Cert.Pre_routed.Facts) (hPre_counted : Cert.Pre_counted.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_Reference (hReference := hReference) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_counted := hPre_counted)
    ∧ quiescent_Kernel5Ideal (hKernel5Ideal := hKernel5Ideal) (hPre_counted := hPre_counted)
    ∧ quiescent_Reference5Ideal (hReference5Ideal := hReference5Ideal) (hPre_counted := hPre_counted)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ bitexact_Kernel_Reference (hKernel := hKernel) (hReference := hReference) (hPre_routed := hPre_routed)
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_counted := hPre_counted)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_counted.lean ====
abbrev S1x128 : Shape := ⟨2, ![1, 128]⟩
abbrev S8192x128 : Shape := ⟨2, ![8192, 128]⟩
abbrev S20480x4096 : Shape := ⟨2, ![20480, 4096]⟩
abbrev S32x4096x768 : Shape := ⟨3, ![32, 4096, 768]⟩
abbrev S32x768x4096 : Shape := ⟨3, ![32, 768, 4096]⟩
abbrev S8192x2 : Shape := ⟨2, ![8192, 2]⟩
abbrev S16384 : Shape := ⟨1, ![16384]⟩
abbrev S_ : Shape := ⟨0, ![]⟩
abbrev S32 : Shape := ⟨1, ![32]⟩
abbrev S16384x1 : Shape := ⟨2, ![16384, 1]⟩
abbrev S1x32 : Shape := ⟨2, ![1, 32]⟩

class Facts : Prop where
  slices_S8192x128_S8192x2_0_0 : S8192x128.Slices ![0, 0] S8192x2
  shapeCasts_S8192x2_S16384 : S8192x2.ShapeCasts S16384
  bcast_S_S32 : S_.BroadcastsInDim S32 (![] : Fin 0 → Fin S32.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384_S_d0 : S16384.ReducesTo [0] S_
  h_S_ : 0 < S_.numel
  slices_S1x128_S1x32_0_0 : S1x128.Slices ![0, 0] S1x32
  shapeCasts_S1x32_S32 : S1x32.ShapeCasts S32
  reducesTo_S32_S_d0 : S32.ReducesTo [0] S_
  scatter_S32_S16384x1_S16384_n_0_0_1_wf : ScatterDims.WF S32 S16384x1 S16384 [] [0] [0] 1

variable [Facts]

def scatter_S32_S16384x1_S16384_n_0_0_1 : ScatterDims S32 S16384x1 S16384 where
  updateWindowDims := []
  insertedWindowDims := [0]
  scatterDimsToOperandDims := [0]
  indexVectorDim := 1
  wf := scatter_S32_S16384x1_S16384_n_0_0_1_wf
def fn_part1 {F : FTy → Type} [FloatOps F] (main_arg0 : FVec F S1x128 .f32) (main_v11 : IVec S32 32) (main_v14 : IVec S_ 1) (main_v16 : IVec S16384 1) : IVec S_ 1 :=
  let main_c_6 : IVec S_ 1 := constantI S_ 1 1#1
  let main_v17 : IVec S_ 1 := (fun x v => Host.reduce IntOp.andi x v reducesTo_S16384_S_d0 h_S_) main_v16 main_c_6
  let main_v18 : IVec S_ 1 := andi main_v14 main_v17
  let main_v19 : FVec F S1x32 .f32 := (extractStridedSlice S1x32 ![0, 0] · slices_S1x128_S1x32_0_0) main_arg0
  let main_v20 : FVec F S32 .f32 := shapeCast S32 main_v19 shapeCasts_S1x32_S32
  let main_v21 : IVec S32 32 := fptosi 32 main_v20
  let main_v22 : IVec S32 1 := cmpi .eq main_v21 main_v11
  let main_c_7 : IVec S_ 1 := constantI S_ 1 1#1
  let main_v23 : IVec S_ 1 := (fun x v => Host.reduce IntOp.andi x v reducesTo_S32_S_d0 h_S_) main_v22 main_c_7
  let main_v24 : IVec S_ 1 := andi main_v18 main_v23
  main_v24

def fn {F : FTy → Type} [FloatOps F] (main_arg0 : FVec F S1x128 .f32) (main_arg1 : FVec F S8192x128 .f32) (main_arg2 : FVec F S20480x4096 .f32) (main_arg3 : FVec F S32x4096x768 .f32) (main_arg4 : FVec F S32x4096x768 .f32) (main_arg5 : FVec F S32x768x4096 .f32) : IVec S_ 1 :=
  let main_v0 : FVec F S8192x2 .f32 := (extractStridedSlice S8192x2 ![0, 0] · slices_S8192x128_S8192x2_0_0) main_arg1
  let main_v1 : IVec S8192x2 32 := fptosi 32 main_v0
  let main_v2 : IVec S16384 32 := shapeCast S16384 main_v1 shapeCasts_S8192x2_S16384
  let main_c : IVec S_ 32 := constantI S_ 32 0#32
  let main_v3 : IVec S32 32 := broadcastInDim S32 ![] bcast_S_S32 main_c
  let main_c_0 : IVec S_ 32 := constantI S_ 32 0#32
  let main_v4 : IVec S16384 32 := broadcastInDim S16384 ![] bcast_S_S16384 main_c_0
  let main_v5 : IVec S16384 1 := cmpi .slt main_v2 main_v4
  let main_c_1 : IVec S_ 32 := constantI S_ 32 32#32
  let main_v6 : IVec S16384 32 := broadcastInDim S16384 ![] bcast_S_S16384 main_c_1
  let main_v7 : IVec S16384 32 := addi main_v2 main_v6
  let main_v8 : IVec S16384 32 := select main_v5 main_v7 main_v2
  let main_v9 : IVec S16384x1 32 := broadcastInDim S16384x1 ![0] bcast_S16384_S16384x1_0 main_v8
  let main_c_2 : IVec S_ 32 := constantI S_ 32 1#32
  let main_v10 : IVec S16384 32 := broadcastInDim S16384 ![] bcast_S_S16384 main_c_2
  let main_v11 : IVec S32 32 := (fun x i u => Host.scatter scatter_S32_S16384x1_S16384_n_0_0_1 IntOp.addi x i u) main_v3 main_v9 main_v10
  let main_c_3 : IVec S_ 32 := constantI S_ 32 0#32
  let main_v12 : IVec S16384 32 := broadcastInDim S16384 ![] bcast_S_S16384 main_c_3
  let main_v13 : IVec S16384 1 := cmpi .sge main_v2 main_v12
  let main_c_4 : IVec S_ 1 := constantI S_ 1 1#1
  let main_v14 : IVec S_ 1 := (fun x v => Host.reduce IntOp.andi x v reducesTo_S16384_S_d0 h_S_) main_v13 main_c_4
  let main_c_5 : IVec S_ 32 := constantI S_ 32 32#32
  let main_v15 : IVec S16384 32 := broadcastInDim S16384 ![] bcast_S_S16384 main_c_5
  let main_v16 : IVec S16384 1 := cmpi .slt main_v2 main_v15
  fn_part1 (F := F) main_arg0 main_v11 main_v14 main_v16
-- ==== Pre_routed.lean ====
abbrev S1x128 : Shape := ⟨2, ![1, 128]⟩
abbrev S8192x128 : Shape := ⟨2, ![8192, 128]⟩
abbrev S8192x4096 : Shape := ⟨2, ![8192, 4096]⟩
abbrev S8192x2 : Shape := ⟨2, ![8192, 2]⟩
abbrev S16384 : Shape := ⟨1, ![16384]⟩
abbrev S_ : Shape := ⟨0, ![]⟩
abbrev S16384x1 : Shape := ⟨2, ![16384, 1]⟩
abbrev S32 : Shape := ⟨1, ![32]⟩
abbrev S1x32 : Shape := ⟨2, ![1, 32]⟩

class Facts : Prop where
  slices_S8192x128_S8192x2_0_0 : S8192x128.Slices ![0, 0] S8192x2
  shapeCasts_S8192x2_S16384 : S8192x2.ShapeCasts S16384
  slices_S8192x128_S8192x2_0_4 : S8192x128.Slices ![0, 4] S8192x2
  bcast_S_S16384 : S_.BroadcastsInDim S16384 (![] : Fin 0 → Fin S16384.rank)
  bcast_S16384_S16384x1_0 : S16384.BroadcastsInDim S16384x1 (![0] : Fin 1 → Fin S16384x1.rank)
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  reducesTo_S16384_S_d0 : S16384.ReducesTo [0] S_
  slices_S1x128_S1x32_0_0 : S1x128.Slices ![0, 0] S1x32
  shapeCasts_S1x32_S32 : S1x32.ShapeCasts S32
  reducesTo_S32_S_d0 : S32.ReducesTo [0] S_
  gather_S16384_S16384x1_S16384_n_0_n_n_0_1_1_wf : GatherDims.WF S16384 S16384x1 S16384 [] [0] [] [0] [] 1 ![1]
  scatter_S32_S16384x1_S16384_n_0_0_1_wf : ScatterDims.WF S32 S16384x1 S16384 [] [0] [0] 1
  gather_S32_S16384x1_S16384_n_0_n_n_0_1_1_wf : GatherDims.WF S32 S16384x1 S16384 [] [0] [] [0] [] 1 ![1]

variable [Facts]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def scatter_S32_S16384x1_S16384_n_0_0_1 : ScatterDims S32 S16384x1 S16384 where
  updateWindowDims := []
  insertedWindowDims := [0]
  scatterDimsToOperandDims := [0]
  indexVectorDim := 1
  wf := scatter_S32_S16384x1_S16384_n_0_0_1_wf
def gather_S32_S16384x1_S16384_n_0_n_n_0_1_1 : GatherDims S32 S16384x1 S16384 where
  offsetDims := []
  collapsedSliceDims := [0]
  operandBatchingDims := []
  startIndicesBatchingDims := []
  startIndexMap := [0]
  indexVectorDim := 1
  sliceSizes := ![1]
  wf := gather_S32_S16384x1_S16384_n_0_n_n_0_1_1_wf
def fn_argsort {F : FTy → Type} [FloatOps F] (arg0 : IVec S16384 32) : IVec S16384 32 :=
  let v0 : IVec S16384 32 := iotaInDim S16384 32 0
  let v1_0 : IVec S16384 32 := (fun x y => (Host.sort2 S16384 0 comparator_i32_i32_d0 x y).1) arg0 v0
  let v1_1 : IVec S16384 32 := (fun x y => (Host.sort2 S16384 0 comparator_i32_i32_d0 x y).2) arg0 v0
  v1_1

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_part3 {F : FTy → Type} [FloatOps F] (main_v37 : IVec S_ 1) (main_v55 : IVec S_ 1) : IVec S_ 1 :=
  let main_v56 : IVec S_ 1 := andi main_v37 main_v55
  main_v56

def fn_part2 {F : FTy → Type} [FloatOps F] (main_v5 : IVec S16384 32) (main_v6 : IVec S16384 32) (main_v13 : IVec S16384 32) (main_v24 : IVec S32 32) (main_v31 : IVec S_ 1) (main_v36 : IVec S_ 1) : IVec S_ 1 :=
  let main_v37 : IVec S_ 1 := andi main_v31 main_v36
  let main_c_10 : IVec S_ 32 := constantI S_ 32 0#32
  let main_v38 : IVec S16384 32 := broadcastInDim S16384 ![] bcast_S_S16384 main_c_10
  let main_v39 : IVec S16384 1 := cmpi .slt main_v6 main_v38
  let main_c_11 : IVec S_ 32 := constantI S_ 32 16384#32
  let main_v40 : IVec S16384 32 := broadcastInDim S16384 ![] bcast_S_S16384 main_c_11
  let main_v41 : IVec S16384 32 := addi main_v6 main_v40
  let main_v42 : IVec S16384 32 := select main_v39 main_v41 main_v6
  let main_v43 : IVec S16384x1 32 := broadcastInDim S16384x1 ![0] bcast_S16384_S16384x1_0 main_v42
  let main_v44 : IVec S16384 32 := (fun x i => Host.gather gather_S16384_S16384x1_S16384_n_0_n_n_0_1_1 x i) main_v5 main_v43
  let main_v45 : IVec S16384 32 := iotaInDim S16384 32 0
  let main_c_12 : IVec S_ 32 := constantI S_ 32 0#32
  let main_v46 : IVec S16384 32 := broadcastInDim S16384 ![] bcast_S_S16384 main_c_12
  let main_v47 : IVec S16384 1 := cmpi .slt main_v13 main_v46
  let main_c_13 : IVec S_ 32 := constantI S_ 32 32#32
  let main_v48 : IVec S16384 32 := broadcastInDim S16384 ![] bcast_S_S16384 main_c_13
  let main_v49 : IVec S16384 32 := addi main_v13 main_v48
  let main_v50 : IVec S16384 32 := select main_v47 main_v49 main_v13
  let main_v51 : IVec S16384x1 32 := broadcastInDim S16384x1 ![0] bcast_S16384_S16384x1_0 main_v50
  let main_v52 : IVec S16384 32 := (fun x i => Host.gather gather_S32_S16384x1_S16384_n_0_n_n_0_1_1 x i) main_v24 main_v51
  let main_v53 : IVec S16384 32 := subi main_v45 main_v52
  let main_v54 : IVec S16384 1 := cmpi .eq main_v44 main_v53
  let main_c_14 : IVec S_ 1 := constantI S_ 1 1#1
  let main_v55 : IVec S_ 1 := (fun x v => Host.reduce IntOp.andi x v reducesTo_S16384_S_d0 h_S_) main_v54 main_c_14
  fn_part3 (F := F) main_v37 main_v55

def fn_part1 {F : FTy → Type} [FloatOps F] (main_arg0 : FVec F S1x128 .f32) (main_v2 : IVec S16384 32) (main_v5 : IVec S16384 32) (main_v6 : IVec S16384 32) (main_v13 : IVec S16384 32) (main_v14 : IVec S32 32) (main_v16 : IVec S16384 1) (main_v18 : IVec S16384 32) : IVec S_ 1 :=
  let main_v19 : IVec S16384 32 := select main_v16 main_v18 main_v2
  let main_v20 : IVec S16384x1 32 := broadcastInDim S16384x1 ![0] bcast_S16384_S16384x1_0 main_v19
  let main_c_4 : IVec S_ 32 := constantI S_ 32 1#32
  let main_v21 : IVec S16384 32 := broadcastInDim S16384 ![] bcast_S_S16384 main_c_4
  let main_v22 : IVec S32 32 := (fun x i u => Host.scatter scatter_S32_S16384x1_S16384_n_0_0_1 IntOp.addi x i u) main_v14 main_v20 main_v21
  let main_v23 : IVec S32 32 := fn_cumsum (F := F) main_v22
  let main_v24 : IVec S32 32 := subi main_v23 main_v22
  let main_c_5 : IVec S_ 32 := constantI S_ 32 0#32
  let main_v25 : IVec S16384 32 := broadcastInDim S16384 ![] bcast_S_S16384 main_c_5
  let main_v26 : IVec S16384 1 := cmpi .sge main_v2 main_v25
  let main_c_6 : IVec S_ 1 := constantI S_ 1 1#1
  let main_v27 : IVec S_ 1 := (fun x v => Host.reduce IntOp.andi x v reducesTo_S16384_S_d0 h_S_) main_v26 main_c_6
  let main_c_7 : IVec S_ 32 := constantI S_ 32 32#32
  let main_v28 : IVec S16384 32 := broadcastInDim S16384 ![] bcast_S_S16384 main_c_7
  let main_v29 : IVec S16384 1 := cmpi .slt main_v2 main_v28
  let main_c_8 : IVec S_ 1 := constantI S_ 1 1#1
  let main_v30 : IVec S_ 1 := (fun x v => Host.reduce IntOp.andi x v reducesTo_S16384_S_d0 h_S_) main_v29 main_c_8
  let main_v31 : IVec S_ 1 := andi main_v27 main_v30
  let main_v32 : FVec F S1x32 .f32 := (extractStridedSlice S1x32 ![0, 0] · slices_S1x128_S1x32_0_0) main_arg0
  let main_v33 : FVec F S32 .f32 := shapeCast S32 main_v32 shapeCasts_S1x32_S32
  let main_v34 : IVec S32 32 := fptosi 32 main_v33
  let main_v35 : IVec S32 1 := cmpi .eq main_v34 main_v22
  let main_c_9 : IVec S_ 1 := constantI S_ 1 1#1
  let main_v36 : IVec S_ 1 := (fun x v => Host.reduce IntOp.andi x v reducesTo_S32_S_d0 h_S_) main_v35 main_c_9
  fn_part2 (F := F) main_v5 main_v6 main_v13 main_v24 main_v31 main_v36

def fn {F : FTy → Type} [FloatOps F] (main_arg0 : FVec F S1x128 .f32) (main_arg1 : FVec F S8192x128 .f32) (main_arg2 : FVec F S8192x4096 .f32) : IVec S_ 1 :=
  let main_v0 : FVec F S8192x2 .f32 := (extractStridedSlice S8192x2 ![0, 0] · slices_S8192x128_S8192x2_0_0) main_arg1
  let main_v1 : IVec S8192x2 32 := fptosi 32 main_v0
  let main_v2 : IVec S16384 32 := shapeCast S16384 main_v1 shapeCasts_S8192x2_S16384
  let main_v3 : FVec F S8192x2 .f32 := (extractStridedSlice S8192x2 ![0, 4] · slices_S8192x128_S8192x2_0_4) main_arg1
  let main_v4 : IVec S8192x2 32 := fptosi 32 main_v3
  let main_v5 : IVec S16384 32 := shapeCast S16384 main_v4 shapeCasts_S8192x2_S16384
  let main_v6 : IVec S16384 32 := fn_argsort (F := F) main_v2
  let main_c : IVec S_ 32 := constantI S_ 32 0#32
  let main_v7 : IVec S16384 32 := broadcastInDim S16384 ![] bcast_S_S16384 main_c
  let main_v8 : IVec S16384 1 := cmpi .slt main_v6 main_v7
  let main_c_0 : IVec S_ 32 := constantI S_ 32 16384#32
  let main_v9 : IVec S16384 32 := broadcastInDim S16384 ![] bcast_S_S16384 main_c_0
  let main_v10 : IVec S16384 32 := addi main_v6 main_v9
  let main_v11 : IVec S16384 32 := select main_v8 main_v10 main_v6
  let main_v12 : IVec S16384x1 32 := broadcastInDim S16384x1 ![0] bcast_S16384_S16384x1_0 main_v11
  let main_v13 : IVec S16384 32 := (fun x i => Host.gather gather_S16384_S16384x1_S16384_n_0_n_n_0_1_1 x i) main_v2 main_v12
  let main_c_1 : IVec S_ 32 := constantI S_ 32 0#32
  let main_v14 : IVec S32 32 := broadcastInDim S32 ![] bcast_S_S32 main_c_1
  let main_c_2 : IVec S_ 32 := constantI S_ 32 0#32
  let main_v15 : IVec S16384 32 := broadcastInDim S16384 ![] bcast_S_S16384 main_c_2
  let main_v16 : IVec S16384 1 := cmpi .slt main_v2 main_v15
  let main_c_3 : IVec S_ 32 := constantI S_ 32 32#32
  let main_v17 : IVec S16384 32 := broadcastInDim S16384 ![] bcast_S_S16384 main_c_3
  let main_v18 : IVec S16384 32 := addi main_v2 main_v17
  fn_part1 (F := F) main_arg0 main_v2 main_v5 main_v6 main_v13 main_v14 main_v16 main_v18
-- ==== Kernel.lean ====
abbrev S1x128 : Shape := ⟨2, ![1, 128]⟩
abbrev S8192x128 : Shape := ⟨2, ![8192, 128]⟩
abbrev S8192x4096 : Shape := ⟨2, ![8192, 4096]⟩
abbrev S1x32 : Shape := ⟨2, ![1, 32]⟩
abbrev S32 : Shape := ⟨1, ![32]⟩
abbrev S_ : Shape := ⟨0, ![]⟩
abbrev S8192x2 : Shape := ⟨2, ![8192, 2]⟩
abbrev S8192x2x1 : Shape := ⟨3, ![8192, 2, 1]⟩
abbrev S16384 : Shape := ⟨1, ![16384]⟩
abbrev S20480x4096 : Shape := ⟨2, ![20480, 4096]⟩
abbrev S1 : Shape := ⟨1, ![1]⟩
abbrev S1x4096 : Shape := ⟨2, ![1, 4096]⟩

abbrev nBuf : Space → Nat
  | .hbm => 53
  | .vmem => 0
  | .smem => 1
  | _ => 0

abbrev bufTy : (tb : Table) → Fin (tcTables nBuf tb) → BufTy
  | .hbm, ⟨0, _⟩ => ⟨S1x128, .f32⟩
  | .hbm, ⟨1, _⟩ => ⟨S8192x128, .f32⟩
  | .hbm, ⟨2, _⟩ => ⟨S8192x4096, .f32⟩
  | .hbm, ⟨3, _⟩ => ⟨S1x32, .f32⟩
  | .hbm, ⟨4, _⟩ => ⟨S32, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S8192x2, .f32⟩
  | .hbm, ⟨38, _⟩ => ⟨S8192x2, .i32⟩
  | .hbm, ⟨39, _⟩ => ⟨S_, .i32⟩
  | .hbm, ⟨40, _⟩ => ⟨S8192x2, .i32⟩
  | .hbm, ⟨41, _⟩ => ⟨S8192x2, .i1⟩
  | .hbm, ⟨42, _⟩ => ⟨S_, .i32⟩
  | .hbm, ⟨43, _⟩ => ⟨S8192x2, .i32⟩
  | .hbm, ⟨44, _⟩ => ⟨S8192x2, .i32⟩
  | .hbm, ⟨45, _⟩ => ⟨S8192x2, .i32⟩
  | .hbm, ⟨46, _⟩ => ⟨S8192x2x1, .i32⟩
  | .hbm, ⟨47, _⟩ => ⟨S8192x2, .i32⟩
  | .hbm, ⟨48, _⟩ => ⟨S8192x2, .f32⟩
  | .hbm, ⟨49, _⟩ => ⟨S8192x2, .i32⟩
  | .hbm, ⟨50, _⟩ => ⟨S8192x2, .i32⟩
  | .hbm, ⟨51, _⟩ => ⟨S_, .f32⟩
  | .hbm, ⟨52, _⟩ => ⟨S20480x4096, .f32⟩
  | .local _ .smem, ⟨0, _⟩ => ⟨S16384, .i32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_c_2 : Ref sig .tc := ⟨.hbm, 30, rfl⟩
abbrev main_v8 : Ref sig .tc := ⟨.hbm, 31, rfl⟩
abbrev main_v9 : Ref sig .tc := ⟨.hbm, 32, rfl⟩
abbrev main_call1_call0_c : Ref sig .tc := ⟨.hbm, 33, rfl⟩
abbrev main_call1_call0_v0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst : Ref sig .tc := ⟨.hbm, 51, rfl⟩
abbrev main_v25 : Ref sig .tc := ⟨.hbm, 52, rfl⟩
abbrev main_v24 : Ref sig .tc := ⟨.smem, 0, rfl⟩

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v24.idx], fun | 0 => main_v24.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32_0 : BitVec 32 := 256#32
  let v1 : BitVec 32 := Scalar.addi c0_i32 c256_i32_0
  let c1_i32 : BitVec 32 := 1#32
  ⟨c0_i32, v1, c1_i32⟩
def k0_off1 (i : grid0.Coords) (k0_t1 : Fin k0_t1_loop.trips) : Fin 1 → Nat :=
  let c2_i32 : BitVec 32 := 2#32
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg6 : BitVec 32 := Scf.iv c0_i32 c1_i32 k0_t1
  let v4 : BitVec 32 := Scalar.addi v0 arg6
  let v5 : BitVec 32 := Scalar.muli c2_i32 v4
  let c0_i32_5 : BitVec 32 := 0#32
  let v6 : BitVec 32 := Scalar.addi v5 c0_i32_5
  let v7 : Index := Scalar.indexCast v6
  ![v7.toNat]
def k0_off2 (v8 : BitVec 32) : Fin 2 → Nat :=
  let c0_i32_6 : BitVec 32 := 0#32
  ![v8.toNat, 0]

def k0_chk1 (v8 : BitVec 32) : Prop :=
  (∀ a, (k0_off2 v8) a + S1x4096.size a ≤ S20480x4096.size a)
theorem k0_off2_inb : ∀ (v8 : BitVec 32) (k0_hw1 : k0_chk1 v8), ∀ a, (k0_off2 v8) a + S1x4096.size a ≤ S20480x4096.size a := fun v8 k0_hw1 => k0_hw1

def k0_off3 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg6 : BitVec 32 := Scf.iv c0_i32 c1_i32 k0_t1
  let v3 : BitVec 32 := Scalar.addi v0 arg6
  let c0_i32_7 : BitVec 32 := 0#32
  ![v3.toNat, 0]
def k0_off4 (i : grid0.Coords) (k0_t1 : Fin k0_t1_loop.trips) : Fin 1 → Nat :=
  let c2_i32_8 : BitVec 32 := 2#32
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg6 : BitVec 32 := Scf.iv c0_i32 c1_i32 k0_t1
  let v12 : BitVec 32 := Scalar.addi v0 arg6
  let v13 : BitVec 32 := Scalar.muli c2_i32_8 v12
  let c1_i32_9 : BitVec 32 := 1#32
  let v14 : BitVec 32 := Scalar.addi v13 c1_i32_9
  let v15 : Index := Scalar.indexCast v14
  ![v15.toNat]
def k0_off5 (v16 : BitVec 32) : Fin 2 → Nat :=
  let c0_i32_10 : BitVec 32 := 0#32
  ![v16.toNat, 0]

def k0_chk2 (v16 : BitVec 32) : Prop :=
  (∀ a, (k0_off5 v16) a + S1x4096.size a ≤ S20480x4096.size a)
theorem k0_off5_inb : ∀ (v16 : BitVec 32) (k0_hw2 : k0_chk2 v16), ∀ a, (k0_off5 v16) a + S1x4096.size a ≤ S20480x4096.size a := fun v16 k0_hw2 => k0_hw2

def k0_off6 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg6 : BitVec 32 := Scf.iv c0_i32 c1_i32 k0_t1
  let v11 : BitVec 32 := Scalar.addi v0 arg6
  let c0_i32_11 : BitVec 32 := 0#32
  ![v11.toNat, 0]
@[reducible] def k0_t2_loop : Scf.Loop 32 :=
  let c0_i32_2 : BitVec 32 := 0#32
  let c256_i32_3 : BitVec 32 := 256#32
  let v2 : BitVec 32 := Scalar.addi c0_i32_2 c256_i32_3
  let c1_i32_4 : BitVec 32 := 1#32
  ⟨c0_i32_2, v2, c1_i32_4⟩
-- ==== Reference.lean ====
abbrev S1x128 : Shape := ⟨2, ![1, 128]⟩
abbrev S8192x128 : Shape := ⟨2, ![8192, 128]⟩
abbrev S8192x4096 : Shape := ⟨2, ![8192, 4096]⟩
abbrev S8192x2 : Shape := ⟨2, ![8192, 2]⟩
abbrev S16384 : Shape := ⟨1, ![16384]⟩
abbrev S8192 : Shape := ⟨1, ![8192]⟩
abbrev S_ : Shape := ⟨0, ![]⟩
abbrev S16384x1 : Shape := ⟨2, ![16384, 1]⟩
abbrev S32 : Shape := ⟨1, ![32]⟩
abbrev S20480x4096 : Shape := ⟨2, ![20480, 4096]⟩
abbrev S16384x4096 : Shape := ⟨2, ![16384, 4096]⟩

abbrev nBuf : Space → Nat
  | .hbm => 119
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S8192x128, .f32⟩
  | .hbm, ⟨2, _⟩ => ⟨S8192x4096, .f32⟩
  | .hbm, ⟨3, _⟩ => ⟨S8192x2, .f32⟩
  | .hbm, ⟨4, _⟩ => ⟨S8192x2, .i32⟩
  | .hbm, ⟨5, _⟩ => ⟨S16384, .i32⟩
  | .hbm, ⟨6, _⟩ => ⟨S8192, .i32⟩
  | .hbm, ⟨7, _⟩ => ⟨S8192x2, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384, .i32⟩
  | .hbm, ⟨30, _⟩ => ⟨S_, .i32⟩
  | .hbm, ⟨31, _⟩ => ⟨S32, .i32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S_, .i32⟩
  | .hbm, ⟨41, _⟩ => ⟨S16384, .i32⟩
  | .hbm, ⟨42, _⟩ => ⟨S32, .i32⟩
  | .hbm, ⟨43, _⟩ => ⟨S_, .i32⟩
  | .hbm, ⟨44, _⟩ => ⟨S32, .i32⟩
  | .hbm, ⟨45, _⟩ => ⟨S32, .i32⟩
  | .hbm, ⟨46, _⟩ => ⟨S_, .i32⟩
  | .hbm, ⟨47, _⟩ => ⟨S32, .i32⟩
  | .hbm, ⟨48, _⟩ => ⟨S32, .i32⟩
  | .hbm, ⟨49, _⟩ => ⟨S_, .i32⟩
  | .hbm, ⟨50, _⟩ => ⟨S_, .i32⟩
  | .hbm, ⟨51, _⟩ => ⟨S32, .i32⟩
  | .hbm, ⟨52, _⟩ => ⟨S32, .i32⟩
  | .hbm, ⟨53, _⟩ => ⟨S32, .i32⟩
  | .hbm, ⟨54, _⟩ => ⟨S_, .i32⟩
  | .hbm, ⟨55, _⟩ => ⟨S32, .i32⟩
  | .hbm, ⟨56, _⟩ => ⟨S32, .i1⟩
  | .hbm, ⟨57, _⟩ => ⟨S32, .i32⟩
  | .hbm, ⟨58, _⟩ => ⟨S32, .i32⟩
  | .hbm, ⟨59, _⟩ => ⟨S_, .i32⟩
  | .hbm, ⟨60, _⟩ => ⟨S32, .i32⟩
  | .hbm, ⟨61, _⟩ => ⟨S32, .i1⟩
  | .hbm, ⟨62, _⟩ => ⟨S32, .i1⟩
  | .hbm, ⟨63, _⟩ => ⟨S_, .i32⟩
  | .hbm, ⟨64, _⟩ => ⟨S32, .i32⟩
  | .hbm, ⟨65, _⟩ => ⟨S32, .i32⟩
  | .hbm, ⟨66, _⟩ => ⟨S32, .i32⟩
  | .hbm, ⟨67, _⟩ => ⟨S_, .i32⟩
  | .hbm, ⟨68, _⟩ => ⟨S32, .i32⟩
  | .hbm, ⟨69, _⟩ => ⟨S32, .i32⟩
  | .hbm, ⟨70, _⟩ => ⟨S_, .i32⟩
  | .hbm, ⟨71, _⟩ => ⟨S_, .i32⟩
  | .hbm, ⟨72, _⟩ => ⟨S32, .i32⟩
  | .hbm, ⟨73, _⟩ => ⟨S32, .i32⟩
  | .hbm, ⟨74, _⟩ => ⟨S_, .i32⟩
  | .hbm, ⟨75, _⟩ => ⟨S_, .i32⟩
  | .hbm, ⟨76, _⟩ => ⟨S32, .i32⟩
  | .hbm, ⟨77, _⟩ => ⟨S32, .i32⟩
  | .hbm, ⟨78, _⟩ => ⟨S_, .i32⟩
  | .hbm, ⟨79, _⟩ => ⟨S16384, .i32⟩
  | .hbm, ⟨80, _⟩ => ⟨S16384, .i1⟩
  | .hbm, ⟨81, _⟩ => ⟨S_, .i32⟩
  | .hbm, ⟨82, _⟩ => ⟨S16384, .i32⟩
  | .hbm, ⟨83, _⟩ => ⟨S16384, .i32⟩
  | .hbm, ⟨84, _⟩ => ⟨S16384, .i32⟩
  | .hbm, ⟨85, _⟩ => ⟨S16384x1, .i32⟩
  | .hbm, ⟨86, _⟩ => ⟨S16384, .i32⟩
  | .hbm, ⟨87, _⟩ => ⟨S16384, .i32⟩
  | .hbm, ⟨88, _⟩ => ⟨S16384, .i32⟩
  | .hbm, ⟨89, _⟩ => ⟨S_, .i32⟩
  | .hbm, ⟨90, _⟩ => ⟨S16384, .i32⟩
  | .hbm, ⟨91, _⟩ => ⟨S16384, .i1⟩
  | .hbm, ⟨92, _⟩ => ⟨S_, .i32⟩
  | .hbm, ⟨93, _⟩ => ⟨S16384, .i32⟩
  | .hbm, ⟨94, _⟩ => ⟨S16384, .i32⟩
  | .hbm, ⟨95, _⟩ => ⟨S16384, .i32⟩
  | .hbm, ⟨96, _⟩ => ⟨S16384x1, .i32⟩
  | .hbm, ⟨97, _⟩ => ⟨S16384, .i32⟩
  | .hbm, ⟨98, _⟩ => ⟨S16384, .i32⟩
  | .hbm, ⟨99, _⟩ => ⟨S_, .f32⟩
  | .hbm, ⟨100, _⟩ => ⟨S20480x4096, .f32⟩
  | .hbm, ⟨101, _⟩ => ⟨S_, .i32⟩
  | .hbm, ⟨102, _⟩ => ⟨S16384, .i32⟩
  | .hbm, ⟨103, _⟩ => ⟨S16384, .i1⟩
  | .hbm, ⟨104, _⟩ => ⟨S_, .i32⟩
  | .hbm, ⟨105, _⟩ => ⟨S16384, .i32⟩
  | .hbm, ⟨106, _⟩ => ⟨S16384, .i32⟩
  | .hbm, ⟨107, _⟩ => ⟨S16384, .i32⟩
  | .hbm, ⟨108, _⟩ => ⟨S16384x1, .i32⟩
  | .hbm, ⟨109, _⟩ => ⟨S16384x4096, .f32⟩
  | .hbm, ⟨110, _⟩ => ⟨S_, .i32⟩
  | .hbm, ⟨111, _⟩ => ⟨S16384, .i32⟩
  | .hbm, ⟨112, _⟩ => ⟨S16384, .i1⟩
  | .hbm, ⟨113, _⟩ => ⟨S_, .i32⟩
  | .hbm, ⟨114, _⟩ => ⟨S16384, .i32⟩
  | .hbm, ⟨115, _⟩ => ⟨S16384, .i32⟩
  | .hbm, ⟨116, _⟩ => ⟨S16384, .i32⟩
  | .hbm, ⟨117, _⟩ => ⟨S16384x1, .i32⟩
  | .hbm, ⟨118, _⟩ => ⟨S20480x4096, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1_0 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v34 : Ref sig .tc := ⟨.hbm, 66, rfl⟩
abbrev main_c_10 : Ref sig .tc := ⟨.hbm, 67, rfl⟩
abbrev main_v35 : Ref sig .tc := ⟨.hbm, 68, rfl⟩
abbrev main_v36 : Ref sig .tc := ⟨.hbm, 69, rfl⟩
abbrev main_call2_call0_c : Ref sig .tc := ⟨.hbm, 70, rfl⟩
abbrev main_call2_call0_v0 : Ref sig .tc := ⟨.hbm, 71, rfl⟩
abbrev main_v37 : Ref sig .tc := ⟨.hbm, 72, rfl⟩
abbrev main_v38 : Ref sig .tc := ⟨.hbm, 73, rfl⟩
abbrev main_call3_call0_c : Ref sig .tc := ⟨.hbm, 74, rfl⟩
abbrev main_call3_call0_v0 : Ref sig .tc := ⟨.hbm, 75, rfl⟩
abbrev main_v39 : Ref sig .tc := ⟨.hbm, 76, rfl⟩
abbrev main_v40 : Ref sig .tc := ⟨.hbm, 77, rfl⟩
abbrev main_c_11 : Ref sig .tc := ⟨.hbm, 78, rfl⟩
abbrev main_v41 : Ref sig .tc := ⟨.hbm, 79, rfl⟩
abbrev main_v42 : Ref sig .tc := ⟨.hbm, 80, rfl⟩
abbrev main_c_12 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_13 : Ref sig .tc := ⟨.hbm, 89, rfl⟩
abbrev main_v50 : Ref sig .tc := ⟨.hbm, 90, rfl⟩
abbrev main_v51 : Ref sig .tc := ⟨.hbm, 91, rfl⟩
abbrev main_c_14 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst : Ref sig .tc := ⟨.hbm, 99, rfl⟩
abbrev main_v58 : Ref sig .tc := ⟨.hbm, 100, rfl⟩
abbrev main_c_15 : Ref sig .tc := ⟨.hbm, 101, rfl⟩
abbrev main_v59 : Ref sig .tc := ⟨.hbm, 102, rfl⟩
abbrev main_v60 : Ref sig .tc := ⟨.hbm, 103, rfl⟩
abbrev main_c_16 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_17 : Ref sig .tc := ⟨.hbm, 110, rfl⟩
abbrev main_v66 : Ref sig .tc := ⟨.hbm, 111, rfl⟩
abbrev main_v67 : Ref sig .tc := ⟨.hbm, 112, rfl⟩
abbrev main_c_18 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩

abbrev nD : Nat := 1
abbrev τ : Topo := Topo.v7x

variable {F : FTy → Type} [FloatOps F]
-- ==== Kernel2.lean ====
abbrev S8192x4096 : Shape := ⟨2, ![8192, 4096]⟩
abbrev S4096x12864 : Shape := ⟨2, ![4096, 12864]⟩
abbrev S8192x32 : Shape := ⟨2, ![8192, 32]⟩
abbrev S4096x1536 : Shape := ⟨2, ![4096, 1536]⟩
abbrev S4096x11264 : Shape := ⟨2, ![4096, 11264]⟩
abbrev S4096x12800 : Shape := ⟨2, ![4096, 12800]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x12800 : Shape := ⟨2, ![8192, 12800]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩

abbrev nBuf : Space → Nat
  | .hbm => 15
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x12864, .f32⟩
  | .hbm, ⟨2, _⟩ => ⟨S8192x32, .f32⟩
  | .hbm, ⟨3, _⟩ => ⟨S8192x32, .f32⟩
  | .hbm, ⟨4, _⟩ => ⟨S4096x1536, .f32⟩
  | .hbm, ⟨5, _⟩ => ⟨S4096x11264, .f32⟩
  | .hbm, ⟨6, _⟩ => ⟨S4096x12800, .f32⟩
  | .hbm, ⟨7, _⟩ => ⟨S4096x12800, .bf16⟩
  | .hbm, ⟨8, _⟩ => ⟨S1x8192x1x32, .f32⟩
  | .hbm, ⟨9, _⟩ => ⟨S1x8192x4x32, .f32⟩
  | .hbm, ⟨10, _⟩ => ⟨S8192x128, .f32⟩
  | .hbm, ⟨11, _⟩ => ⟨S1x8192x1x32, .f32⟩
  | .hbm, ⟨12, _⟩ => ⟨S1x8192x4x32, .f32⟩
  | .hbm, ⟨13, _⟩ => ⟨S8192x128, .f32⟩
  | .hbm, ⟨14, _⟩ => ⟨S8192x12800, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 25], ![false, false]⟩

def k0_cond1 (i : grid0.Coords) : BitVec 1 :=
  let arg1 : BitVec 32 := BitVec.ofNat 32 (i 1).val
  let c3_i32 : BitVec 32 := 3#32
  let v4 : BitVec 1 := Scalar.cmpi .sge arg1 c3_i32
  let c8_i32 : BitVec 32 := 8#32
  let v5 : BitVec 1 := Scalar.cmpi .slt arg1 c8_i32
  let v6 : BitVec 1 := Scalar.andi v4 v5
  let v7 : BitVec 32 := Scalar.extui v6
  let c0_i32 : BitVec 32 := 0#32
  let v8 : BitVec 1 := Scalar.cmpi .ne v7 c0_i32
  v8

def k0_cond2 (i : grid0.Coords) : BitVec 1 :=
  let arg1 : BitVec 32 := BitVec.ofNat 32 (i 1).val
  let c3_i32 : BitVec 32 := 3#32
  let v4 : BitVec 1 := Scalar.cmpi .sge arg1 c3_i32
  let c8_i32 : BitVec 32 := 8#32
  let v5 : BitVec 1 := Scalar.cmpi .slt arg1 c8_i32
  let v6 : BitVec 1 := Scalar.andi v4 v5
  let v_true : BitVec 1 := 1#1
  let v9 : BitVec 1 := Scalar.xori v6 v_true
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x4096 : Shape := ⟨2, ![8192, 4096]⟩
abbrev S4096x12864 : Shape := ⟨2, ![4096, 12864]⟩
abbrev S8192x32 : Shape := ⟨2, ![8192, 32]⟩
abbrev S8192x12864 : Shape := ⟨2, ![8192, 12864]⟩
abbrev S8192x1024 : Shape := ⟨2, ![8192, 1024]⟩
abbrev S8192x512 : Shape := ⟨2, ![8192, 512]⟩
abbrev S8192x64 : Shape := ⟨2, ![8192, 64]⟩
abbrev S8192x2048 : Shape := ⟨2, ![8192, 2048]⟩
abbrev S8192x32x64 : Shape := ⟨3, ![8192, 32, 64]⟩
abbrev S8192x32x32 : Shape := ⟨3, ![8192, 32, 32]⟩
abbrev S8192x1x32 : Shape := ⟨3, ![8192, 1, 32]⟩
abbrev S_ : Shape := ⟨0, ![]⟩
abbrev S8192x8x64 : Shape := ⟨3, ![8192, 8, 64]⟩
abbrev S8192x8x32 : Shape := ⟨3, ![8192, 8, 32]⟩
abbrev S8192x12800 : Shape := ⟨2, ![8192, 12800]⟩

abbrev nBuf : Space → Nat
  | .hbm => 53
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12864, .f32⟩
  | .hbm, ⟨2, _⟩ => ⟨S8192x32, .f32⟩
  | .hbm, ⟨3, _⟩ => ⟨S8192x32, .f32⟩
  | .hbm, ⟨4, _⟩ => ⟨S8192x4096, .f32⟩
  | .hbm, ⟨5, _⟩ => ⟨S8192x12864, .f32⟩
  | .hbm, ⟨6, _⟩ => ⟨S8192x1024, .f32⟩
  | .hbm, ⟨7, _⟩ => ⟨S8192x512, .f32⟩
  | .hbm, ⟨8, _⟩ => ⟨S8192x64, .f32⟩
  | .hbm, ⟨9, _⟩ => ⟨S8192x2048, .f32⟩
  | .hbm, ⟨10, _⟩ => ⟨S8192x512, .f32⟩
  | .hbm, ⟨11, _⟩ => ⟨S8192x512, .f32⟩
  | .hbm, ⟨12, _⟩ => ⟨S8192x4096, .f32⟩
  | .hbm, ⟨13, _⟩ => ⟨S8192x4096, .f32⟩
  | .hbm, ⟨14, _⟩ => ⟨S8192x32x64, .f32⟩
  | .hbm, ⟨15, _⟩ => ⟨S8192x32x32, .f32⟩
  | .hbm, ⟨16, _⟩ => ⟨S8192x32x32, .f32⟩
  | .hbm, ⟨17, _⟩ => ⟨S8192x1x32, .f32⟩
  | .hbm, ⟨18, _⟩ => ⟨S8192x1x32, .f32⟩
  | .hbm, ⟨19, _⟩ => ⟨S8192x32x32, .f32⟩
  | .hbm, ⟨20, _⟩ => ⟨S8192x32x32, .f32⟩
  | .hbm, ⟨21, _⟩ => ⟨S8192x32x32, .f32⟩
  | .hbm, ⟨22, _⟩ => ⟨S8192x32x32, .f32⟩
  | .hbm, ⟨23, _⟩ => ⟨S8192x32x32, .f32⟩
  | .hbm, ⟨24, _⟩ => ⟨S8192x32x32, .f32⟩
  | .hbm, ⟨25, _⟩ => ⟨S8192x32x32, .f32⟩
  | .hbm, ⟨26, _⟩ => ⟨S8192x32x32, .f32⟩
  | .hbm, ⟨27, _⟩ => ⟨S8192x32x32, .f32⟩
  | .hbm, ⟨28, _⟩ => ⟨S8192x32x32, .f32⟩
  | .hbm, ⟨29, _⟩ => ⟨S8192x32x64, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x8x64, .f32⟩
  | .hbm, ⟨35, _⟩ => ⟨S8192x8x32, .f32⟩
  | .hbm, ⟨36, _⟩ => ⟨S8192x8x32, .f32⟩
  | .hbm, ⟨37, _⟩ => ⟨S8192x1x32, .f32⟩
  | .hbm, ⟨38, _⟩ => ⟨S8192x1x32, .f32⟩
  | .hbm, ⟨39, _⟩ => ⟨S8192x8x32, .f32⟩
  | .hbm, ⟨40, _⟩ => ⟨S8192x8x32, .f32⟩
  | .hbm, ⟨41, _⟩ => ⟨S8192x8x32, .f32⟩
  | .hbm, ⟨42, _⟩ => ⟨S8192x8x32, .f32⟩
  | .hbm, ⟨43, _⟩ => ⟨S8192x8x32, .f32⟩
  | .hbm, ⟨44, _⟩ => ⟨S8192x8x32, .f32⟩
  | .hbm, ⟨45, _⟩ => ⟨S8192x8x32, .f32⟩
  | .hbm, ⟨46, _⟩ => ⟨S8192x8x32, .f32⟩
  | .hbm, ⟨47, _⟩ => ⟨S8192x8x32, .f32⟩
  | .hbm, ⟨48, _⟩ => ⟨S8192x8x32, .f32⟩
  | .hbm, ⟨49, _⟩ => ⟨S8192x8x64, .f32⟩
  | .hbm, ⟨50, _⟩ => ⟨S8192x512, .f32⟩
  | .hbm, ⟨51, _⟩ => ⟨S8192x12800, .f32⟩
  | .hbm, ⟨52, _⟩ => ⟨S8192x12800, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩

abbrev nD : Nat := 1
abbrev τ : Topo := Topo.v7x

variable {F : FTy → Type} [FloatOps F]
-- ==== Kernel3.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4096x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8192x2048 : Shape := ⟨2, ![8192, 2048]⟩
abbrev S2048x4096 : Shape := ⟨2, ![2048, 4096]⟩
abbrev S8192x12800 : Shape := ⟨2, ![8192, 12800]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x2048, .bf16⟩
  | .hbm, ⟨3, _⟩ => ⟨S2048x4096, .f32⟩
  | .hbm, ⟨4, _⟩ => ⟨S8192x12800, .bf16⟩
  | .hbm, ⟨5, _⟩ => ⟨S2048x4096, .bf16⟩
  | .hbm, ⟨6, _⟩ => ⟨S2048x4096, .bf16⟩
  | .hbm, ⟨7, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi arg1 c17_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8192x2048 : Shape := ⟨2, ![8192, 2048]⟩
abbrev S2048x4096 : Shape := ⟨2, ![2048, 4096]⟩
abbrev S8192x12800 : Shape := ⟨2, ![8192, 12800]⟩
abbrev S8192x4096 : Shape := ⟨2, ![8192, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x2048, .bf16⟩
  | .hbm, ⟨3, _⟩ => ⟨S2048x4096, .f32⟩
  | .hbm, ⟨4, _⟩ => ⟨S8192x12800, .bf16⟩
  | .hbm, ⟨5, _⟩ => ⟨S8192x4096, .bf16⟩
  | .hbm, ⟨6, _⟩ => ⟨S8192x4096, .f32⟩
  | .hbm, ⟨7, _⟩ => ⟨S8192x4096, .bf16⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x2048, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x2048, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel5.lean ====
abbrev S1x128 : Shape := ⟨2, ![1, 128]⟩
abbrev S8192x128 : Shape := ⟨2, ![8192, 128]⟩
abbrev S20480x4096 : Shape := ⟨2, ![20480, 4096]⟩
abbrev S32x4096x768 : Shape := ⟨3, ![32, 4096, 768]⟩
abbrev S32x768x4096 : Shape := ⟨3, ![32, 768, 4096]⟩
abbrev S1x32 : Shape := ⟨2, ![1, 32]⟩
abbrev S32 : Shape := ⟨1, ![32]⟩
abbrev S_ : Shape := ⟨0, ![]⟩
abbrev S160 : Shape := ⟨1, ![160]⟩
abbrev S160x1 : Shape := ⟨2, ![160, 1]⟩
abbrev S160x32 : Shape := ⟨2, ![160, 32]⟩
abbrev S1 : Shape := ⟨1, ![1]⟩
abbrev S128x4096 : Shape := ⟨2, ![128, 4096]⟩
abbrev S1x4096x768 : Shape := ⟨3, ![1, 4096, 768]⟩
abbrev S1x768x4096 : Shape := ⟨3, ![1, 768, 4096]⟩
abbrev S4096x768 : Shape := ⟨2, ![4096, 768]⟩
abbrev S128x768 : Shape := ⟨2, ![128, 768]⟩
abbrev S768x4096 : Shape := ⟨2, ![768, 4096]⟩

abbrev nBuf : Space → Nat
  | .hbm => 75
  | .vmem => 10
  | .smem => 2
  | _ => 0

abbrev bufTy : (tb : Table) → Fin (tcTables nBuf tb) → BufTy
  | .hbm, ⟨0, _⟩ => ⟨S1x128, .f32⟩
  | .hbm, ⟨1, _⟩ => ⟨S8192x128, .f32⟩
  | .hbm, ⟨2, _⟩ => ⟨S20480x4096, .f32⟩
  | .hbm, ⟨3, _⟩ => ⟨S32x4096x768, .f32⟩
  | .hbm, ⟨4, _⟩ => ⟨S32x4096x768, .f32⟩
  | .hbm, ⟨5, _⟩ => ⟨S32x768x4096, .f32⟩
  | .hbm, ⟨6, _⟩ => ⟨S1x32, .f32⟩
  | .hbm, ⟨7, _⟩ => ⟨S32, .f32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S160, .i32⟩
  | .hbm, ⟨40, _⟩ => ⟨S_, .i32⟩
  | .hbm, ⟨41, _⟩ => ⟨S160, .i32⟩
  | .hbm, ⟨42, _⟩ => ⟨S160, .i32⟩
  | .hbm, ⟨43, _⟩ => ⟨S1x32, .i32⟩
  | .hbm, ⟨44, _⟩ => ⟨S160x1, .i32⟩
  | .hbm, ⟨45, _⟩ => ⟨S160x32, .i32⟩
  | .hbm, ⟨46, _⟩ => ⟨S160x32, .i32⟩
  | .hbm, ⟨47, _⟩ => ⟨S160x32, .i1⟩
  | .hbm, ⟨48, _⟩ => ⟨S160x32, .i32⟩
  | .hbm, ⟨49, _⟩ => ⟨S_, .i32⟩
  | .hbm, ⟨50, _⟩ => ⟨S160, .i32⟩
  | .hbm, ⟨51, _⟩ => ⟨S_, .i32⟩
  | .hbm, ⟨52, _⟩ => ⟨S160, .i32⟩
  | .hbm, ⟨53, _⟩ => ⟨S1, .i32⟩
  | .hbm, ⟨54, _⟩ => ⟨S_, .i32⟩
  | .hbm, ⟨55, _⟩ => ⟨S_, .i32⟩
  | .hbm, ⟨56, _⟩ => ⟨S1, .i32⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S1, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S1, .i1⟩
  | .hbm, ⟨67, _⟩ => ⟨S1, .i1⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S32x4096x768, .bf16⟩
  | .hbm, ⟨72, _⟩ => ⟨S32x4096x768, .bf16⟩
  | .hbm, ⟨73, _⟩ => ⟨S32x768x4096, .bf16⟩
  | .hbm, ⟨74, _⟩ => ⟨S20480x4096, .f32⟩
  | .local _ .vmem, ⟨0, _⟩ => ⟨S128x4096, .f32⟩
  | .local _ .vmem, ⟨1, _⟩ => ⟨S128x4096, .f32⟩
  | .local _ .vmem, ⟨2, _⟩ => ⟨S1x4096x768, .bf16⟩
  | .local _ .vmem, ⟨3, _⟩ => ⟨S1x4096x768, .bf16⟩
  | .local _ .vmem, ⟨4, _⟩ => ⟨S1x4096x768, .bf16⟩
  | .local _ .vmem, ⟨5, _⟩ => ⟨S1x4096x768, .bf16⟩
  | .local _ .vmem, ⟨6, _⟩ => ⟨S1x768x4096, .bf16⟩
  | .local _ .vmem, ⟨7, _⟩ => ⟨S1x768x4096, .bf16⟩
  | .local _ .vmem, ⟨8, _⟩ => ⟨S128x4096, .f32⟩
  | .local _ .vmem, ⟨9, _⟩ => ⟨S128x4096, .f32⟩
  | .local _ .smem, ⟨0, _⟩ => ⟨S160, .i32⟩
  | .local _ .smem, ⟨1, _⟩ => ⟨S1, .i32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_call1_call0_c : Ref sig .tc := ⟨.hbm, 36, rfl⟩
abbrev main_call1_call0_v0 : Ref sig .tc := ⟨.hbm, 37, rfl⟩
abbrev main_v10 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v23 : Ref sig .tc := ⟨.hbm, 53, rfl⟩
abbrev main_c_6 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v22 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_v22.idx, main_v24.idx], fun | 0 => main_v22.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S1x128 : Shape := ⟨2, ![1, 128]⟩
abbrev S8192x128 : Shape := ⟨2, ![8192, 128]⟩
abbrev S20480x4096 : Shape := ⟨2, ![20480, 4096]⟩
abbrev S32x4096x768 : Shape := ⟨3, ![32, 4096, 768]⟩
abbrev S32x768x4096 : Shape := ⟨3, ![32, 768, 4096]⟩
abbrev S8192x2 : Shape := ⟨2, ![8192, 2]⟩
abbrev S16384 : Shape := ⟨1, ![16384]⟩
abbrev S_ : Shape := ⟨0, ![]⟩
abbrev S32 : Shape := ⟨1, ![32]⟩
abbrev S16384x1 : Shape := ⟨2, ![16384, 1]⟩
abbrev S1x32 : Shape := ⟨2, ![1, 32]⟩
abbrev S160 : Shape := ⟨1, ![160]⟩
abbrev S160x1 : Shape := ⟨2, ![160, 1]⟩
abbrev S160x32 : Shape := ⟨2, ![160, 32]⟩
abbrev S20480 : Shape := ⟨1, ![20480]⟩
abbrev S20480x1 : Shape := ⟨2, ![20480, 1]⟩
abbrev S1 : Shape := ⟨1, ![1]⟩
abbrev S160x128x4096 : Shape := ⟨3, ![160, 128, 4096]⟩
abbrev S1x128x4096 : Shape := ⟨3, ![1, 128, 4096]⟩
abbrev S128x4096 : Shape := ⟨2, ![128, 4096]⟩
abbrev S1x4096x768 : Shape := ⟨3, ![1, 4096, 768]⟩
abbrev S4096x768 : Shape := ⟨2, ![4096, 768]⟩
abbrev S128x768 : Shape := ⟨2, ![128, 768]⟩
abbrev S1x768x4096 : Shape := ⟨3, ![1, 768, 4096]⟩
abbrev S768x4096 : Shape := ⟨2, ![768, 4096]⟩

abbrev nBuf : Space → Nat
  | .hbm => 186
  | .vmem => 0
  | .smem => 0
  | _ => 0

abbrev hbmTy0_0 (i : Nat) : BufTy := match i % 128 with
  | 0 => ⟨S1x128, .f32⟩
  | 1 => ⟨S8192x128, .f32⟩
  | 2 => ⟨S20480x4096, .f32⟩
  | 3 => ⟨S32x4096x768, .f32⟩
  | 4 => ⟨S32x4096x768, .f32⟩
  | 5 => ⟨S32x768x4096, .f32⟩
  | 6 => ⟨S8192x2, .f32⟩
  | 7 => ⟨S8192x2, .i32⟩
  | 8 => ⟨S16384, .i32⟩
  | 9 => ⟨S_, .i32⟩
  | 10 => ⟨S32, .i32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S_, .i32⟩
  | 20 => ⟨S16384, .i32⟩
  | 21 => ⟨S32, .i32⟩
  | 22 => ⟨S_, .i32⟩
  | 23 => ⟨S32, .i32⟩
  | 24 => ⟨S32, .i32⟩
  | 25 => ⟨S_, .i32⟩
  | 26 => ⟨S32, .i32⟩
  | 27 => ⟨S32, .i32⟩
  | 28 => ⟨S_, .i32⟩
  | 29 => ⟨S_, .i32⟩
  | 30 => ⟨S32, .i32⟩
  | 31 => ⟨S32, .i32⟩
  | 32 => ⟨S32, .i32⟩
  | 33 => ⟨S_, .i32⟩
  | 34 => ⟨S32, .i32⟩
  | 35 => ⟨S32, .i1⟩
  | 36 => ⟨S32, .i32⟩
  | 37 => ⟨S32, .i32⟩
  | 38 => ⟨S_, .i32⟩
  | 39 => ⟨S32, .i32⟩
  | 40 => ⟨S32, .i1⟩
  | 41 => ⟨S32, .i1⟩
  | 42 => ⟨S_, .i32⟩
  | 43 => ⟨S32, .i32⟩
  | 44 => ⟨S32, .i32⟩
  | 45 => ⟨S32, .i32⟩
  | 46 => ⟨S_, .i32⟩
  | 47 => ⟨S32, .i32⟩
  | 48 => ⟨S32, .i32⟩
  | 49 => ⟨S_, .i32⟩
  | 50 => ⟨S_, .i32⟩
  | 51 => ⟨S32, .i32⟩
  | 52 => ⟨S1x32, .i32⟩
  | 53 => ⟨S160, .i32⟩
  | 54 => ⟨S_, .i32⟩
  | 55 => ⟨S160, .i32⟩
  | 56 => ⟨S160, .i32⟩
  | 57 => ⟨S160x1, .i32⟩
  | 58 => ⟨S160x32, .i32⟩
  | 59 => ⟨S160x32, .i32⟩
  | 60 => ⟨S160x32, .i1⟩
  | 61 => ⟨S160x32, .i32⟩
  | 62 => ⟨S_, .i32⟩
  | 63 => ⟨S160, .i32⟩
  | 64 => ⟨S_, .i32⟩
  | 65 => ⟨S160, .i32⟩
  | 66 => ⟨S160, .i32⟩
  | 67 => ⟨S20480, .i32⟩
  | 68 => ⟨S20480x1, .i32⟩
  | 69 => ⟨S1, .i32⟩
  | 70 => ⟨S_, .i32⟩
  | 71 => ⟨S20480x1, .i32⟩
  | 72 => ⟨S20480x1, .i1⟩
  | 73 => ⟨S_, .f32⟩
  | 74 => ⟨S_, .f32⟩
  | 75 => ⟨S20480x4096, .i1⟩
  | 76 => ⟨S20480x4096, .f32⟩
  | 77 => ⟨S20480x4096, .f32⟩
  | 78 => ⟨S160x128x4096, .f32⟩
  | 79 => ⟨S_, .f32⟩
  | 80 => ⟨S160x128x4096, .f32⟩
  | 81 => ⟨S_, .i32⟩
  | 82 => ⟨S160, .i32⟩
  | 83 => ⟨S160x128x4096, .f32⟩
  | 84 => ⟨S32x4096x768, .f32⟩
  | 85 => ⟨S32x4096x768, .f32⟩
  | 86 => ⟨S32x768x4096, .f32⟩
  | 87 => ⟨S_, .i32⟩
  | 88 => ⟨S160x128x4096, .f32⟩
  | 89 => ⟨S_, .i32⟩
  | 90 => ⟨S_, .i1⟩
  | 91 => ⟨S1, .i32⟩
  | 92 => ⟨S_, .i32⟩
  | 93 => ⟨S_, .i32⟩
  | 94 => ⟨S_, .i32⟩
  | 95 => ⟨S1x128x4096, .f32⟩
  | 96 => ⟨S128x4096, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S1x4096x768, .f32⟩
  | 119 => ⟨S4096x768, .f32⟩
  | 120 => ⟨S128x768, .f32⟩
  | 121 => ⟨S128x768, .f32⟩
  | 122 => ⟨S128x768, .f32⟩
  | 123 => ⟨S_, .f32⟩
  | 124 => ⟨S128x768, .f32⟩
  | 125 => ⟨S128x768, .f32⟩
  | 126 => ⟨S_, .f32⟩
  | 127 => ⟨S128x768, .f32⟩
  | _ => ⟨S1x128, .f32⟩

abbrev hbmTy0_1 (i : Nat) : BufTy := match i % 128 with
  | 0 => ⟨S128x768, .f32⟩
  | 1 => ⟨S128x768, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S1x4096x768, .f32⟩
  | 24 => ⟨S4096x768, .f32⟩
  | 25 => ⟨S128x768, .f32⟩
  | 26 => ⟨S128x768, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S1x768x4096, .f32⟩
  | 49 => ⟨S768x4096, .f32⟩
  | 50 => ⟨S128x4096, .f32⟩
  | 51 => ⟨S1x128x4096, .f32⟩
  | 52 => ⟨S_, .i32⟩
  | 53 => ⟨S_, .i32⟩
  | 54 => ⟨S160x128x4096, .f32⟩
  | 55 => ⟨S_, .i32⟩
  | 56 => ⟨S_, .i32⟩
  | 57 => ⟨S20480x4096, .f32⟩
  | _ => ⟨S1x128, .f32⟩

abbrev hbmTy (i : Nat) : BufTy := match i / 128 with
  | 0 => hbmTy0_0 i
  | 1 => hbmTy0_1 i
  | _ => ⟨S1x128, .f32⟩

abbrev bufTy : (tb : Table) → Fin (tcTables nBuf tb) → BufTy
  | .hbm, ⟨i, _⟩ => hbmTy i
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v16 : Ref sig .tc := ⟨.hbm, 45, rfl⟩
abbrev main_c_6 : Ref sig .tc := ⟨.hbm, 46, rfl⟩
abbrev main_v17 : Ref sig .tc := ⟨.hbm, 47, rfl⟩
abbrev main_v18 : Ref sig .tc := ⟨.hbm, 48, rfl⟩
abbrev main_call1_call0_c : Ref sig .tc := ⟨.hbm, 49, rfl⟩
abbrev main_call1_call0_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_7 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_8 : Ref sig .tc := ⟨.hbm, 62, rfl⟩
abbrev main_v29 : Ref sig .tc := ⟨.hbm, 63, rfl⟩
abbrev main_c_9 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v38 : Ref sig .tc := ⟨.hbm, 77, rfl⟩
abbrev main_v39 : Ref sig .tc := ⟨.hbm, 78, rfl⟩
abbrev main_cst_10 : Ref sig .tc := ⟨.hbm, 79, rfl⟩
abbrev main_v40 : Ref sig .tc := ⟨.hbm, 80, rfl⟩
abbrev main_c_11 : Ref sig .tc := ⟨.hbm, 81, rfl⟩
abbrev main_v41_0 : Ref sig .tc := ⟨.hbm, 82, rfl⟩
abbrev main_v41_1 : Ref sig .tc := ⟨.hbm, 83, rfl⟩
abbrev main_v41_2 : Ref sig .tc := ⟨.hbm, 84, rfl⟩
abbrev main_v41_3 : Ref sig .tc := ⟨.hbm, 85, rfl⟩
abbrev main_v41_4 : Ref sig .tc := ⟨.hbm, 86, rfl⟩
abbrev main_v41_5 : Ref sig .tc := ⟨.hbm, 87, rfl⟩
abbrev main_v41_6 : Ref sig .tc := ⟨.hbm, 88, rfl⟩
abbrev main_while0c_c_18 : Ref sig .tc := ⟨.hbm, 89, rfl⟩
abbrev main_while0c_v43 : Ref sig .tc := ⟨.hbm, 90, rfl⟩
abbrev main_while0b_call3_v0 : Ref sig .tc := ⟨.hbm, 91, rfl⟩
abbrev main_while0b_v43 : Ref sig .tc := ⟨.hbm, 92, rfl⟩
abbrev main_while0b_call4_c : Ref sig .tc := ⟨.hbm, 93, rfl⟩
abbrev main_while0b_call4_c_0 : Ref sig .tc := ⟨.hbm, 94, rfl⟩
abbrev main_while0b_call4_v0 : Ref sig .tc := ⟨.hbm, 95, rfl⟩
abbrev main_while0b_v44 : Ref sig .tc := ⟨.hbm, 96, rfl⟩
abbrev main_while0b_c_18 : Ref sig .tc := ⟨.hbm, 97, rfl⟩
abbrev main_while0b_v45 : Ref sig .tc := ⟨.hbm, 98, rfl⟩
abbrev main_while0b_c_19 : Ref sig .tc := ⟨.hbm, 99, rfl⟩
abbrev main_while0b_v46 : Ref sig .tc := ⟨.hbm, 100, rfl⟩
abbrev main_while0b_v47 : Ref sig .tc := ⟨.hbm, 101, rfl⟩
abbrev main_while0b_c_20 : Ref sig .tc := ⟨.hbm, 102, rfl⟩
abbrev main_while0b_c_21 : Ref sig .tc := ⟨.hbm, 103, rfl⟩
abbrev main_while0b_v48 : Ref sig .tc := ⟨.hbm, 104, rfl⟩
abbrev main_while0b_c_22 : Ref sig .tc := ⟨.hbm, 105, rfl⟩
abbrev main_while0b_c_23 : Ref sig .tc := ⟨.hbm, 106, rfl⟩
abbrev main_while0b_v49 : Ref sig .tc := ⟨.hbm, 107, rfl⟩
abbrev main_while0b_c_24 : Ref sig .tc := ⟨.hbm, 108, rfl⟩
abbrev main_while0b_v50 : Ref sig .tc := ⟨.hbm, 109, rfl⟩
abbrev main_while0b_c_25 : Ref sig .tc := ⟨.hbm, 110, rfl⟩
abbrev main_while0b_c_26 : Ref sig .tc := ⟨.hbm, 111, rfl⟩
abbrev main_while0b_v51 : Ref sig .tc := ⟨.hbm, 112, rfl⟩
abbrev main_while0b_c_27 : Ref sig .tc := ⟨.hbm, 113, rfl⟩
abbrev main_while0b_c_28 : Ref sig .tc := ⟨.hbm, 114, rfl⟩
abbrev main_while0b_v52 : Ref sig .tc := ⟨.hbm, 115, rfl⟩
abbrev main_while0b_c_29 : Ref sig .tc := ⟨.hbm, 116, rfl⟩
abbrev main_while0b_v53 : Ref sig .tc := ⟨.hbm, 117, rfl⟩
abbrev main_while0b_v54 : Ref sig .tc := ⟨.hbm, 118, rfl⟩
abbrev main_while0b_v55 : Ref sig .tc := ⟨.hbm, 119, rfl⟩
abbrev main_while0b_v56 : Ref sig .tc := ⟨.hbm, 120, rfl⟩
abbrev main_while0b_call5_v0 : Ref sig .tc := ⟨.hbm, 121, rfl⟩
abbrev main_while0b_call5_v1 : Ref sig .tc := ⟨.hbm, 122, rfl⟩
abbrev main_while0b_call5_cst : Ref sig .tc := ⟨.hbm, 123, rfl⟩
abbrev main_while0b_call5_v2 : Ref sig .tc := ⟨.hbm, 124, rfl⟩
abbrev main_while0b_call5_v3 : Ref sig .tc := ⟨.hbm, 125, rfl⟩
abbrev main_while0b_call5_cst_0 : Ref sig .tc := ⟨.hbm, 126, rfl⟩
abbrev main_while0b_call5_v4 : Ref sig .tc := ⟨.hbm, 127, rfl⟩
abbrev main_while0b_call5_v5 : Ref sig .tc := ⟨.hbm, 128, rfl⟩
abbrev main_while0b_v57 : Ref sig .tc := ⟨.hbm, 129, rfl⟩
abbrev main_while0b_c_30 : Ref sig .tc := ⟨.hbm, 130, rfl⟩
abbrev main_while0b_v58 : Ref sig .tc := ⟨.hbm, 131, rfl⟩
abbrev main_while0b_c_31 : Ref sig .tc := ⟨.hbm, 132, rfl⟩
abbrev main_while0b_v59 : Ref sig .tc := ⟨.hbm, 133, rfl⟩
abbrev main_while0b_v60 : Ref sig .tc := ⟨.hbm, 134, rfl⟩
abbrev main_while0b_c_32 : Ref sig .tc := ⟨.hbm, 135, rfl⟩
abbrev main_while0b_c_33 : Ref sig .tc := ⟨.hbm, 136, rfl⟩
abbrev main_while0b_v61 : Ref sig .tc := ⟨.hbm, 137, rfl⟩
abbrev main_while0b_c_34 : Ref sig .tc := ⟨.hbm, 138, rfl⟩
abbrev main_while0b_c_35 : Ref sig .tc := ⟨.hbm, 139, rfl⟩
abbrev main_while0b_v62 : Ref sig .tc := ⟨.hbm, 140, rfl⟩
abbrev main_while0b_c_36 : Ref sig .tc := ⟨.hbm, 141, rfl⟩
abbrev main_while0b_v63 : Ref sig .tc := ⟨.hbm, 142, rfl⟩
abbrev main_while0b_c_37 : Ref sig .tc := ⟨.hbm, 143, rfl⟩
abbrev main_while0b_c_38 : Ref sig .tc := ⟨.hbm, 144, rfl⟩
abbrev main_while0b_v64 : Ref sig .tc := ⟨.hbm, 145, rfl⟩
abbrev main_while0b_c_39 : Ref sig .tc := ⟨.hbm, 146, rfl⟩
abbrev main_while0b_c_40 : Ref sig .tc := ⟨.hbm, 147, rfl⟩
abbrev main_while0b_v65 : Ref sig .tc := ⟨.hbm, 148, rfl⟩
abbrev main_while0b_c_41 : Ref sig .tc := ⟨.hbm, 149, rfl⟩
abbrev main_while0b_v66 : Ref sig .tc := ⟨.hbm, 150, rfl⟩
abbrev main_while0b_v67 : Ref sig .tc := ⟨.hbm, 151, rfl⟩
abbrev main_while0b_v68 : Ref sig .tc := ⟨.hbm, 152, rfl⟩
abbrev main_while0b_v69 : Ref sig .tc := ⟨.hbm, 153, rfl⟩
abbrev main_while0b_v70 : Ref sig .tc := ⟨.hbm, 154, rfl⟩
abbrev main_while0b_c_42 : Ref sig .tc := ⟨.hbm, 155, rfl⟩
abbrev main_while0b_v71 : Ref sig .tc := ⟨.hbm, 156, rfl⟩
abbrev main_while0b_c_43 : Ref sig .tc := ⟨.hbm, 157, rfl⟩
abbrev main_while0b_v72 : Ref sig .tc := ⟨.hbm, 158, rfl⟩
abbrev main_while0b_v73 : Ref sig .tc := ⟨.hbm, 159, rfl⟩
abbrev main_while0b_c_44 : Ref sig .tc := ⟨.hbm, 160, rfl⟩
abbrev main_while0b_c_45 : Ref sig .tc := ⟨.hbm, 161, rfl⟩
abbrev main_while0b_v74 : Ref sig .tc := ⟨.hbm, 162, rfl⟩
abbrev main_while0b_c_46 : Ref sig .tc := ⟨.hbm, 163, rfl⟩
abbrev main_while0b_c_47 : Ref sig .tc := ⟨.hbm, 164, rfl⟩
abbrev main_while0b_v75 : Ref sig .tc := ⟨.hbm, 165, rfl⟩
abbrev main_while0b_c_48 : Ref sig .tc := ⟨.hbm, 166, rfl⟩
abbrev main_while0b_v76 : Ref sig .tc := ⟨.hbm, 167, rfl⟩
abbrev main_while0b_c_49 : Ref sig .tc := ⟨.hbm, 168, rfl⟩
abbrev main_while0b_c_50 : Ref sig .tc := ⟨.hbm, 169, rfl⟩
abbrev main_while0b_v77 : Ref sig .tc := ⟨.hbm, 170, rfl⟩
abbrev main_while0b_c_51 : Ref sig .tc := ⟨.hbm, 171, rfl⟩
abbrev main_while0b_c_52 : Ref sig .tc := ⟨.hbm, 172, rfl⟩
abbrev main_while0b_v78 : Ref sig .tc := ⟨.hbm, 173, rfl⟩
abbrev main_while0b_c_53 : Ref sig .tc := ⟨.hbm, 174, rfl⟩
abbrev main_while0b_v79 : Ref sig .tc := ⟨.hbm, 175, rfl⟩
abbrev main_while0b_v80 : Ref sig .tc := ⟨.hbm, 176, rfl⟩
abbrev main_while0b_v81 : Ref sig .tc := ⟨.hbm, 177, rfl⟩
abbrev main_while0b_v82 : Ref sig .tc := ⟨.hbm, 178, rfl⟩
abbrev main_while0b_call6_v0 : Ref sig .tc := ⟨.hbm, 179, rfl⟩
abbrev main_while0b_call6_c : Ref sig .tc := ⟨.hbm, 180, rfl⟩
abbrev main_while0b_call6_c_0 : Ref sig .tc := ⟨.hbm, 181, rfl⟩
abbrev main_while0b_v83 : Ref sig .tc := ⟨.hbm, 182, rfl⟩
abbrev main_while0b_c_54 : Ref sig .tc := ⟨.hbm, 183, rfl⟩
abbrev main_while0b_v84 : Ref sig .tc := ⟨.hbm, 184, rfl⟩
abbrev main_v42 : Ref sig .tc := ⟨.hbm, 185, rfl⟩

abbrev nD : Nat := 1
abbrev τ : Topo := Topo.v7x

variable {F : FTy → Type} [FloatOps F]

abbrev main_while0_count : Scf.Loop 32 := ⟨0#32, 160#32, 1#32⟩
-- ==== Kernel6.lean ====
abbrev S8192x12800 : Shape := ⟨2, ![8192, 12800]⟩
abbrev S512 : Shape := ⟨1, ![512]⟩
abbrev S512x4096 : Shape := ⟨2, ![512, 4096]⟩
abbrev S1x512 : Shape := ⟨2, ![1, 512]⟩
abbrev S8192x4096 : Shape := ⟨2, ![8192, 4096]⟩
abbrev S1024x512 : Shape := ⟨2, ![1024, 512]⟩
abbrev S512x512 : Shape := ⟨2, ![512, 512]⟩
abbrev S1024 : Shape := ⟨1, ![1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x12800, .bf16⟩
  | .hbm, ⟨1, _⟩ => ⟨S512, .f32⟩
  | .hbm, ⟨2, _⟩ => ⟨S512x4096, .f32⟩
  | .hbm, ⟨3, _⟩ => ⟨S512x4096, .bf16⟩
  | .hbm, ⟨4, _⟩ => ⟨S1x512, .f32⟩
  | .hbm, ⟨5, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1024x512, .bf16⟩
  | .local _ .vmem, ⟨6, _⟩ => ⟨S1024x512, .bf16⟩
  | _, _ => ⟨S8192x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x12800 : Shape := ⟨2, ![8192, 12800]⟩
abbrev S512 : Shape := ⟨1, ![512]⟩
abbrev S512x4096 : Shape := ⟨2, ![512, 4096]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x4096 : Shape := ⟨2, ![8192, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x12800, .bf16⟩
  | .hbm, ⟨1, _⟩ => ⟨S512, .f32⟩
  | .hbm, ⟨2, _⟩ => ⟨S512x4096, .f32⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x4096, .f32⟩
  | .hbm, ⟨22, _⟩ => ⟨S8192x4096, .bf16⟩
  | _, _ => ⟨S8192x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel7.lean ====
abbrev S1024x4096 : Shape := ⟨2, ![1024, 4096]⟩
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .f32⟩
  | .hbm, ⟨2, _⟩ => ⟨S1024x4096, .f32⟩
  | .hbm, ⟨3, _⟩ => ⟨S1024x1024, .f32⟩
  | .hbm, ⟨4, _⟩ => ⟨S1024x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x12800 : Shape := ⟨2, ![8192, 12800]⟩
abbrev S1024 : Shape := ⟨1, ![1024]⟩
abbrev S1024x3072 : Shape := ⟨2, ![1024, 3072]⟩
abbrev S8192x32 : Shape := ⟨2, ![8192, 32]⟩
abbrev S1024x16x192 : Shape := ⟨3, ![1024, 16, 192]⟩
abbrev S_ : Shape := ⟨0, ![]⟩
abbrev S1024x16x256 : Shape := ⟨3, ![1024, 16, 256]⟩
abbrev S1024x4096 : Shape := ⟨2, ![1024, 4096]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1x1024 : Shape := ⟨2, ![1, 1024]⟩
abbrev S8192x4096 : Shape := ⟨2, ![8192, 4096]⟩
abbrev S1024x1024 : Shape := ⟨2, ![1024, 1024]⟩
abbrev S1024x512 : Shape := ⟨2, ![1024, 512]⟩
abbrev S1024x128 : Shape := ⟨2, ![1024, 128]⟩
abbrev S1024x1 : Shape := ⟨2, ![1024, 1]⟩

abbrev nBuf : Space → Nat
  | .hbm => 19
  | .vmem => 11
  | .smem => 0
  | _ => 0

abbrev bufTy : (tb : Table) → Fin (tcTables nBuf tb) → BufTy
  | .hbm, ⟨0, _⟩ => ⟨S8192x12800, .bf16⟩
  | .hbm, ⟨1, _⟩ => ⟨S1024, .f32⟩
  | .hbm, ⟨2, _⟩ => ⟨S1024x3072, .f32⟩
  | .hbm, ⟨3, _⟩ => ⟨S8192x32, .f32⟩
  | .hbm, ⟨4, _⟩ => ⟨S8192x32, .f32⟩
  | .hbm, ⟨5, _⟩ => ⟨S1024x16x192, .f32⟩
  | .hbm, ⟨6, _⟩ => ⟨S_, .i32⟩
  | .hbm, ⟨7, _⟩ => ⟨S_, .f32⟩
  | .hbm, ⟨8, _⟩ => ⟨S1024x16x256, .f32⟩
  | .hbm, ⟨9, _⟩ => ⟨S1024x4096, .f32⟩
  | .hbm, ⟨10, _⟩ => ⟨S1x8192x1x32, .f32⟩
  | .hbm, ⟨11, _⟩ => ⟨S1x8192x4x32, .f32⟩
  | .hbm, ⟨12, _⟩ => ⟨S8192x128, .f32⟩
  | .hbm, ⟨13, _⟩ => ⟨S1x8192x1x32, .f32⟩
  | .hbm, ⟨14, _⟩ => ⟨S1x8192x4x32, .f32⟩
  | .hbm, ⟨15, _⟩ => ⟨S8192x128, .f32⟩
  | .hbm, ⟨16, _⟩ => ⟨S1024x4096, .bf16⟩
  | .hbm, ⟨17, _⟩ => ⟨S1x1024, .f32⟩
  | .hbm, ⟨18, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .bf16⟩
  | .local _ .vmem, ⟨10, _⟩ => ⟨S1024x512, .bf16⟩
  | _, _ => ⟨S8192x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8192x12800 : Shape := ⟨2, ![8192, 12800]⟩
abbrev S1024 : Shape := ⟨1, ![1024]⟩
abbrev S1024x3072 : Shape := ⟨2, ![1024, 3072]⟩
abbrev S8192x32 : Shape := ⟨2, ![8192, 32]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S8192x16x192 : Shape := ⟨3, ![8192, 16, 192]⟩
abbrev S8192x16x64 : Shape := ⟨3, ![8192, 16, 64]⟩
abbrev S8192x16x32 : Shape := ⟨3, ![8192, 16, 32]⟩
abbrev S8192x1x32 : Shape := ⟨3, ![8192, 1, 32]⟩
abbrev S8192x16x128 : Shape := ⟨3, ![8192, 16, 128]⟩
abbrev S8192x16x256 : Shape := ⟨3, ![8192, 16, 256]⟩
abbrev S8192x4096 : Shape := ⟨2, ![8192, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8192x12800, .bf16⟩
  | .hbm, ⟨1, _⟩ => ⟨S1024, .f32⟩
  | .hbm, ⟨2, _⟩ => ⟨S1024x3072, .f32⟩
  | .hbm, ⟨3, _⟩ => ⟨S8192x32, .f32⟩
  | .hbm, ⟨4, _⟩ => ⟨S8192x32, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x3072, .f32⟩
  | .hbm, ⟨24, _⟩ => ⟨S8192x16x192, .f32⟩
  | .hbm, ⟨25, _⟩ => ⟨S8192x16x64, .f32⟩
  | .hbm, ⟨26, _⟩ => ⟨S8192x16x32, .f32⟩
  | .hbm, ⟨27, _⟩ => ⟨S8192x16x32, .f32⟩
  | .hbm, ⟨28, _⟩ => ⟨S8192x1x32, .f32⟩
  | .hbm, ⟨29, _⟩ => ⟨S8192x1x32, .f32⟩
  | .hbm, ⟨30, _⟩ => ⟨S8192x16x128, .f32⟩
  | .hbm, ⟨31, _⟩ => ⟨S8192x16x32, .f32⟩
  | .hbm, ⟨32, _⟩ => ⟨S8192x16x32, .f32⟩
  | .hbm, ⟨33, _⟩ => ⟨S8192x16x32, .f32⟩
  | .hbm, ⟨34, _⟩ => ⟨S8192x16x32, .f32⟩
  | .hbm, ⟨35, _⟩ => ⟨S8192x16x32, .f32⟩
  | .hbm, ⟨36, _⟩ => ⟨S8192x16x32, .f32⟩
  | .hbm, ⟨37, _⟩ => ⟨S8192x16x32, .f32⟩
  | .hbm, ⟨38, _⟩ => ⟨S8192x16x32, .f32⟩
  | .hbm, ⟨39, _⟩ => ⟨S8192x16x32, .f32⟩
  | .hbm, ⟨40, _⟩ => ⟨S8192x16x32, .f32⟩
  | .hbm, ⟨41, _⟩ => ⟨S8192x16x192, .f32⟩
  | .hbm, ⟨42, _⟩ => ⟨S_, .f32⟩
  | .hbm, ⟨43, _⟩ => ⟨S8192x16x192, .f32⟩
  | .hbm, ⟨44, _⟩ => ⟨S8192x16x192, .f32⟩
  | .hbm, ⟨45, _⟩ => ⟨S_, .i32⟩
  | .hbm, ⟨46, _⟩ => ⟨S_, .f32⟩
  | .hbm, ⟨47, _⟩ => ⟨S8192x16x256, .f32⟩
  | .hbm, ⟨48, _⟩ => ⟨S8192x4096, .f32⟩
  | .hbm, ⟨49, _⟩ => ⟨S8192x4096, .bf16⟩
  | _, _ => ⟨S8192x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_call0_v0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Index.lean ====
/- Index facts of the expert dispatch: the offsets the kernel computes in words, in closed form, the rows of the
   two arrays they name, and the contents the rows leave in the result. -/
module

public import proofs.«01_k».proof.Proof.Gen.KernelIdeal.Skeleton
public import proofs.«01_k».proof.Proof.Gen.KernelIdeal.Launch
public import Idealize.ShloMosaic.Lib.Pipeline.Frame
public import Idealize.ShloMosaic.Lib.Batch
public import Idealize.ShloMosaic.Lib.Ring
public import Idealize.ShloMosaic.Lib.WordArith.Masks

@[expose] public section

noncomputable section

namespace Cert.Proof.Dispatch

open Cert.KernelIdeal Cert.KernelIdeal.Gen
open Idealize.ShloMosaic
open Idealize.ShloMosaic.TcCoe

/-! ## Words and positions -/

theorem trips1 : k0_t1_loop.trips = 256 := by decide
theorem trips2 : k0_t2_loop.trips = 256 := by decide

/-- A position of the table, from its number. -/
def at1 (j : Fin 16384) : S16384.Idx := fun a => match a with | ⟨0, _⟩ => j
/-- A position of the token rows. -/
def atX (r : Fin 8192) (d : Fin 4096) : S8192x4096.Idx := fun a => match a with | ⟨0, _⟩ => r | ⟨1, _⟩ => d

theorem iv_nat (k : ℕ) (hk : k < 256) : (Scf.iv 0#32 1#32 k).toNat = k := WordArith.toNat_iv_zero_one k (by omega)

/-- The token the kernel copies at a trip, as the number it is. -/
theorem base_nat (n k : ℕ) (hn : n < 32) (hk : k < 256) :
    (BitVec.ofNat 32 n * 256#32 + Scf.iv 0#32 1#32 k).toNat = 256 * n + k := by
  have := iv_nat k hk
  simp only [BitVec.toNat_add, BitVec.toNat_mul, BitVec.toNat_ofNat, this]
  omega

theorem off1_eq (i : grid0.Coords) (k : Fin k0_t1_loop.trips) : k0_off1 i k = ![512 * (i 0).val + 2 * k.val] := by
  have hi : (i 0).val < 32 := (i 0).isLt
  have hk : k.val < 256 := trips1 ▸ k.isLt
  have hb := base_nat _ _ hi hk
  show ![(2#32 * (BitVec.ofNat 32 (i 0).val * 256#32 + Scf.iv 0#32 1#32 k) + 0#32).toNat] = _
  rw [BitVec.toNat_add, BitVec.toNat_mul, hb]
  simp only [BitVec.toNat_ofNat]
  congr 1; omega
theorem off4_eq (i : grid0.Coords) (k : Fin k0_t1_loop.trips) : k0_off4 i k = ![512 * (i 0).val + (2 * k.val + 1)] := by
  have hi : (i 0).val < 32 := (i 0).isLt
  have hk : k.val < 256 := trips1 ▸ k.isLt
  have hb := base_nat _ _ hi hk
  show ![(2#32 * (BitVec.ofNat 32 (i 0).val * 256#32 + Scf.iv 0#32 1#32 k) + 1#32).toNat] = _
  rw [BitVec.toNat_add, BitVec.toNat_mul, hb]
  simp only [BitVec.toNat_ofNat]
  congr 1; omega
theorem off3_eq (i : grid0.Coords) (k : Fin k0_t1_loop.trips) : k0_off3 i k = ![256 * (i 0).val + k.val, 0] := by
  have hi : (i 0).val < 32 := (i 0).isLt
  have hk : k.val < 256 := trips1 ▸ k.isLt
  have hb := base_nat _ _ hi hk
  show ![(BitVec.ofNat 32 (i 0).val * 256#32 + Scf.iv 0#32 1#32 k).toNat, 0] = _
  rw [hb]
theorem off6_eq (i : grid0.Coords) (k : Fin k0_t1_loop.trips) : k0_off6 i k = ![256 * (i 0).val + k.val, 0] := off3_eq i k

/-! ## Rows -/

/-- Row `r` of the result, and of the token rows. -/
def dRow (r : ℕ) : Finset S20480x4096.Idx := Finset.univ.filter fun y => (y 0).val = r
def sRow (r : ℕ) : Finset S8192x4096.Idx := Finset.univ.filter fun y => (y 0).val = r

theorem mem_dRow {r : ℕ} {y : S20480x4096.Idx} : y ∈ dRow r ↔ (y 0).val = r := by simp [dRow]
theorem mem_sRow {r : ℕ} {y : S8192x4096.Idx} : y ∈ sRow r ↔ (y 0).val = r := by simp [sRow]

theorem dRow_disjoint {r r' : ℕ} (h : r ≠ r') : Disjoint (dRow r) (dRow r') := by
  rw [Finset.disjoint_left]; intro y h1 h2; rw [mem_dRow] at h1 h2; exact h (h1.symm.trans h2)

theorem set_d (o : Fin 2 → ℕ) (ho : ∀ a, o a + S1x4096.size a ≤ S20480x4096.size a) (r : ℕ) (h : o = ![r, 0]) :
    (Rect.unit (s := S20480x4096) o S1x4096.size ho).set = dRow r := by
  subst h; ext y
  rw [Rect.mem_set_unit, mem_dRow]
  have h1 : (y 1).val < 4096 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 4096; omega
theorem set_s (o : Fin 2 → ℕ) (ho : ∀ a, o a + S1x4096.size a ≤ S8192x4096.size a) (r : ℕ) (h : o = ![r, 0]) :
    (Rect.unit (s := S8192x4096) o S1x4096.size ho).set = sRow r := by
  subst h; ext y
  rw [Rect.mem_set_unit, mem_sRow]
  have h1 : (y 1).val < 4096 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 4096; omega

/-- Row `r` of the result as a slice of it, and of the token rows. -/
abbrev dM (o : Fin 2 → ℕ) (ho : ∀ a, o a + S1x4096.size a ≤ S20480x4096.size a) : Memref sig .tc .hbm S1x4096 .f32 :=
  (Memref.whole main_v25).slice (Rect.unit (s := S20480x4096) o S1x4096.size ho) (fun _ => rfl)
abbrev sM (o : Fin 2 → ℕ) (ho : ∀ a, o a + S1x4096.size a ≤ S8192x4096.size a) : Memref sig .tc .hbm S1x4096 .f32 :=
  (Memref.whole main_arg2).slice (Rect.unit (s := S8192x4096) o S1x4096.size ho) (fun _ => rfl)

theorem dM_set (o ho) (r : ℕ) (h : o = ![r, 0]) : (dM o ho).view.set = dRow r := (View.set_slice_whole _ _).trans (set_d o ho r h)
theorem sM_set (o ho) (r : ℕ) (h : o = ![r, 0]) : (sM o ho).view.set = sRow r := (View.set_slice_whole _ _).trans (set_s o ho r h)

/-! ## The contents -/

variable {F : FTy → Type} [FloatOps F]

/-- The result's contents once the first `n` assignments are copied: row `tbl j` at token `j / 2`'s row for each
    `j < n`, every other row as before. -/
def W (tbl : S16384.Idx → BitVec 32) (X : S8192x4096.Idx → Elt F .f32) (Z : S20480x4096.Idx → Elt F .f32) (n : ℕ) :
    S20480x4096.Idx → Elt F .f32 := fun y =>
  open Classical in
  if h : ∃ j : Fin 16384, j.val < n ∧ (tbl (at1 j)).toNat = (y 0).val then
    X (atX ⟨h.choose.val / 2, by have := h.choose.isLt; omega⟩ (y 1)) else Z y

/-- The table holds slots of the result, no slot twice. -/
def Slots (tbl : S16384.Idx → BitVec 32) : Prop :=
  (∀ j, (tbl (at1 j)).toNat < 20480) ∧ ∀ j j', (tbl (at1 j)).toNat = (tbl (at1 j')).toNat → j = j'

variable {tbl : S16384.Idx → BitVec 32} {X : S8192x4096.Idx → Elt F .f32} {Z : S20480x4096.Idx → Elt F .f32}

theorem W_hit (hs : Slots tbl) {n : ℕ} (j : Fin 16384) (hj : j.val < n) (y : S20480x4096.Idx) (hy : (y 0).val = (tbl (at1 j)).toNat) :
    W tbl X Z n y = X (atX ⟨j.val / 2, by have := j.isLt; omega⟩ (y 1)) := by
  unfold W
  have h : ∃ j : Fin 16384, j.val < n ∧ (tbl (at1 j)).toNat = (y 0).val := ⟨j, hj, hy.symm⟩
  rw [dif_pos h]
  have e : h.choose = j := hs.2 _ _ (h.choose_spec.2.trans hy)
  simp only [e]
theorem W_miss {n : ℕ} (y : S20480x4096.Idx) (hy : ∀ j : Fin 16384, j.val < n → (tbl (at1 j)).toNat ≠ (y 0).val) : W tbl X Z n y = Z y := by
  unfold W
  rw [dif_neg]; rintro ⟨j, h1, h2⟩; exact hy j h1 h2
theorem W_zero : W tbl X Z 0 = Z := funext fun y => W_miss y fun _ h => absurd h (Nat.not_lt_zero _)

/-- What a copy of row `s` onto row `r` leaves there. -/
theorem write_row (o ho) (o' ho') (r s : ℕ) (hs : s < 8192) (h : o = ![r, 0]) (h' : o' = ![s, 0])
    (fd : S20480x4096.Idx → Elt F .f32) (fs : S8192x4096.Idx → Elt F .f32) (y : S20480x4096.Idx) (hy : y ∈ dRow r) :
    (dM o ho).view.write (Elt F) fd (ReadAs.same.apply ((sM o' ho').view.read (Elt F) fs)) Finset.univ y = fs (atX ⟨s, hs⟩ (y 1)) := by
  have hy' : y ∈ (dM o ho).view.set := by rw [dM_set o ho r h]; exact hy
  obtain ⟨x, -, rfl⟩ := Finset.mem_map.mp hy'
  rw [View.write_emb_of_mem _ _ (Finset.mem_univ x)]
  subst h h'
  show fs _ = fs _
  congr 1
  funext a
  have e0 : (x 0).val = 0 := by have : (x 0).val < 1 := (x 0).isLt; omega
  match a with
  | ⟨0, _⟩ => refine Fin.ext ?_; show s + 1 * (x 0).val = s; omega
  | ⟨1, _⟩ => refine Fin.ext ?_; show 0 + 1 * (x 1).val = 0 + 1 * (x 1).val; rfl

end Cert.Proof.Dispatch
end
-- ==== Proof.Body.lean ====
/- One grid point of the expert dispatch: 512 row copies issued on one semaphore by the first loop, awaited by the
   second. The point leaves the result at `W` of the assignments up to its own. -/
module

public import proofs.«01_k».proof.Proof.Index

@[expose] public section

noncomputable section

namespace Cert.Proof.Dispatch

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ
/-- Where the kernel's transfers keep their counts. -/
abbrev EC : UEmb Counters (MT nD τ sig Unit (Elt F) ℕ (Pipeline.UD sig nD τ) ℕ) := countersEmb
abbrev 𝒱₀ : Variants := Variants.none

omit [FloatOps F] in
theorem of_eq {P Q : sProp 𝕄} (e : P = Q) : P ⊢ Q := e ▸ .rfl

/-- The units one row's copy adds to the semaphore and one wait takes off it. -/
def NN : ℕ := (dM ![0, 0] inb_S20480x4096_S1x4096_0_0).view.dmaCredit
theorem NN_pos : 0 < NN := View.dmaCredit_pos _ (by decide)

/-- The copies' semaphore. -/
abbrev cell : SemLoc sig := .dma cc0_scratch0.sem

variable (tbl : S16384.Idx → BitVec 32) (X : S8192x4096.Idx → Elt F .f32) (Z : S20480x4096.Idx → Elt F .f32)

/-! ## A point's resources -/

/-- Assignment `j` of point `p`. -/
def asg (p : Fin 32) (j : Fin 512) : Fin 16384 := ⟨512 * p.val + j.val, by have := p.isLt; have := j.isLt; omega⟩
/-- Its slot in the result, and its token. -/
def slot (p : Fin 32) (j : Fin 512) : ℕ := (tbl (at1 (asg p j))).toNat
def tok (p : Fin 32) (j : Fin 512) : ℕ := 256 * p.val + j.val / 2

theorem slot_inj (hs : Slots tbl) (p : Fin 32) {j j' : Fin 512} (h : slot tbl p j = slot tbl p j') : j = j' := by
  have := congrArg Fin.val (hs.2 _ _ h); simp only [asg] at this; exact Fin.ext (by omega)

/-- What copy `j` of point `p` holds: its row of the result at the contents after `n` assignments, and a share of its
    token's row. -/
def held (c : Dev nD) (p : Fin 32) (n : ℕ) (j : Fin 512) : sProp 𝕄 :=
  iprop((((c : Thread nD τ).loc main_v25) ↦[dRow (slot tbl p j)]{fullShare} W tbl X Z n)
    ∗ ((c : Thread nD τ).loc main_arg2) ↦[sRow (tok p j)]{Transfers.shareTok fullShare 512 j} X)

instance held_storable (c : Dev nD) (p : Fin 32) (n : ℕ) (j : Fin 512) : BI.Storable (upEmb : UEmb _ 𝕄) (held tbl X Z c p n j) := by
  unfold held; infer_instance

/-- The point's rows of the result. -/
def rows (p : Fin 32) : Finset S20480x4096.Idx := Finset.univ.biUnion fun j => dRow (slot tbl p j)

/-- What no copy of the point touches: the result's other rows, and the rest of the shares of the token rows. -/
def aside (c : Dev nD) (p : Fin 32) (n : ℕ) : sProp 𝕄 :=
  iprop((((c : Thread nD τ).loc main_v25) ↦[Finset.univ \ rows tbl p]{fullShare} W tbl X Z n)
    ∗ (((c : Thread nD τ).loc main_arg2) ↦{Transfers.shareDrop fullShare 512} X)
    ∗ bigSep Finset.univ fun j : Fin 512 => ((c : Thread nD τ).loc main_arg2) ↦[Finset.univ \ sRow (tok p j)]{Transfers.shareTok fullShare 512 j} X)

variable {tbl}

theorem split (hs : Slots tbl) (c : Dev nD) (p : Fin 32) (n : ℕ) :
    (iprop((((c : Thread nD τ).loc main_v25) ↦{fullShare} W tbl X Z n) ∗ ((c : Thread nD τ).loc main_arg2) ↦{fullShare} X) : sProp 𝕄)
      ⊣⊢ iprop(bigSep Finset.univ (held tbl X Z c p n) ∗ aside tbl X Z c p n) := by
  have e1 : (((c : Thread nD τ).loc main_v25) ↦[rows tbl p]{fullShare} W tbl X Z n : sProp 𝕄)
      = bigSep Finset.univ fun j => ((c : Thread nD τ).loc main_v25) ↦[dRow (slot tbl p j)]{fullShare} W tbl X Z n :=
    pointsTo_biUnion _ _ fun j _ j' _ h => dRow_disjoint fun e => h (slot_inj tbl hs p e)
  have e2 := pointsTo_split_subset (Ix := Unit) (Name := ℕ) (U := Pipeline.UD sig nD τ) (Lvl := ℕ) (ℓ := (c : Thread nD τ).loc main_v25) (q := fullShare) (f := W tbl X Z n) (Finset.subset_univ (rows tbl p))
  have e3 := Transfers.pointsTo_toks (Ix := Unit) (Name := ℕ) (U := Pipeline.UD sig nD τ) (Lvl := ℕ) (ℓ := (c : Thread nD τ).loc main_arg2) (S := Finset.univ) (f := X) fullShare 512
  have e4 : ∀ j : Fin 512, (((c : Thread nD τ).loc main_arg2) ↦[Finset.univ]{Transfers.shareTok fullShare 512 j} X : sProp 𝕄)
      ⊣⊢ iprop((((c : Thread nD τ).loc main_arg2) ↦[sRow (tok p j)]{Transfers.shareTok fullShare 512 j} X)
        ∗ ((c : Thread nD τ).loc main_arg2) ↦[Finset.univ \ sRow (tok p j)]{Transfers.shareTok fullShare 512 j} X) :=
    fun j => pointsTo_split_subset (Finset.subset_univ _)
  have e5 : (bigSep Finset.univ (held tbl X Z c p n) : sProp 𝕄) = iprop((((c : Thread nD τ).loc main_v25) ↦[rows tbl p]{fullShare} W tbl X Z n)
      ∗ bigSep Finset.univ fun j => ((c : Thread nD τ).loc main_arg2) ↦[sRow (tok p j)]{Transfers.shareTok fullShare 512 j} X) := by
    rw [e1]; exact bigSep_sep' _ _ _
  have e6 := bigSep_sep' (Finset.univ : Finset (Fin 512)) (fun j => (((c : Thread nD τ).loc main_arg2) ↦[sRow (tok p j)]{Transfers.shareTok fullShare 512 j} X : sProp 𝕄))
    (fun j => ((c : Thread nD τ).loc main_arg2) ↦[Finset.univ \ sRow (tok p j)]{Transfers.shareTok fullShare 512 j} X)
  have e7 : (bigSep Finset.univ (fun j : Fin 512 => ((c : Thread nD τ).loc main_arg2) ↦[Finset.univ]{Transfers.shareTok fullShare 512 j} X) : sProp 𝕄)
      ⊢ bigSep Finset.univ fun j : Fin 512 => iprop((((c : Thread nD τ).loc main_arg2) ↦[sRow (tok p j)]{Transfers.shareTok fullShare 512 j} X)
        ∗ ((c : Thread nD τ).loc main_arg2) ↦[Finset.univ \ sRow (tok p j)]{Transfers.shareTok fullShare 512 j} X) :=
    BI.bigSep_mono fun j _ => (e4 j).1
  have e8 : (bigSep Finset.univ (fun j : Fin 512 => iprop((((c : Thread nD τ).loc main_arg2) ↦[sRow (tok p j)]{Transfers.shareTok fullShare 512 j} X)
        ∗ ((c : Thread nD τ).loc main_arg2) ↦[Finset.univ \ sRow (tok p j)]{Transfers.shareTok fullShare 512 j} X)) : sProp 𝕄)
      ⊢ bigSep Finset.univ fun j : Fin 512 => ((c : Thread nD τ).loc main_arg2) ↦[Finset.univ]{Transfers.shareTok fullShare 512 j} X :=
    BI.bigSep_mono fun j _ => (e4 j).2
  unfold aside
  rw [e5]
  constructor
  · iintro ⟨HZ, HX⟩
    ihave HZ' := e2.1 $$ HZ
    icases HZ' with ⟨HZ1, HZ2⟩
    ihave HX' := e3.1 $$ HX
    icases HX' with ⟨HX1, HX2⟩
    ihave HX3 := e7 $$ HX2
    ihave HX3' := (of_eq e6) $$ HX3
    icases HX3' with ⟨HX4, HX5⟩
    isplitl [HZ1 HX4]
    · isplitl [HZ1]; · iexact HZ1
      iexact HX4
    isplitl [HZ2]; · iexact HZ2
    isplitl [HX1]; · iexact HX1
    iexact HX5
  · iintro ⟨⟨HZ1, HX4⟩, HZ2, HX1, HX5⟩
    isplitl [HZ1 HZ2]
    · iapply e2.2
      isplitl [HZ1]; · iexact HZ1
      iexact HZ2
    iapply e3.2
    isplitl [HX1]; · iexact HX1
    iapply e8
    iapply (of_eq e6.symm)
    isplitl [HX4]; · iexact HX4
    iexact HX5

/-- The point's copies change only the point's rows. -/
theorem aside_eq (hs : Slots tbl) (c : Dev nD) (p : Fin 32) :
    (aside tbl X Z c p (512 * p.val) : sProp 𝕄) = aside tbl X Z c p (512 * (p.val + 1)) := by
  unfold aside
  refine congrArg (fun P : sProp 𝕄 => iprop(P ∗ _)) (pointsTo_congr ?_)
  intro y hy
  by_cases h : ∃ j : Fin 16384, j.val < 512 * p.val ∧ (tbl (at1 j)).toNat = (y 0).val
  · obtain ⟨j, h1, h2⟩ := h
    rw [W_hit hs j h1 y h2.symm, W_hit hs j (by omega) y h2.symm]
  · rw [W_miss y (fun j h1 h2 => h ⟨j, h1, h2⟩), W_miss y (fun j h1 h2 => ?_)]
    by_cases hj : j.val < 512 * p.val
    · exact h ⟨j, hj, h2⟩
    · have hp := p.isLt
      refine (Finset.mem_sdiff.mp hy).2 (Finset.mem_biUnion.mpr ⟨⟨j.val - 512 * p.val, by omega⟩, Finset.mem_univ _, ?_⟩)
      rw [mem_dRow]; unfold slot
      rw [show asg p ⟨j.val - 512 * p.val, by omega⟩ = j from Fin.ext (by simp only [asg]; omega)]; exact h2.symm

/-! ## The copies issued -/

variable (tbl)

/-- The batch of the point's copies: `j` issued, `u` units consumed; each delivers its row at the contents after the
    point, and its share of the token's row back. -/
abbrev batch (c : Dev nD) (p : Fin 32) (j u : ℕ) : sProp 𝕄 :=
  Transfers.Batch EC (c : Thread nD τ) cell () NN (held tbl X Z c p (512 * (p.val + 1))) j u

variable {tbl}

theorem issue_one (hs : Slots tbl) (c : Dev nD) (p : Fin 32) (j : Fin 512) (o ho o' ho')
    (h : o = ![slot tbl p j, 0]) (h' : o' = ![tok p j, 0])
    {k : PUnit → Prog (TpuEff nD τ sig (Elt F) Λ₀ .tc) PUnit} {Q : PUnit → sProp 𝕄} {hw hw' hsem} :
    iprop(held tbl X Z c p (512 * p.val) j ∗ batch tbl X Z c p j.val 0)
      ⊢ iprop((batch tbl X Z c p (j.val + 1) 0 -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDmaAs (sM o' ho') (.here (dM o ho)) .same cell hw hw' hsem) k) Q) := by
  have hr := j.isLt
  have hp := p.isLt
  have hslot : slot tbl p j < 20480 := hs.1 _
  have htok : tok p j < 8192 := by unfold tok; omega
  have hD : iprop((((dM o ho).view.loc (c : Thread nD τ)) ↦[dRow (slot tbl p j)]{fullShare}
        ((dM o ho).view.write (Elt F) (W tbl X Z (512 * p.val)) (ReadAs.same.apply ((sM o' ho').view.read (Elt F) X)) Finset.univ))
      ∗ ((sM o' ho').view.loc (c : Thread nD τ)) ↦[(sM o' ho').view.set]{Transfers.shareTok fullShare 512 j} X)
      ⊢ held tbl X Z c p (512 * (p.val + 1)) j := by
    unfold held
    rw [sM_set o' ho' _ h']
    refine of_eq (congrArg (fun P : sProp 𝕄 => iprop(P ∗ _)) (pointsTo_congr fun y hy => ?_))
    rw [write_row o ho o' ho' _ _ htok h h' _ _ y hy,
      W_hit hs (asg p j) (by simp only [asg]; omega) y (mem_dRow.mp hy)]
    congr 2
    refine Fin.ext ?_
    simp only [asg, tok]; omega
  iintro ⟨Hh, HB⟩ Hk
  iapply (Transfers.wp_dmaBatch EC 𝒱₀ (c : Thread nD τ) none () NN (src := sM o' ho') (dst := dM o ho) (via := .same) (Sd := dRow (slot tbl p j))
    (D := held tbl X Z c p (512 * (p.val + 1))) rfl (by rw [dM_set o ho _ h]) hr (Nat.zero_le _) hD) $$ [Hh HB]
  · unfold held
    icases Hh with ⟨H1, H2⟩
    isplitl [H2]; · rw [sM_set o' ho' _ h']; iexact H2
    isplitl [H1]; · iexact H1
    iexact HB
  iexact Hk

/-! ## The table's words -/

/-- Element `j` of the table, read as the kernel reads it. -/
theorem word_eq (o : Fin 1 → ℕ) (ho : ∀ a, o a + S1.size a ≤ S16384.size a) (j : Fin 16384) (h : o = ![j.val])
    (x : (Rect.unit (s := S16384) o S1.size ho).shape.Idx) :
    ((Memref.whole main_v24).access (Rect.unit (s := S16384) o S1.size ho)).read (Elt F) tbl x = tbl (at1 j) := by
  subst h
  show tbl _ = tbl _
  congr 1
  funext a
  have e0 : (x 0).val = 0 := by have : (x 0).val < 1 := (x 0).isLt; omega
  match a with
  | ⟨0, _⟩ => refine Fin.ext ?_; show j.val + 1 * (x 0).val = j.val; omega

theorem chk_ok (w : BitVec 32) (h : w.toNat < 20480) : k0_chk1 w := by
  unfold k0_chk1 k0_off2
  intro a; fin_cases a
  · show w.toNat + 1 ≤ 20480; omega
  · show 0 + 4096 ≤ 4096; omega

/-! ## The first loop -/

variable (tbl)

/-- The kernel at grid point `i` on the program's operands. -/
abbrev trip1 (i : grid0.Coords) : Fin k0_t1_loop.trips → Unit → Prog (TpuEff nD τ sig (Elt F) Λ₀ .tc) Unit :=
  k0_t1_body i (Memref.whole main_v24) (Memref.isWhole_whole _) (Memref.whole main_arg2) (Memref.isWhole_whole _) (Memref.whole main_v25) (Memref.isWhole_whole _) (Memref.whole main_v25) (Memref.isWhole_whole _) cc0_scratch0
abbrev trip2 (i : grid0.Coords) : Fin k0_t2_loop.trips → Unit → Prog (TpuEff nD τ sig (Elt F) Λ₀ .tc) Unit :=
  k0_t2_body i (Memref.whole main_v24) (Memref.isWhole_whole _) (Memref.whole main_arg2) (Memref.isWhole_whole _) (Memref.whole main_v25) (Memref.isWhole_whole _) (Memref.whole main_v25) (Memref.isWhole_whole _) cc0_scratch0

/-- The table as the region holds it. -/
abbrev table (c : Dev nD) : sProp 𝕄 := ((c : Thread nD τ).loc main_v24) ↦{fullShare.right} tbl

/-- Before trip `k` of the first loop: `2 k` copies issued, the others' rows in hand. -/
def issueAt (c : Dev nD) (p : Fin 32) (k : ℕ) (_ : Unit) : sProp 𝕄 :=
  iprop(batch tbl X Z c p (2 * k) 0 ∗ bigSep (Transfers.pending (2 * k)) (held tbl X Z c p (512 * p.val)) ∗ table tbl c)

variable {tbl}

theorem issue_step (hs : Slots tbl) (c : Dev nD) (i : grid0.Coords) (k : Fin k0_t1_loop.trips) (acc : Unit) :
    issueAt tbl X Z c (i 0) k acc ⊢ wp frame (wpE (defs₀ (F := F)) 𝒱₀ (c : Thread nD τ) none) Set.univ (trip1 i k acc)
      (issueAt tbl X Z c (i 0) (k.val + 1)) := by
  have hk : k.val < 256 := trips1 ▸ k.isLt
  have hi : (i 0).val < 32 := (i 0).isLt
  have h0 : 2 * k.val < 512 := by omega
  have h1 : 2 * k.val + 1 < 512 := by omega
  unfold issueAt
  rw [Transfers.bigSep_pending_step (held tbl X Z c (i 0) (512 * (i 0).val)) _ h0, Transfers.bigSep_pending_step (held tbl X Z c (i 0) (512 * (i 0).val)) _ h1,
    show 2 * (k.val + 1) = 2 * k.val + 1 + 1 by omega]
  iintro ⟨HB, ⟨H0, H1, Hs⟩, HT⟩
  unfold trip1 k0_t1_body
  simp only [smemLoad, Prog.lift, Prog.bind_op, Prog.bind_ret, smemLoadElt_bind, TpuEff.enqueueDma]
  iapply (wp_smemLoadElt_named 𝒱₀ (c : Thread nD τ) none Set.univ (m := Memref.whole main_v24) (S := Finset.univ) (q := fullShare.right) (f := tbl)) $$ HT
  iintro HT %w0 %e0
  rw [word_eq _ _ (asg (i 0) ⟨2 * k.val, h0⟩) (off1_eq i k)] at e0
  have hw0 : w0.toNat = slot tbl (i 0) ⟨2 * k.val, h0⟩ := by rw [e0]; rfl
  iapply (wp_assume 𝒱₀ (c : Thread nD τ) none Set.univ (chk_ok w0 (by rw [e0]; exact hs.1 _)))
  iapply (issue_one X Z hs c (i 0) ⟨2 * k.val, h0⟩ _ _ _ _ (by unfold k0_off2; rw [hw0])
    ((off3_eq i k).trans (by unfold tok; congr 2; show k.val = 2 * k.val / 2; omega))) $$ [H0 HB]
  · isplitl [H0]; · iexact H0
    iexact HB
  iintro HB
  iapply (wp_smemLoadElt_named 𝒱₀ (c : Thread nD τ) none Set.univ (m := Memref.whole main_v24) (S := Finset.univ) (q := fullShare.right) (f := tbl)) $$ HT
  iintro HT %w1 %e1
  rw [word_eq _ _ (asg (i 0) ⟨2 * k.val + 1, h1⟩) (off4_eq i k)] at e1
  have hw1 : w1.toNat = slot tbl (i 0) ⟨2 * k.val + 1, h1⟩ := by rw [e1]; rfl
  iapply (wp_assume 𝒱₀ (c : Thread nD τ) none Set.univ (chk_ok w1 (by rw [e1]; exact hs.1 _)))
  iapply (issue_one X Z hs c (i 0) ⟨2 * k.val + 1, h1⟩ _ _ _ _ (by unfold k0_off5; rw [hw1])
    ((off6_eq i k).trans (by unfold tok; congr 2; show k.val = (2 * k.val + 1) / 2; omega))) $$ [H1 HB]
  · isplitl [H1]; · iexact H1
    iexact HB
  iintro HB
  sl_step
  isplitl [HB]; · iexact HB
  isplitl [Hs]; · iexact Hs
  iexact HT

/-! ## The second loop -/

variable (tbl)

/-- Before trip `k` of the second loop: the copies' units counted down, and after the last trip every row back and the
    semaphore at zero. -/
def drainAt (c : Dev nD) (p : Fin 32) (k : ℕ) (_ : Unit) : sProp 𝕄 :=
  iprop((∃ W, owes (c : Thread nD τ) 0 W)
    ∗ (if k < 256 then batch tbl X Z c p 512 (2 * k * NN)
       else iprop(bigSep Finset.univ (held tbl X Z c p (512 * (p.val + 1))) ∗ semVal ((c : Thread nD τ), cell) 0)))

variable {tbl}

theorem drain_step (c : Dev nD) (i : grid0.Coords) (k : Fin k0_t2_loop.trips) (acc : Unit) :
    drainAt tbl X Z c (i 0) k acc ⊢ wp frame (wpE (defs₀ (F := F)) 𝒱₀ (c : Thread nD τ) none) Set.univ (trip2 i k acc)
      (drainAt tbl X Z c (i 0) (k.val + 1)) := by
  have hk : k.val < 256 := trips2 ▸ k.isLt
  have hN := NN_pos
  unfold drainAt
  rw [if_pos hk]
  iintro ⟨⟨%W0, HO⟩, HB⟩
  unfold trip2 k0_t2_body
  simp only [Prog.lift, Prog.bind_op, Prog.bind_ret]
  have hu : 2 * k.val * NN + NN < NN * 512 := by
    have : (2 * k.val + 1) * NN < 512 * NN := Nat.mul_lt_mul_of_pos_right (by omega) hN
    rw [Nat.mul_comm NN 512]; rwa [Nat.add_mul, Nat.one_mul] at this
  iapply (Transfers.wp_waitBatch EC 𝒱₀ (c : Thread nD τ) none () (N := NN) rfl hu) $$ [HB HO]
  · isplitl [HB]; · iexact HB
    iexact HO
  iintro ⟨HB, HO⟩
  rcases Nat.lt_or_ge (k.val + 1) 256 with h1 | h1
  · have hu' : 2 * k.val * NN + NN + NN < NN * 512 := by
      have : (2 * k.val + 2) * NN < 512 * NN := Nat.mul_lt_mul_of_pos_right (by omega) hN
      rw [Nat.mul_comm NN 512]; rw [Nat.add_mul] at this; omega
    iapply (Transfers.wp_waitBatch EC 𝒱₀ (c : Thread nD τ) none () (N := NN) rfl hu') $$ [HB HO]
    · isplitl [HB]; · iexact HB
      iexact HO
    iintro ⟨HB, HO⟩
    sl_step
    rw [if_pos h1]
    isplitl [HO]; · iexists _; iexact HO
    rw [show 2 * (k.val + 1) * NN = 2 * k.val * NN + NN + NN by rw [Nat.mul_add, Nat.add_mul]; omega]
    iexact HB
  · have hu' : 2 * k.val * NN + NN + NN = NN * 512 := by
      rw [show k.val = 255 by omega]; omega
    iapply (Transfers.wp_waitBatchLast EC 𝒱₀ (c : Thread nD τ) none () (N := NN) rfl hN hu') $$ [HB HO]
    · isplitl [HB]; · iexact HB
      iexact HO
    iintro ⟨HD, Hc, HO⟩
    sl_step
    rw [if_neg (by omega)]
    isplitl [HO]; · iexists _; iexact HO
    isplitl [HD]; · iexact HD
    iexact Hc

/-! ## The point -/

variable (tbl)

/-- What the region keeps between grid points: the result at the contents after `n` assignments, the token rows, the
    table, and the semaphore at zero. -/
def kept (c : Dev nD) (n : ℕ) : sProp 𝕄 :=
  iprop((((c : Thread nD τ).loc main_v25) ↦{fullShare} W tbl X Z n) ∗ (((c : Thread nD τ).loc main_arg2) ↦{fullShare} X)
    ∗ table tbl c ∗ semVal ((c : Thread nD τ), cell) 0)

variable {tbl}

/-- ONE POINT: the 512 rows copied, the semaphore at zero again. -/
theorem point (hs : Slots tbl) (c : Dev nD) (i : grid0.Coords) (W0 : Waits sig Unit) (Q : PUnit → sProp 𝕄) :
    iprop(kept tbl X Z c (512 * (i 0).val) ∗ owes (c : Thread nD τ) 0 W0
        ∗ (iprop(kept tbl X Z c (512 * ((i 0).val + 1)) ∗ ∃ W1, owes (c : Thread nD τ) 0 W1) -∗ Q ⟨⟩))
      ⊢ wp frame (wpE (defs₀ (F := F)) 𝒱₀ (c : Thread nD τ) none) Set.univ
          (cc0_moe_dispatch (F := F) i (Memref.whole main_v24) (Memref.isWhole_whole _) (Memref.whole main_arg2) (Memref.isWhole_whole _) (Memref.whole main_v25) (Memref.isWhole_whole _) (Memref.whole main_v25) (Memref.isWhole_whole _) cc0_scratch0)
          Q := by
  rw [cc0_moe_dispatch_eq_skeleton]
  unfold cc0_moe_dispatch_skel kept
  iintro ⟨⟨HZ, HX, HT, Hc⟩, HO, HQ⟩
  ihave HS := (split X Z hs c (i 0) (512 * (i 0).val)).1 $$ [HZ HX]
  · isplitl [HZ]; · iexact HZ
    iexact HX
  icases HS with ⟨HH, HA⟩
  haveI : ∀ t, BI.Storable (upEmb : UEmb _ 𝕄) (held tbl X Z c (i 0) (512 * ((i 0).val + 1)) t) := fun t => held_storable tbl X Z c (i 0) _ t
  imod (Transfers.batch_alloc' EC (c : Thread nD τ) () NN (held tbl X Z c (i 0) (512 * ((i 0).val + 1))) (sm := cell) (E := Set.univ)) $$ Hc with HB
  iapply (Scf.wp_for_bind frame _ _ _ _ _ _ _ _ (issueAt tbl X Z c (i 0)) (fun k acc => issue_step X Z hs c i k acc)) $$ [HB HH HT]
  · unfold issueAt
    isplitl [HB]; · iexact HB
    isplitl [HH]; · rw [Nat.mul_zero, ← Transfers.bigSep_pending_zero]; iexact HH
    iexact HT
  iintro %acc HI
  unfold issueAt
  icases HI with ⟨HB, -, HT⟩
  iapply (Scf.wp_for_bind frame _ _ _ _ _ _ _ _ (drainAt tbl X Z c (i 0)) (fun k acc => drain_step X Z c i k acc)) $$ [HB HO]
  · unfold drainAt
    rw [if_pos (by decide)]
    isplitl [HO]; · iexists _; iexact HO
    rw [show Scf.trips k0_t1_loop.lb k0_t1_loop.ub k0_t1_loop.st = 256 from trips1, Nat.mul_zero, Nat.zero_mul]
    iexact HB
  iintro %acc' HI
  unfold drainAt
  rw [show Scf.trips k0_t2_loop.lb k0_t2_loop.ub k0_t2_loop.st = 256 from trips2, if_neg (by decide)]
  icases HI with ⟨HO, HD, Hc⟩
  ihave HA' := (of_eq (aside_eq X Z hs c (i 0))) $$ HA
  ihave HS := (split X Z hs c (i 0) (512 * ((i 0).val + 1))).2 $$ [HD HA']
  · isplitl [HD]; · iexact HD
    iexact HA'
  icases HS with ⟨HZ, HX⟩
  sl_step
  iapply HQ
  isplitr [HO]
  · isplitl [HZ]; · iexact HZ
    isplitl [HX]; · iexact HX
    isplitl [HT]; · iexact HT
    iexact Hc
  iexact HO

end Cert.Proof.Dispatch
end
-- ==== Proof.Table.lean ====
/- The words the host computes for the dispatch: the experts' counts, where each expert's rows start, and the slot of
   every assignment. -/
module

public import proofs.«01_k».proof.Proof.Gen.KernelIdeal

@[expose] public section

noncomputable section

namespace Cert.Proof.Dispatch

open Cert.KernelIdeal Cert.KernelIdeal.Gen
open Idealize.ShloMosaic

variable {F : FTy → Type} [FloatOps F]

/-- A word at every expert. -/
abbrev all32 (v : BitVec 32) : IVec S32 32 := broadcastInDim S32 ![] bcast_S_S32 (constantI S_ 32 v)

/-- The counts' table, as words. -/
def cOf (C : FVec F S1x128 .f32) : IVec S32 32 :=
  fptosi 32 (shapeCast S32 (extractStridedSlice S1x32 ![0, 0] C slices_S1x128_S1x32_0_0) shapeCasts_S1x32_S32)
/-- Each token's two experts, as words. -/
def e2Of (R : FVec F S8192x128 .f32) : IVec S8192x2 32 :=
  fptosi 32 (extractStridedSlice S8192x2 ![0, 0] R slices_S8192x128_S8192x2_0_0)
/-- Each assignment's place among its expert's, as words. -/
def r2Of (R : FVec F S8192x128 .f32) : IVec S8192x2 32 :=
  fptosi 32 (extractStridedSlice S8192x2 ![0, 4] R slices_S8192x128_S8192x2_0_4)
/-- The same two, an assignment after another. -/
def eOf (R : FVec F S8192x128 .f32) : IVec S16384 32 := shapeCast S16384 (e2Of R) shapeCasts_S8192x2_S16384
def rOf (R : FVec F S8192x128 .f32) : IVec S16384 32 := shapeCast S16384 (r2Of R) shapeCasts_S8192x2_S16384

/-- The counts rounded up to whole blocks, before the division and after. -/
def upOf (c : IVec S32 32) : IVec S32 32 := subi (addi c (all32 128#32)) (all32 1#32)
def padOf (c : IVec S32 32) : IVec S32 32 :=
  muli (select (andi (cmpi .ne (signi (upOf c)) (broadcastInDim S32 ![] bcast_S_S32 (signi (constantI S_ 32 128#32))))
      (cmpi .ne (Host.remsi (upOf c) (all32 128#32)) (all32 0#32)))
    (subi (Host.divsi (upOf c) (all32 128#32)) (all32 1#32)) (Host.divsi (upOf c) (all32 128#32))) (all32 128#32)
/-- Running sums. -/
def cumOf (c : IVec S32 32) : IVec S32 32 :=
  Host.reduceWindow IntOp.addi ![32] ![1] ![31] ![0] c (broadcastInDim S_ ![] bcast_S_S_ (constantI S_ 32 0#32)) reduceWindows_S32_S32_w32s1p31_0 h_S_
/-- Where each expert's rows start, in the sorted order and in the padded buffer. -/
def stOf (c : IVec S32 32) : IVec S32 32 := subi (cumOf c) c
def psOf (c : IVec S32 32) : IVec S32 32 := subi (cumOf (padOf c)) (padOf c)

/-- The slot of every assignment. -/
def destOf (C : FVec F S1x128 .f32) (R : FVec F S8192x128 .f32) : IVec S16384 32 :=
  shapeCast S16384 (addi (Host.gather gather_S32_S8192x2x1_S8192x2_n_0_n_n_0_2_1 (psOf (cOf C))
    (broadcastInDim S8192x2x1 ![0, 1] bcast_S8192x2_S8192x2x1_0_1
      (select (cmpi .slt (e2Of R) (broadcastInDim S8192x2 ![] bcast_S_S8192x2 (constantI S_ 32 0#32)))
        (addi (e2Of R) (broadcastInDim S8192x2 ![] bcast_S_S8192x2 (constantI S_ 32 32#32))) (e2Of R)))) (r2Of R)) shapeCasts_S8192x2_S16384

end Cert.Proof.Dispatch

end
-- ==== Proof.Run.lean ====
/- The expert dispatch's run: the launch of its one region, every grid point by `point`. -/
module

public import proofs.«01_k».proof.Proof.Body
public import proofs.«01_k».proof.Proof.Table
public import Idealize.ShloMosaic.Adequacy
public import Idealize.ShloMosaic.Init

@[expose] public section

noncomputable section

namespace Cert.Proof.Dispatch

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The slots' table and the token rows, as the region reads them. -/
def tblOf (c : Dev nD) : S16384.Idx → BitVec 32 := destOf (F := F) (m ((c : Thread nD τ).loc main_arg0)) (m ((c : Thread nD τ).loc main_arg1))
def rowsOf (c : Dev nD) : S8192x4096.Idx → Elt F .f32 := m ((c : Thread nD τ).loc main_arg2)
/-- The result before the region: zeros. -/
def zeros : S20480x4096.Idx → Elt F .f32 :=
  (broadcastInDim S20480x4096 ![] bcast_S_S20480x4096 : (⟨S_, .f32⟩ : BufTy).Contents (Elt F) → (⟨S20480x4096, .f32⟩ : BufTy).Contents (Elt F))
    (constant S_ .f32 0x00000000#32)

/-- What the run leaves in the result. -/
def out (c : Dev nD) : S20480x4096.Idx → Elt F .f32 := W (tblOf m c) (rowsOf m c) zeros 16384

/-- The tables' contents the region runs at: the launch memory's (one device). -/
def adm : (p : Fin 1) → (pcfgs (F := F) p).Adm := fun _ => ⟨fun | 0 => tblOf m 0 | ⟨_ + 1, h⟩ => absurd h (Nat.not_lt.2 (Nat.le_add_left _ _)), trivial⟩

/-- The host's operations, a stretch after another. -/
abbrev stretches : List (List (HloOp τ sig (Elt F))) := [hostOps0, hostOps0_1, hostOps0_2, hostOps0_3, hostOps0_4]

/-- The buffers when the region is entered. -/
def V (c : Dev nD) (b : Ref sig .tc) : Buf (Elt F) ((c : Thread nD τ).loc b) := StableHlo.after (stretches (F := F)).flatten (fun b => m (c, b)) b

set_option maxRecDepth 8192 in
set_option maxHeartbeats 8000000 in
theorem V_table (c : Dev nD) : V m c main_v24 = tblOf m c := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxRecDepth 8192 in
set_option maxHeartbeats 8000000 in
theorem V_rows (c : Dev nD) : V m c main_arg2 = rowsOf m c := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxRecDepth 8192 in
set_option maxHeartbeats 8000000 in
theorem V_zeros (c : Dev nD) : V m c main_v25 = zeros := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxRecDepth 8192 in
set_option maxHeartbeats 8000000 in
theorem V_counts (c : Dev nD) : V m c main_arg0 = m ((c : Thread nD τ).loc main_arg0) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxRecDepth 8192 in
set_option maxHeartbeats 8000000 in
theorem V_routes (c : Dev nD) : V m c main_arg1 = m ((c : Thread nD τ).loc main_arg1) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl

/-- The result, the token rows and the router's two tables among the buffers the region leaves alone. -/
theorem rest_four (c : Dev nD) : (Pipeline.unscopedRestP (Ix := Unit) (Name := ℕ) (U := Pipeline.UD sig nD τ) (Lvl := ℕ) pre0 spec0 c (V m c) : sProp 𝕄)
    ⊢ iprop((((c : Thread nD τ).loc main_v25) ↦{fullShare} (zeros : S20480x4096.Idx → Elt F .f32)) ∗ (((c : Thread nD τ).loc main_arg2) ↦{fullShare} rowsOf m c)
        ∗ (((c : Thread nD τ).loc main_arg0) ↦{fullShare} m ((c : Thread nD τ).loc main_arg0)) ∗ ((c : Thread nD τ).loc main_arg1) ↦{fullShare} m ((c : Thread nD τ).loc main_arg1)) := by
  unfold Pipeline.unscopedRestP
  refine (bigSep_subset (t := ({main_v25, main_arg2, main_arg0, main_arg1} : Finset (Ref sig .tc))) (by decide)).trans ?_
  rw [bigSep_eq_bigSepL_of_eq [main_v25, main_arg2, main_arg0, main_arg1] (by decide) (by decide)]
  show iprop((((c : Thread nD τ).loc main_v25) ↦{fullShare} V m c main_v25) ∗ (((c : Thread nD τ).loc main_arg2) ↦{fullShare} V m c main_arg2)
    ∗ (((c : Thread nD τ).loc main_arg0) ↦{fullShare} V m c main_arg0) ∗ ((c : Thread nD τ).loc main_arg1) ↦{fullShare} V m c main_arg1) ⊢ _
  rw [V_zeros, V_rows, V_counts, V_routes]

def dats (p : Fin 1) (c : Dev nD) : Dat τ (Elt F) Unit ℕ (Pipeline.UD sig nD τ) ℕ (Pipeline.pin pcfgs (adm m) p) c where
  A w := V m c (Pipeline.arrRef spec0 w)
  after w t := w.elim0
  Φ t := kept (tblOf m c) (rowsOf m c) zeros c (512 * t.val)
  q _ := fullShare
  owed _ := 0

theorem coord (t : Fin grid0.N) : (grid0.coords t 0).val = t.val := by
  have h := Pipeline.Grid.coords_val (G := grid0) t 0 (S := 1) (B := 32) (by decide) rfl
  rw [h]; have : t.val < 32 := N_0 ▸ t.isLt; omega

/-- The kernel at grid point `t`. -/
abbrev bodyAt (t : Fin grid0.N) : Prog (TpuEff nD τ sig (Elt F) Λ₀ .tc) PUnit :=
  cc0_moe_dispatch (grid0.coords t) (Memref.whole main_v24) (Memref.isWhole_whole _) (Memref.whole main_arg2) (Memref.isWhole_whole _) (Memref.whole main_v25) (Memref.isWhole_whole _) (Memref.whole main_v25) (Memref.isWhole_whole _) cc0_scratch0
theorem defs_tc : (defs₀ (F := F)) .tc (cfg0 (adm m 0)).body = fun a => bodyAt a.1 := rfl
theorem prog_eq (t : Fin grid0.N) : (defs₀ (F := F)) .tc (cfg0 (adm m 0)).body ((cfg0 (adm m 0)).bodyArgs t ((cfg0 (adm m 0)).slots t)) = bodyAt t :=
  (congrFun (defs_tc m) _).trans rfl

set_option backward.isDefEq.respectTransparency.types false in
theorem body_obligation (hs : ∀ c, Slots (tblOf m c)) (c : Dev nD) : BodyObligation (dats m 0 c) (defs₀ (F := F)) 𝒱₀ () Set.univ := fun t => by
  rw [show (dats m 0 c).Φ t.castSucc = kept (tblOf m c) (rowsOf m c) zeros c (512 * t.val) from
      Pipeline.Dat.Φ_castSucc (fun n _ => kept (tblOf m c) (rowsOf m c) zeros c (512 * n)) t,
    show (dats m 0 c).Φ t.succ = kept (tblOf m c) (rowsOf m c) zeros c (512 * (t.val + 1)) from rfl]
  unfold Dat.owesAt Pipeline.owesWithin
  rw [show (dats m 0 c).owed t.castSucc = 0 from rfl, show (dats m 0 c).owed t.succ = 0 from rfl]
  have hp := point (rowsOf m c) zeros (hs c) c (grid0.coords t)
  rw [coord t] at hp
  iintro ⟨HK, ⟨%W0, -, HW⟩, HE⟩
  sl_rw [prog_eq (F := F) m t]
  iapply (hp W0)
  isplitl [HK]; · iexact HK
  isplitl [HW]; · iexact HW
  iintro ⟨HK, ⟨%W1, HW⟩⟩
  isplitl [HK]; · iexact HK
  isplitl [HW]
  · iexists W1; isplitr; · ipureintro; exact fun _ _ => Or.inl trivial
    iexact HW
  iapply (show (BI.emp : sProp 𝕄) ⊢ bigSep (∅ : Finset (Fin 0)) _ from by rw [BI.bigSep_empty])
  iempintro

abbrev osem : Fin 1 → SemLoc sig := fun _ => cell
theorem ownSemFacts : Pipeline.OwnSemFacts spec0 osem := by decide

omit [FloatOps F] in
theorem ownSems0_eq (c : Dev nD) : (Pipeline.ownSems0 (Ix := Unit) (Name := ℕ) (U := Pipeline.UD sig nD τ) (Lvl := ℕ) (Val := Elt F) (τ := τ) osem c : sProp 𝕄)
    = semVal ((c : Thread nD τ), cell) 0 := by
  unfold Pipeline.ownSems0
  exact (bigSep_univ_eq_bigSepL [(0 : Fin 1)] (by decide) (by decide) _).trans rfl
omit [FloatOps F] in
theorem prefHeld_eq (c : Dev nD) (q : Fin 1 → PosShare TreeShare) (w : (k : Fin 1) → _) :
    (Pipeline.prefHeld pre0 c q w : sProp 𝕄) = (((c : Thread nD τ).loc main_v24) ↦{q 0} w 0 : sProp 𝕄) := by
  unfold Pipeline.prefHeld
  exact (bigSep_univ_eq_bigSepL [(0 : Fin 1)] (by decide) (by decide) _).trans rfl

def u₀ : Pipeline.UD sig nD τ :=
  (initOf (Pipeline.cells (Pipeline.pin pcfgs (adm m)) (cellOf_inj (adm m))) (Pipeline.launchToks (Pipeline.pin pcfgs (adm m)) (cellOf_inj (adm m))), 1)

/-- What a final state holds: the result, and the arguments unchanged. -/
def QY (c : Dev nD) (s : MemSt nD τ sig (Elt F)) : Prop :=
  s.mem ((c : Thread nD τ).loc main_v25) = out m c ∧ s.mem ((c : Thread nD τ).loc main_arg0) = m ((c : Thread nD τ).loc main_arg0)
    ∧ s.mem ((c : Thread nD τ).loc main_arg1) = m ((c : Thread nD τ).loc main_arg1) ∧ s.mem ((c : Thread nD τ).loc main_arg2) = m ((c : Thread nD τ).loc main_arg2)

/-- The router's two tables, which the region does not touch. -/
def routes (c : Dev nD) : sProp 𝕄 :=
  iprop((((c : Thread nD τ).loc main_arg0) ↦{fullShare} m ((c : Thread nD τ).loc main_arg0)) ∗ ((c : Thread nD τ).loc main_arg1) ↦{fullShare} m ((c : Thread nD τ).loc main_arg1))

/-- What the region gives back. -/
def back (c : Dev nD) : sProp 𝕄 :=
  iprop((((c : Thread nD τ).loc main_v25) ↦{fullShare} out m c) ∗ ((c : Thread nD τ).loc main_arg2) ↦{fullShare} rowsOf m c)
/-- What it takes. -/
def into (c : Dev nD) : sProp 𝕄 :=
  iprop((((c : Thread nD τ).loc main_v25) ↦{fullShare} (zeros : S20480x4096.Idx → Elt F .f32)) ∗ (((c : Thread nD τ).loc main_arg2) ↦{fullShare} rowsOf m c)
    ∗ semVal ((c : Thread nD τ), cell) 0)

/-- One device. -/
theorem dev_eq (c : Dev nD) : c = 0 := by have h : c.val < 1 := c.isLt; exact Fin.ext (by show c.val = 0; omega)

/-- The region stages no array. -/
theorem arrays_none (c : Dev nD) : Pipeline.arrBufs spec0 c (V m c) ⊢ (dats m 0 c).arrays ((dats m 0 c).arrAt · 0) := by
  unfold Pipeline.arrBufs Dat.arrays
  iintro -
  iapply (show (BI.emp : sProp 𝕄) ⊢ bigSep (∅ : Finset (Fin 0)) _ from by rw [BI.bigSep_empty])
  iempintro

/-- The host's stretches, then the region. -/
theorem hmain0 : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main stretches
    ⟨hostOps0_sub, hostOps0_1_sub, hostOps0_2_sub, hostOps0_3_sub, hostOps0_4_sub⟩ (by simp only [List.Forall]; refine ⟨?_, ?_, ?_, ?_, ?_⟩ <;> (repeat' constructor)) main_chain

set_option backward.isDefEq.respectTransparency.types false in
/-- THE RUN, at any float values, from any memory whose table of slots holds distinct rows: it terminates, nothing faults, the
    result ends at `out`, the arguments unchanged, every semaphore at zero. -/
theorem run_main (hs : ∀ c, Slots (tblOf m c)) : θ_run defs (onTc (τ := τ) (main (F := F))) ⟨m, fun _ => 0, ρ⟩
    (fun r => (∀ c : Dev nD, r.2.mem ((c : Thread nD τ).loc main_v25) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  Pipeline.θ_run_region_pf_quiescent pcfgs (adm m) (dats m) () (cellOf_inj (adm m)) (0 : Fin 1) (launch0 (F := F)).win.to₀ ownSemFacts (launch0 (F := F)).pre
    embL defs₀ 𝒱₀ m ρ main
    (hbody := fun c => (body_obligation m hs c).loose) (hne := block_pos0) (harr := arr_whole0) (hstage := stage_whole0)
    (howed := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain0 m)
    (hsplit := fun c => arrays_none m c)
    (hpf := fun c k => by rw [dev_eq c]; fin_cases k; exact V_table m 0)
    (X := into m) (Y := back m) (Z := routes m)
    (hX := fun c => by
      rw [ownSems0_eq]
      unfold into routes
      iintro ⟨HR, HS, -, -, -⟩
      ihave HR := (rest_four m c) $$ HR
      icases HR with ⟨H0, H2, HC, HT⟩
      imodintro
      isplitl [H0 HS H2]
      · isplitl [H0]; · iexact H0
        isplitl [H2]; · iexact H2
        iexact HS
      isplitl [HC]; · iexact HC
      iexact HT)
    (hin := fun c => by
      rw [scopedRest0_eq, prefHeld_eq, show (dats m 0 c).Φ 0 = kept (tblOf m c) (rowsOf m c) zeros c 0 from rfl]
      unfold into kept table
      rw [W_zero]
      iintro ⟨⟨H0, H1, HS⟩, HT, -⟩
      isplitl [H0]; · iexact H0
      isplitl [H1]; · iexact H1
      isplitl [HT]; · rw [dev_eq c]; iexact HT
      iexact HS)
    (hout := fun c => by
      rw [scopedRest0_eq, ownSems0_eq, show (dats m 0 c).Φ (Fin.last _) = kept (tblOf m c) (rowsOf m c) zeros c 16384 from rfl]
      unfold back kept out
      iintro ⟨H0, H1, -, HS⟩
      isplitl [H0 H1]
      · isplitl [H0]; · iexact H0
        iexact H1
      isplitl [HS]; · iexact HS
      iempintro)
    (QY := QY m)
    (hY := fun c s' => by
      unfold back routes
      iintro ⟨⟨H0, H2⟩, ⟨HC, HT⟩, HSI⟩
      icombine HSI H0 gives %h0
      icombine HSI H2 gives %h2
      icombine HSI HC gives %hc
      icombine HSI HT gives %ht
      imodintro
      isplitr; · ipureintro; exact ⟨Buf.eq_of_forall_mem_univ h0, Buf.eq_of_forall_mem_univ hc, Buf.eq_of_forall_mem_univ ht, Buf.eq_of_forall_mem_univ h2⟩
      iexact HSI)
    (hQ := fun s hh hz => ⟨fun c => (hh c).2.2, hz⟩)

end Cert.Proof.Dispatch
end
-- ==== Proof.Count.lean ====
/- Counting by expert, in natural numbers: assignments sorted by expert, each expert's rows starting at a whole block,
   lie at distinct rows of the padded buffer. -/
module

public import Mathlib.Order.Interval.Finset.Fin
public import Mathlib.Data.Fintype.BigOperators

@[expose] public section

namespace Cert.Proof.Dispatch

variable {N : ℕ} (e : Fin N → ℕ)

/-- How many assignments chose expert `b`. -/
def cnt (b : ℕ) : ℕ := (Finset.univ.filter fun i => e i = b).card
/-- A count rounded up to whole blocks of 128. -/
def pd (n : ℕ) : ℕ := (n + 127) / 128 * 128
/-- The sum of `f` over the experts before `b`. -/
def upTo (f : ℕ → ℕ) (b : ℕ) : ℕ := ((List.range b).map f).sum
/-- Where expert `b` starts: in the sorted order, and in the padded buffer. -/
def st (b : ℕ) : ℕ := upTo (cnt e) b
def ps (b : ℕ) : ℕ := upTo (fun b => pd (cnt e b)) b

theorem upTo_succ (f : ℕ → ℕ) (b : ℕ) : upTo f (b + 1) = upTo f b + f b := by
  unfold upTo; rw [List.range_succ, List.map_append, List.sum_append]; simp
theorem upTo_mono (f : ℕ → ℕ) {a b : ℕ} (h : a ≤ b) : upTo f a ≤ upTo f b := by
  induction h with
  | refl => exact le_rfl
  | step _ ih => exact ih.trans (by rw [Nat.succ_eq_add_one, upTo_succ]; omega)

theorem le_pd (n : ℕ) : n ≤ pd n := by unfold pd; omega
theorem pd_le (n : ℕ) : pd n ≤ n + 127 := by unfold pd; omega

theorem st_eq (b : ℕ) : st e b = (Finset.univ.filter fun i => e i < b).card := by
  induction b with
  | zero => simp [st, upTo]
  | succ b ih =>
    unfold st at ih ⊢
    rw [upTo_succ, ih]
    unfold cnt
    rw [← Finset.card_union_of_disjoint (by
      rw [Finset.disjoint_left]; intro i h1 h2
      simp only [Finset.mem_filter, Finset.mem_univ, true_and] at h1 h2; omega)]
    congr 1
    ext i
    simp only [Finset.mem_union, Finset.mem_filter, Finset.mem_univ, true_and]
    omega

theorem st_le (b : ℕ) : st e b ≤ N := by
  rw [st_eq]; exact (Finset.card_le_univ _).trans_eq (Fintype.card_fin N)
theorem cnt_le (b : ℕ) : cnt e b ≤ N := by
  unfold cnt; exact (Finset.card_le_univ _).trans_eq (Fintype.card_fin N)
theorem ps_le (b : ℕ) : ps e b ≤ st e b + 127 * b := by
  induction b with
  | zero => simp [ps, st, upTo]
  | succ b ih =>
    have := pd_le (cnt e b)
    unfold ps st at ih ⊢
    rw [upTo_succ, upTo_succ]
    omega

variable (σ : Fin N → Fin N) (hσ : Function.Bijective σ) (hs : ∀ i j, i < j → e (σ i) ≤ e (σ j))
include hσ hs

/-- The `k`-th assignment in the sorted order lies among its own expert's. -/
theorem place (k : Fin N) : st e (e (σ k)) ≤ k.val ∧ k.val < st e (e (σ k)) + cnt e (e (σ k)) := by
  have hc : ∀ b, st e b = (Finset.univ.filter fun i => e (σ i) < b).card := fun b => by
    rw [st_eq]; exact (Finset.card_bijective σ hσ fun i => by simp).symm
  constructor
  · rw [hc]
    refine (Finset.card_le_card (t := Finset.Iio k) fun i hi => ?_).trans_eq (Fin.card_Iio k)
    simp only [Finset.mem_filter, Finset.mem_univ, true_and, Finset.mem_Iio] at hi ⊢
    by_contra hk
    rcases Nat.lt_or_eq_of_le (Nat.le_of_not_lt hk) with h | h
    · have := hs k i h; omega
    · rw [Fin.ext h] at hi; omega
  · have h1 : st e (e (σ k)) + cnt e (e (σ k)) = st e (e (σ k) + 1) := (upTo_succ _ _).symm
    rw [h1, hc]
    have : k.val + 1 ≤ _ := (Fin.card_Iic k).symm.trans_le (Finset.card_le_card (t := Finset.univ.filter fun i => e (σ i) < e (σ k) + 1) fun i hi => by
      simp only [Finset.mem_filter, Finset.mem_univ, true_and, Finset.mem_Iic] at hi ⊢
      rcases Nat.lt_or_eq_of_le (Fin.le_def.1 hi) with h | h
      · have := hs i k h; omega
      · rw [Fin.ext h]; omega)
    omega

omit hσ hs in
/-- The row of the `k`-th assignment in the sorted order. -/
def row (k : Fin N) : ℕ := ps e (e (σ k)) + (k.val - st e (e (σ k)))

theorem row_lt_next (k : Fin N) : row e σ k < ps e (e (σ k) + 1) := by
  obtain ⟨h1, h2⟩ := place e σ hσ hs k
  have := le_pd (cnt e (e (σ k)))
  have h3 : ps e (e (σ k) + 1) = ps e (e (σ k)) + pd (cnt e (e (σ k))) := upTo_succ _ _
  unfold row
  omega

theorem row_lt {B : ℕ} (hB : ∀ i, e i < B) (k : Fin N) : row e σ k < N + 127 * B :=
  (row_lt_next e σ hσ hs k).trans_le ((upTo_mono _ (hB (σ k))).trans ((ps_le e B).trans (Nat.add_le_add_right (st_le e B) _)))

theorem row_strict {k k' : Fin N} (h : k < k') : row e σ k < row e σ k' := by
  rcases Nat.lt_or_eq_of_le (hs k k' h) with hb | hb
  · have h1 := row_lt_next e σ hσ hs k
    have h2 : ps e (e (σ k) + 1) ≤ ps e (e (σ k')) := upTo_mono _ hb
    have h3 : ps e (e (σ k')) ≤ row e σ k' := Nat.le_add_right _ _
    omega
  · obtain ⟨h1, -⟩ := place e σ hσ hs k
    unfold row
    rw [← hb]
    have : k.val < k'.val := h
    omega

theorem row_inj : Function.Injective (row e σ) := fun k k' h => by
  rcases lt_trichotomy k k' with hk | hk | hk
  · exact absurd h (row_strict e σ hσ hs hk).ne
  · exact hk
  · exact absurd h (row_strict e σ hσ hs hk).ne'

end Cert.Proof.Dispatch
-- ==== Proof.TableVal.lean ====
/- The reference's words read at an index: the assignments in the order of their experts, how many chose each expert,
   and the row each goes to. -/
module

public import proofs.«01_k».proof.Proof.Table
public import proofs.«01_k».proof.Proof.Count
public import proofs.«01_k».proof.Proof.Gen.ReferenceIdeal
public import Idealize.ShloMosaic.Lib.SortFacts
public import Idealize.ShloMosaic.Lib.Routing.Words
public import Idealize.ShloMosaic.Lib.Routing.OpsSet
public import Idealize.ShloMosaic.Lib.Routing.OpsPair
public import Idealize.ShloMosaic.Lib.Routing.OpsOne
public import Idealize.ShloMosaic.Lib.Routing.OpsSearch

@[expose] public section

noncomputable section

namespace Cert.Proof.Dispatch

open Cert.ReferenceIdeal Cert.ReferenceIdeal.Gen
open Idealize.ShloMosaic Idealize.ShloMosaic.ValueIdx

/-! ## The reference's terms -/

/-- Index words, a negative one counted from the end. -/
def wrap (n : BitVec 32) (v : IVec S16384 32) : IVec S16384x1 32 :=
  broadcastInDim S16384x1 ![0] bcast_S16384_S16384x1_0 (select (cmpi .slt v (broadcastInDim S16384 ![] bcast_S_S16384 (constantI S_ 32 0#32)))
    (addi v (broadcastInDim S16384 ![] bcast_S_S16384 (constantI S_ 32 n))) v)
/-- The assignments in the order of their experts. -/
def ordOf (e : IVec S16384 32) : IVec S16384 32 :=
  (Host.sort2 S16384 0 (fun l r => IntOp.cmpi .slt l.1 r.1) e (iotaInDim S16384 32 0)).2
/-- A vector of assignments in the order `o`; a table of experts at each of `i`. -/
def takeA (v o : IVec S16384 32) : IVec S16384 32 := Host.gather gather_S16384_S16384x1_S16384_n_0_n_n_0_1_1 v (wrap 16384#32 o)
def takeB (t : IVec S32 32) (i : IVec S16384 32) : IVec S16384 32 := Host.gather gather_S32_S16384x1_S16384_n_0_n_n_0_1_1 t (wrap 32#32 i)
/-- How many assignments chose each expert. -/
def cntOf (e : IVec S16384 32) : IVec S32 32 :=
  Host.scatter scatter_S32_S16384x1_S16384_n_0_0_1 IntOp.addi (broadcastInDim S32 ![] bcast_S_S32 (constantI S_ 32 0#32)) (wrap 32#32 e)
    (broadcastInDim S16384 ![] bcast_S_S16384 (constantI S_ 32 1#32))
/-- The experts in order, and the row of each assignment in that order. -/
def seOf (e : IVec S16384 32) : IVec S16384 32 := takeA e (ordOf e)
def refDest (e : IVec S16384 32) : IVec S16384 32 :=
  subi (addi (takeB (psOf (cntOf e)) (seOf e)) (iotaInDim S16384 32 0)) (takeB (stOf (cntOf e)) (seOf e))

/-! ## Read at an index -/

theorem small_toInt (n : ℕ) (h : n < 2 ^ 31) : (BitVec.ofNat 32 n).toInt = n := StableHlo.Predicate.toInt_ofNat_small n h

theorem wrap_at (n : BitVec 32) (v : IVec S16384 32) (k : Fin 16384) (h : 0 ≤ (v (ix1 k)).toInt) : wrap n v (ix2 k (0 : Fin 1)) = v (ix1 k) := by
  unfold wrap
  refine (Routing.bcCol _ _ k).trans ?_
  show Scalar.select (BitVec.ofBool ((v (ix1 k)).slt 0#32)) _ (v (ix1 k)) = _
  have : (v (ix1 k)).slt 0#32 = false := by
    rw [← Bool.not_eq_true, BitVec.slt_iff_toInt_lt]
    simpa using h
  rw [this]
  rfl

theorem takeA_at (v o : IVec S16384 32) (k j : Fin 16384) (h : o (ix1 k) = BitVec.ofNat 32 j.val) : takeA v o (ix1 k) = v (ix1 j) := by
  have hj := j.isLt
  exact Routing.gather_take1 _ rfl rfl rfl rfl v _ k j ((wrap_at _ _ k (by rw [h, small_toInt _ (by omega)]; omega)).trans h) (by decide)

theorem takeB_at (t : IVec S32 32) (i : IVec S16384 32) (k : Fin 16384) (b : Fin 32) (h : i (ix1 k) = BitVec.ofNat 32 b.val) :
    takeB t i (ix1 k) = t (ix1 b) := by
  have hj := b.isLt
  exact Routing.gather_take1 _ rfl rfl rfl rfl t _ k b ((wrap_at _ _ k (by rw [h, small_toInt _ (by omega)]; omega)).trans h) (by decide)

/-- The positions that have `P`, counted along the list of all. -/
theorem count_cast {M N : ℕ} (h : M = N) (P : Fin N → Prop) [DecidablePred P] :
    (List.finRange M).countP (fun n => decide (P (n.cast h))) = (Finset.univ.filter P).card := by
  subst h
  rw [List.countP_eq_length_filter]
  rfl

/-- The order's permutation. -/
def perm (e : IVec S16384 32) : Fin 16384 → Fin 16384 :=
  sortedFrom fun k k' => IntOp.cmpi .slt (e (ix1 k)) (e (ix1 k')) == 1#1

theorem perm_bij (e : IVec S16384 32) : Function.Bijective (perm e) := ⟨sortedFrom_injective _, sortedFrom_surjective _⟩

theorem ord_at (e : IVec S16384 32) (k : Fin 16384) : ordOf e (ix1 k) = BitVec.ofNat 32 (perm e k).val := by
  have hd : 0 < S16384.rank := Nat.zero_lt_one
  have ha : ∀ (j : S16384.Idx) (c : Fin 16384), j.along (⟨0, hd⟩ : Fin S16384.rank) c = ix1 c := fun j c =>
    (Shape.Idx.along_rank1 j c).trans (Routing.ofFin_eq_ix1 c)
  unfold ordOf Host.sort2
  rw [dif_pos hd]
  have hp : sortedFrom (n := 16384) (fun a b : Fin 16384 => IntOp.cmpi .slt (e ((ix1 k).along ⟨0, hd⟩ a)) (e ((ix1 k).along ⟨0, hd⟩ b)) == 1#1) k = perm e k := by
    unfold perm
    congr 1
    funext a b
    rw [ha, ha]
  exact (congrArg (fun c : Fin 16384 => iotaInDim S16384 32 0 ((ix1 k).along ⟨0, hd⟩ c)) hp).trans
    ((congrArg (iotaInDim S16384 32 0) (ha (ix1 k) (perm e k))).trans (Routing.iota1_ap (perm e k)))

variable {e : IVec S16384 32} {en : Fin 16384 → ℕ} (he : ∀ j, e (ix1 j) = BitVec.ofNat 32 (en j)) (hb : ∀ j, en j < 32)
include he hb

theorem perm_mono (i j : Fin 16384) (h : i < j) : en (perm e i) ≤ en (perm e j) := by
  have key : ∀ a b : Fin 16384, (IntOp.cmpi .slt (e (ix1 a)) (e (ix1 b)) == 1#1) = decide (en a < en b) := fun a b => by
    have := hb a; have := hb b
    rw [he, he, WordCmp.cmpi_slt_ofNat (w := 32) (by omega) (by omega)]
    by_cases hh : en a < en b <;> simp [hh]
  have h0 := sortedFrom_noInversion (fun a b => decide (en a < en b)) (fun a b => IntOp.cmpi .slt (e (ix1 a)) (e (ix1 b)) == 1#1)
    (fun a b hh => by rw [key] at hh; simp only [decide_eq_true_eq, decide_eq_false_iff_not] at hh ⊢; omega)
    (fun a b hh => by rw [key]; exact hh)
    (fun a b c h1 h2 => by simp only [decide_eq_false_iff_not] at h1 h2 ⊢; omega) i j h
  simp only [decide_eq_false_iff_not, Nat.not_lt] at h0
  exact h0

omit hb in
theorem se_at (k : Fin 16384) : seOf e (ix1 k) = BitVec.ofNat 32 (en (perm e k)) :=
  (takeA_at e _ k _ (ord_at e k)).trans (he _)

theorem cnt_at (b : Fin 32) : cntOf e (ix1 b) = BitVec.ofNat 32 (cnt en b.val) := by
  have hidx : ∀ i : Fin 16384, (wrap 32#32 e (ix2 i (0 : Fin 1))).toInt = (en i : Int) := fun i => by
    have := hb i
    rw [wrap_at _ _ i (by rw [he, small_toInt _ (by omega)]; omega), he, small_toInt _ (by omega)]
  have hs0 : ∀ i : Fin 16384, scatter_S32_S16384x1_S16384_n_0_0_1.start (ix1 i) (wrap 32#32 e) 0 = (wrap 32#32 e (ix2 i (0 : Fin 1))).toInt := fun i => by
    unfold ScatterDims.start
    rw [dif_pos (show (0 : Fin 1) ∈ scatter_S32_S16384x1_S16384_n_0_0_1.scatterDimsToOperandDims from List.mem_singleton.mpr rfl)]
    refine congrArg (fun i => (wrap 32#32 e i).toInt) (funext fun b => Fin.ext ?_)
    match b with
    | ⟨0, _⟩ => rfl
    | ⟨1, _⟩ => rfl
  have hw0 : ∀ i : Fin 16384, scatter_S32_S16384x1_S16384_n_0_0_1.window (ix1 i) 0 = 0 := fun i => rfl
  have hiff : ∀ i : Fin 16384, scatter_S32_S16384x1_S16384_n_0_0_1.resultIdx? (ix1 i) (wrap 32#32 e) = some (ix1 b) ↔ en i = b.val := fun i => by
    rw [Routing.resultIdx?_ix1, hs0, hw0, hidx]
    omega
  unfold cntOf Host.scatter
  refine (Routing.foldl_count _ (ix1 b) (fun n => decide (en (n.cast (Routing.numel1 16384)) = b.val)) (fun r n => ?_) _ _ 0 rfl).trans ?_
  · rw [show S16384.rowMajor.symm n = ix1 (n.cast (Routing.numel1 16384)) from Routing.symm1 n]
    have hi := hiff (n.cast (Routing.numel1 16384))
    generalize scatter_S32_S16384x1_S16384_n_0_0_1.resultIdx? (ix1 (n.cast (Routing.numel1 16384))) (wrap 32#32 e) = o at hi ⊢
    cases o with
    | none =>
      dsimp only
      rw [if_neg fun h => by have := hi.2 (of_decide_eq_true h); cases this]
    | some k =>
      dsimp only
      by_cases hh : en (n.cast (Routing.numel1 16384)) = b.val
      · have hk : k = ix1 b := Option.some.inj (hi.2 hh)
        rw [hk, if_pos rfl, if_pos (decide_eq_true hh)]
        rfl
      · rw [if_neg fun h : ix1 b = k => hh (hi.1 (congrArg some h.symm)), if_neg fun h => hh (of_decide_eq_true h)]
  · exact congrArg (BitVec.ofNat 32) ((Nat.zero_add _).trans (count_cast (Routing.numel1 16384) fun i => en i = b.val))

omit he hb

/-- Rounded up to whole blocks, and running sums, on words that hold small numbers. -/
theorem pad_at (c : IVec S32 32) (b : Fin 32) {n : ℕ} (hc : c (ix1 b) = BitVec.ofNat 32 n) (hn : n < 2 ^ 30) :
    padOf c (ix1 b) = BitVec.ofNat 32 (pd n) := by
  have hu : upOf c (ix1 b) = BitVec.ofNat 32 (n + 127) := by
    show c (ix1 b) + 128#32 - 1#32 = _
    rw [hc]
    apply BitVec.eq_of_toNat_eq
    simp only [BitVec.toNat_sub, BitVec.toNat_add, BitVec.toNat_ofNat]
    omega
  have hd := Routing.pyDiv_ap Cert.KernelIdeal.Gen.bcast_S_S32 (upOf c) (constantI S_ 32 128#32) (ix1 b) (a := n + 127) (b := 128) hu rfl (by omega) (by decide) (by decide)
  show Routing.pyDiv Cert.KernelIdeal.Gen.bcast_S_S32 (upOf c) (constantI S_ 32 128#32) (ix1 b) * 128#32 = _
  rw [hd]
  unfold pd
  apply BitVec.eq_of_toNat_eq
  simp only [BitVec.toNat_mul, BitVec.toNat_ofNat]
  omega

theorem cum_at (c : IVec S32 32) (f : ℕ → ℕ) (hc : ∀ b : Fin 32, c (ix1 b) = BitVec.ofNat 32 (f b.val)) (b : Fin 32) :
    subi (cumOf c) c (ix1 b) = BitVec.ofNat 32 (upTo f b.val) := by
  have h := Routing.cumsum1 (N := 32) (Nm1 := 31) rfl c f hc (broadcastInDim S_ ![] Cert.KernelIdeal.Gen.bcast_S_S_ (constantI S_ 32 0#32)) rfl
    Cert.KernelIdeal.Gen.reduceWindows_S32_S32_w32s1p31_0 Cert.KernelIdeal.Gen.h_S_ b
  show cumOf c (ix1 b) - c (ix1 b) = _
  rw [show cumOf c (ix1 b) = BitVec.ofNat 32 (upTo f (b.val + 1)) from h, hc, upTo_succ, BitVec.ofNat_add, BitVec.add_sub_cancel]

include he hb

theorem st_at (b : Fin 32) : stOf (cntOf e) (ix1 b) = BitVec.ofNat 32 (st en b.val) := cum_at _ _ (cnt_at he hb) b
theorem ps_at (b : Fin 32) : psOf (cntOf e) (ix1 b) = BitVec.ofNat 32 (ps en b.val) :=
  cum_at (padOf (cntOf e)) (fun b => pd (cnt en b)) (fun b => pad_at (cntOf e) b (cnt_at he hb b) ((cnt_le en b.val).trans_lt (by norm_num))) b

/-- The row of the `k`-th assignment in the sorted order, as the reference computes it. -/
theorem refDest_at (k : Fin 16384) : refDest e (ix1 k) = BitVec.ofNat 32 (row en (perm e) k) := by
  have hk := hb (perm e k)
  obtain ⟨hp, -⟩ := place en (perm e) (perm_bij e) (perm_mono he hb) k
  show takeB (psOf (cntOf e)) (seOf e) (ix1 k) + BitVec.ofNat 32 k.val - takeB (stOf (cntOf e)) (seOf e) (ix1 k) = _
  rw [takeB_at _ _ k ⟨_, hk⟩ (se_at he k), takeB_at _ _ k ⟨_, hk⟩ (se_at he k), ps_at he hb, st_at he hb]
  unfold row
  show _ = BitVec.ofNat 32 (ps en (en (perm e k)) + (k.val - st en (en (perm e k))))
  conv_lhs => rw [show k.val = (k.val - st en (en (perm e k))) + st en (en (perm e k)) from by omega]
  rw [BitVec.ofNat_add, BitVec.ofNat_add, ← BitVec.add_assoc, BitVec.add_sub_cancel]

end Cert.Proof.Dispatch

end
-- ==== Proof.PreFacts.lean ====
/- What the dispatch's precondition says, and what follows: the host's table of slots is a list of distinct rows of the
   result, the assignment `perm e k` at the `k`-th assignment's row in the sorted order. -/
module

public import proofs.«01_k».proof.Proof.Index
public import proofs.«01_k».proof.Proof.TableVal
public import proofs.«01_k».proof.Proof.Gen.Pre_routed
public import Idealize.ShloMosaic.Lib.ReduceAll

@[expose] public section

noncomputable section

namespace Cert.Proof.Dispatch

open Cert.KernelIdeal Cert.KernelIdeal.Gen
open Idealize.ShloMosaic Idealize.ShloMosaic.ValueIdx

variable {F : FTy → Type} [FloatOps F]

local instance : Cert.Pre_routed.Facts := Cert.Pre_routed.Gen.facts

theorem bit_of_true {p : Bool} (h : BitVec.ofBool p = 1#1) : p = true := by cases p <;> simp_all

variable {C : FVec F S1x128 .f32} {R : FVec F S8192x128 .f32} {X : FVec F S8192x4096 .f32}

/-- The precondition's four parts: the experts' numbers lie in range, the counts are the experts' own, and each place is the place
    in the sorted order. -/
theorem pre_parts (h : Cert.Pre_routed.fn (F := F) C R X = fun _ => 1#1) :
    (∀ j : Fin 16384, 0 ≤ (eOf R (ix1 j)).toInt) ∧ (∀ j : Fin 16384, (eOf R (ix1 j)).toInt < 32) ∧ (∀ b : Fin 32, cOf C (ix1 b) = cntOf (eOf R) (ix1 b))
      ∧ ∀ k : Fin 16384, takeA (rOf R) (ordOf (eOf R)) (ix1 k)
          = BitVec.ofNat 32 k.val - takeB (stOf (cntOf (eOf R))) (seOf (eOf R)) (ix1 k) := by
  haveI : Subsingleton Cert.Pre_routed.S_.Idx := ⟨fun a b => funext fun i => i.elim0⟩
  have h0 := congrFun h (fun a => a.elim0)
  obtain ⟨h1, hr⟩ := IntOp.andi_eq_one.1 h0
  obtain ⟨h2, hc⟩ := IntOp.andi_eq_one.1 h1
  obtain ⟨hl, hu⟩ := IntOp.andi_eq_one.1 h2
  refine ⟨fun j => ?_, fun j => ?_, fun b => ?_, fun k => ?_⟩
  · have e : BitVec.ofBool ((0#32).sle (eOf R (ix1 j))) = 1#1 := Host.reduce_andi_all _ _ _ _ _ hl (ix1 j)
    have := bit_of_true e
    rwa [BitVec.sle_iff_toInt_le] at this
  · have e : BitVec.ofBool ((eOf R (ix1 j)).slt 32#32) = 1#1 := Host.reduce_andi_all _ _ _ _ _ hu (ix1 j)
    have := bit_of_true e
    rwa [BitVec.slt_iff_toInt_lt] at this
  · have e : BitVec.ofBool (cOf C (ix1 b) == cntOf (eOf R) (ix1 b)) = 1#1 := Host.reduce_andi_all _ _ _ _ _ hc (ix1 b)
    exact beq_iff_eq.1 (bit_of_true e)
  · have e : BitVec.ofBool (takeA (rOf R) (ordOf (eOf R)) (ix1 k)
        == BitVec.ofNat 32 k.val - takeB (stOf (cntOf (eOf R))) (seOf (eOf R)) (ix1 k)) = 1#1 := Host.reduce_andi_all _ _ _ _ _ hr (ix1 k)
    exact beq_iff_eq.1 (bit_of_true e)

/-- The experts' numbers. -/
def enOf (R : FVec F S8192x128 .f32) (j : Fin 16384) : ℕ := (eOf R (ix1 j)).toNat

theorem en_eq (j : Fin 16384) : eOf R (ix1 j) = BitVec.ofNat 32 (enOf R j) := by
  unfold enOf
  rw [BitVec.ofNat_toNat, BitVec.setWidth_eq]

/-- A table of experts at each token's two. -/
theorem take2_at (t : IVec S32 32) (idx : IVec S8192x2x1 32) (p : Fin 8192) (q : Fin 2) (b : Fin 32)
    (h : idx (ix3 p q (0 : Fin 1)) = BitVec.ofNat 32 b.val) :
    Host.gather gather_S32_S8192x2x1_S8192x2_n_0_n_n_0_2_1 t idx (ix2 p q) = t (ix1 b) := by
  have hbl := b.isLt
  unfold Host.gather
  refine congrArg t (funext fun a => Fin.ext ?_)
  obtain rfl : a = 0 := Subsingleton.elim _ _
  show min (idx _).toInt.toNat 31 = b.val
  rw [show gather_S32_S8192x2x1_S8192x2_n_0_n_n_0_2_1.siIdx (ix2 p q) _ = ix3 p q (0 : Fin 1) from ?_, h, small_toInt _ (by omega)]
  · omega
  · funext a
    match a with
    | ⟨0, _⟩ => rfl
    | ⟨1, _⟩ => rfl
    | ⟨2, _⟩ => rfl

/-- A pair's number with a third axis of one. -/
theorem bcPair (v : IVec S8192x2 32) (p : Fin 8192) (q : Fin 2) :
    broadcastInDim S8192x2x1 ![0, 1] bcast_S8192x2_S8192x2x1_0_1 v (ix3 p q (0 : Fin 1)) = v (ix2 p q) := by
  refine congrArg v (funext fun a => ?_)
  match a with
  | ⟨0, _⟩ => rfl
  | ⟨1, _⟩ => rfl

/-- A number that is not negative is read as it is. -/
theorem nonneg_wrap (v w : IVec S8192x2 32) (i : S8192x2.Idx) (h : 0 ≤ (v i).toInt) :
    select (cmpi .slt v (broadcastInDim S8192x2 ![] bcast_S_S8192x2 (constantI S_ 32 0#32))) w v i = v i := by
  show Scalar.select (BitVec.ofBool ((v i).slt 0#32)) _ (v i) = _
  have : (v i).slt 0#32 = false := by
    rw [← Bool.not_eq_true, BitVec.slt_iff_toInt_lt]
    simpa using h
  rw [this]
  rfl

theorem at1_eq (j : Fin 16384) : at1 j = (ix1 j : S16384.Idx) := funext fun a => by
  match a with
  | ⟨0, _⟩ => rfl

section Slots
variable (h : Cert.Pre_routed.fn (F := F) C R X = fun _ => 1#1)
include h

theorem en_lt (j : Fin 16384) : enOf R j < 32 := by
  obtain ⟨hl, hu, -, -⟩ := pre_parts h
  have h1 := hl j
  have h2 := hu j
  unfold enOf
  rw [BitVec.toInt_eq_toNat_cond] at h1 h2
  split_ifs at h1 h2 <;> omega

theorem counts_eq : cOf C = cntOf (eOf R) := funext fun i => by
  rw [eq_ix1 i]; exact (pre_parts h).2.2.1 _

/-- The host's slot of the `k`-th assignment in the sorted order. -/
theorem dest_at (k : Fin 16384) : destOf C R (ix1 (perm (eOf R) k)) = BitVec.ofNat 32 (row (enOf R) (perm (eOf R)) k) := by
  have hk := en_lt h (perm (eOf R) k)
  obtain ⟨hp, -⟩ := place (enOf R) (perm (eOf R)) (perm_bij (eOf R)) (perm_mono en_eq (en_lt h)) k
  have hr := (pre_parts h).2.2.2 k
  rw [takeA_at _ _ k _ (ord_at (eOf R) k), takeB_at _ _ k ⟨_, hk⟩ (se_at en_eq k), st_at en_eq (en_lt h)] at hr
  generalize hj : perm (eOf R) k = j at hk hp hr ⊢
  have hjl := j.isLt
  have hjj : j.val = (⟨j.val / 2, by omega⟩ : Fin 8192).val * 2 + (⟨j.val % 2, by omega⟩ : Fin 2).val := by
    show j.val = j.val / 2 * 2 + j.val % 2
    omega
  unfold destOf
  rw [Routing.cast21 _ shapeCasts_S8192x2_S16384 ⟨j.val / 2, by omega⟩ ⟨j.val % 2, by omega⟩ j hjj]
  have he : e2Of R (ix2 ⟨j.val / 2, by omega⟩ ⟨j.val % 2, by omega⟩) = BitVec.ofNat 32 (enOf R j) :=
    (Routing.cast21 (e2Of R) shapeCasts_S8192x2_S16384 _ _ j hjj).symm.trans (en_eq j)
  have hr2 : r2Of R (ix2 ⟨j.val / 2, by omega⟩ ⟨j.val % 2, by omega⟩) = rOf R (ix1 j) :=
    (Routing.cast21 (r2Of R) shapeCasts_S8192x2_S16384 _ _ j hjj).symm
  show Host.gather _ _ _ _ + r2Of R _ = _
  rw [hr2, hr, take2_at _ _ _ _ ⟨enOf R j, hk⟩ ?_, counts_eq h, ps_at en_eq (en_lt h)]
  · unfold row
    rw [hj]
    show BitVec.ofNat 32 (ps (enOf R) (enOf R j)) + (BitVec.ofNat 32 k.val - BitVec.ofNat 32 (st (enOf R) (enOf R j))) = _
    conv_lhs => rw [show k.val = (k.val - st (enOf R) (enOf R j)) + st (enOf R) (enOf R j) from by omega]
    rw [BitVec.ofNat_add (k.val - _), BitVec.add_sub_cancel, BitVec.ofNat_add]
  · exact ((bcPair _ _ _).trans (nonneg_wrap _ _ _ (by rw [he, small_toInt _ (by omega)]; omega))).trans he

/-- The host's table of slots is a list of distinct rows of the result. -/
theorem slots_of_pre : Slots (destOf C R) := by
  have hm := perm_mono en_eq (en_lt h)
  have hb := perm_bij (eOf R)
  have hrow := row_lt (enOf R) (perm (eOf R)) hb hm (en_lt h)
  have hn : ∀ k, (destOf C R (at1 (perm (eOf R) k))).toNat = row (enOf R) (perm (eOf R)) k := fun k => by
    have e : at1 (perm (eOf R) k) = (ix1 (perm (eOf R) k) : S16384.Idx) := at1_eq _
    have := hrow k
    rw [e, dest_at h k, BitVec.toNat_ofNat]
    exact Nat.mod_eq_of_lt (by omega)
  refine ⟨fun j => ?_, fun j j' ee => ?_⟩
  · obtain ⟨k, rfl⟩ := hb.2 j
    have := hrow k
    rw [hn]
    omega
  · obtain ⟨k, rfl⟩ := hb.2 j
    obtain ⟨k', rfl⟩ := hb.2 j'
    rw [hn, hn] at ee
    rw [row_inj (enOf R) (perm (eOf R)) hb hm ee]

/-- The host's slot and the reference's of the `k`-th assignment in the sorted order agree. -/
theorem dest_ref (k : Fin 16384) : destOf C R (ix1 (perm (eOf R) k)) = refDest (eOf R) (ix1 k) :=
  (dest_at h k).trans (refDest_at en_eq (en_lt h) k).symm

end Slots

end Cert.Proof.Dispatch

end
-- ==== Proof.RefValue.lean ====
/- The reference's composed term of its arguments, read at an index: the token rows at their slots, zeros between. -/
module

public import proofs.«01_k».proof.Proof.Run
public import proofs.«01_k».proof.Proof.PreFacts
public import proofs.«01_k».proof.Proof.Gen.ReferenceIdeal
public import proofs.«01_k».proof.Proof.Gen.ReferenceIdeal.Run
public import Idealize.ShloMosaic.Lib.Routing.OpsSet
public import Idealize.ShloMosaic.Lib.Routing.OpsPair

@[expose] public section

noncomputable section

namespace Cert.Proof.Dispatch

open Idealize.ShloMosaic Idealize.ShloMosaic.ValueIdx

variable {F : FTy → Type} [FloatOps F]

section Lands
open Cert.ReferenceIdeal Cert.ReferenceIdeal.Gen

/-- Update `(k, e)` of the reference's scatter lands at `(r, d)` exactly when word `k`, read signed, is `r` and the columns agree. -/
theorem lands_row (idx : IVec S16384x1 32) (k : Fin 16384) (e : Fin 4096) (r : Fin 20480) (d : Fin 4096) :
    scatter_S20480x4096_S16384x1_S16384x4096_1_0_0_1.resultIdx? (ix2 k e) idx = some (ix2 r d)
      ↔ (idx (ix2 k (0 : Fin 1))).toInt = r.val ∧ e = d := by
  have hs0 : scatter_S20480x4096_S16384x1_S16384x4096_1_0_0_1.start (ix2 k e) idx 0 = (idx (ix2 k (0 : Fin 1))).toInt := by
    unfold ScatterDims.start
    rw [dif_pos (show (0 : Fin 2) ∈ scatter_S20480x4096_S16384x1_S16384x4096_1_0_0_1.scatterDimsToOperandDims from List.mem_singleton.mpr rfl)]
    refine congrArg (fun i => (idx i).toInt) (funext fun b => Fin.ext ?_)
    match b with
    | ⟨0, _⟩ => rfl
    | ⟨1, _⟩ => rfl
  have hs1 : scatter_S20480x4096_S16384x1_S16384x4096_1_0_0_1.start (ix2 k e) idx 1 = 0 := by
    unfold ScatterDims.start
    exact dif_neg (show (1 : Fin 2) ∉ [(0 : Fin 2)] by decide)
  have hw0 : scatter_S20480x4096_S16384x1_S16384x4096_1_0_0_1.window (ix2 k e) 0 = 0 := rfl
  have hw1 : scatter_S20480x4096_S16384x1_S16384x4096_1_0_0_1.window (ix2 k e) 1 = e.val := rfl
  rw [Routing.resultIdx?_ix2, hs0, hs1, hw0, hw1, Fin.ext_iff]
  omega

/-- The row numbers the reference repeats: entry `j` is `j / 2`. -/
theorem repeat_word (j : Fin 16384) :
    shapeCast S16384 (broadcastInDim S8192x2 ![0] bcast_S8192_S8192x2_0 (iotaInDim S8192 32 0)) shapeCasts_S8192x2_S16384 (ix1 j)
      = BitVec.ofNat 32 (j.val / 2) := by
  have hj := j.isLt
  have e : Shape.reshapeEquiv shapeCasts_S8192x2_S16384 (ix1 j) = (ix2 ⟨j.val / 2, by omega⟩ ⟨j.val % 2, by omega⟩ : S8192x2.Idx) :=
    Shape.reshapeEquiv_eq_of_rowMajor _ (by
      rw [Shape.rowMajor_val_two]
      show j.val / 2 * 2 + j.val % 2 = _
      rw [Shape.rowMajor_val_one]
      show j.val / 2 * 2 + j.val % 2 = j.val
      omega)
  unfold shapeCast
  rw [e]
  rfl

/-- The token of every assignment, in the order of the experts. -/
def tokOf (e : IVec S16384 32) : IVec S16384 32 :=
  takeA (shapeCast S16384 (broadcastInDim S8192x2 ![0] bcast_S8192_S8192x2_0 (iotaInDim S8192 32 0)) shapeCasts_S8192x2_S16384) (ordOf e)

/-- The reference's result as a term of its arguments: the tokens of the sorted assignments, scattered to their slots. -/
def refOut (R : FVec F S8192x128 .f32) (X : FVec F S8192x4096 .f32) : FVec F S20480x4096 .f32 :=
  Host.scatter scatter_S20480x4096_S16384x1_S16384x4096_1_0_0_1 (fun _ b => b)
    (broadcastInDim S20480x4096 ![] bcast_S_S20480x4096 (constant S_ .f32 0x00000000#32))
    (wrap 20480#32 (refDest (eOf R)))
    (Host.gather gather_S8192x4096_S16384x1_S16384x4096_1_0_n_n_0_1_14096 X (wrap 8192#32 (tokOf (eOf R))))

theorem tok_at (e : IVec S16384 32) (k : Fin 16384) : tokOf e (ix1 k) = BitVec.ofNat 32 ((perm e k).val / 2) :=
  (takeA_at _ _ k (perm e k) (ord_at e k)).trans (repeat_word _)

/-- The reference's result is what the kernel's writes leave, the slots being those of the sorted assignments. -/
theorem refOut_eq (t : IVec S16384 32) (R : FVec F S8192x128 .f32) (X : FVec F S8192x4096 .f32) (hs : Slots t)
    (hd : ∀ k : Fin 16384, t (ix1 (perm (eOf R) k)) = refDest (eOf R) (ix1 k)) :
    refOut R X = W (F := F) t X zeros 16384 := by
  have hb := perm_bij (eOf R)
  have ht : ∀ k : Fin 16384, (refDest (eOf R) (ix1 k)).toInt = ((t (at1 (perm (eOf R) k))).toNat : Int) := fun k => by
    have := hs.1 (perm (eOf R) k)
    rw [← hd k, at1_eq] at *
    rw [BitVec.toInt_eq_toNat_cond]
    split_ifs <;> omega
  have hrow : ∀ k : Fin 16384, wrap 8192#32 (tokOf (eOf R)) (ix2 k (0 : Fin 1)) = BitVec.ofNat 32 ((perm (eOf R) k).val / 2) := fun k => by
    have hk := (perm (eOf R) k).isLt
    rw [wrap_at _ _ _ (by rw [tok_at, small_toInt _ (by omega)]; omega), tok_at]
  have hupd := fun (k : Fin 16384) (e : Fin 4096) =>
    Routing.gather_row gather_S8192x4096_S16384x1_S16384x4096_1_0_n_n_0_1_14096 rfl rfl rfl rfl rfl X _ k e
      ⟨(perm (eOf R) k).val / 2, by have := (perm (eOf R) k).isLt; omega⟩ (hrow k) (by norm_num)
  funext y
  have hlands : ∀ (u : S16384x4096.Idx), scatter_S20480x4096_S16384x1_S16384x4096_1_0_0_1.resultIdx? u (wrap 20480#32 (refDest (eOf R))) = some y
      ↔ (t (at1 (perm (eOf R) (u 0)))).toNat = (y 0).val ∧ u 1 = y 1 := fun u => by
    have h := lands_row (wrap 20480#32 (refDest (eOf R))) (u 0) (u 1) (y 0) (y 1)
    have e1 := (congrArg BitVec.toInt (wrap_at 20480#32 (refDest (eOf R)) (u 0) (by rw [ht (u 0)]; omega))).trans (ht (u 0))
    refine (Iff.of_eq (congrArg₂ (fun a b => scatter_S20480x4096_S16384x1_S16384x4096_1_0_0_1.resultIdx? a _ = some b) (eq_ix2 u) (eq_ix2 y))).trans
      (h.trans (and_congr_left fun _ => ?_))
    exact (Iff.of_eq (congrArg (· = _) e1)).trans Nat.cast_inj
  unfold refOut
  by_cases hy : ∃ j : Fin 16384, (t (at1 j)).toNat = (y 0).val
  · obtain ⟨j, hj⟩ := hy
    obtain ⟨k, rfl⟩ := hb.2 j
    rw [W_hit hs (perm (eOf R) k) (perm (eOf R) k).isLt y hj.symm]
    refine Routing.scatter_set_hit _ _ _ _ y _ (fun u hu => ?_) (ix2 k (y 1)) ((hlands _).2 ⟨hj, rfl⟩)
    obtain ⟨h0, h1⟩ := (hlands u).1 hu
    have hju : u 0 = k := hb.1 (hs.2 _ _ (h0.trans hj.symm))
    rw [eq_ix2 u, hju, h1]
    exact (hupd k (y 1)).trans (congrArg X (funext fun a => by match a with | ⟨0, _⟩ => rfl | ⟨1, _⟩ => rfl))
  · rw [W_miss y fun j _ h => hy ⟨j, h⟩]
    exact Routing.scatter_set_miss _ _ _ _ y fun u hu => hy ⟨perm (eOf R) (u 0), ((hlands u).1 hu).1⟩

end Lands

end Cert.Proof.Dispatch

end
-- ==== Proof.DispatchClaims.lean ====
/- The claims about the expert dispatch, from its run, the reference's run and the value both leave. -/
module

public import proofs.«01_k».proof.Defs
public import proofs.«01_k».proof.Proof.Run
public import proofs.«01_k».proof.Proof.PreFacts
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_routed

@[expose] public section

noncomputable section

namespace Cert.Proof.Dispatch

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Reference.Facts := Cert.Reference.Gen.facts
local instance : Cert.Pre_routed.Facts := Cert.Pre_routed.Gen.facts

/-- The reference's run at any float values, its result as `refOut`. -/
theorem run_ref {F : FTy → Type} [FloatOps F] (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v72)
            = refOut (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2) :=
  Cert.ReferenceIdeal.Value.run m ρ

theorem frame_KernelIdeal : Cert.quiescent_KernelIdeal := fun m g hp =>
  (θ_run Cert.KernelIdeal.defs _ _).mono (fun _ h => ⟨fun c => (h.1 c).2, h.2⟩)
    (run_main (F := Ideal) m g fun c => slots_of_pre (hp c))

theorem frame_Kernel : Cert.quiescent_Kernel := fun m g hp =>
  (θ_run Cert.KernelIdeal.defs _ _).mono (fun _ h => ⟨fun c => (h.1 c).2, h.2⟩)
    (run_main (F := Bits) m g fun c => slots_of_pre (hp c))

theorem frame_ReferenceIdeal : Cert.quiescent_ReferenceIdeal := fun m g _ =>
  (θ_run Cert.ReferenceIdeal.defs _ _).mono (fun r h => ⟨fun c => (h c).2, sem_eq_zero_of_no_sems (by decide) r.2⟩)
    (run_ref (F := Ideal) m g)

set_option maxHeartbeats 4000000 in
theorem frame_Reference : Cert.quiescent_Reference := fun m g _ =>
  (θ_run Cert.ReferenceIdeal.defs _ _).mono (fun r h => ⟨fun c => (h c).2, sem_eq_zero_of_no_sems (by decide) r.2⟩)
    (run_ref (F := Bits) m g)

theorem value_ideal : Cert.algebraic_KernelIdeal_ReferenceIdeal := fun m g m' g' hp hag =>
  have hs : ∀ c, Slots (tblOf m c) := fun c => slots_of_pre (hp c)
  ⟨fun c => out m c,
    (θ_run Cert.KernelIdeal.defs _ _).mono (fun _ h c => h.1 c) (run_main (F := Ideal) m g hs),
    (θ_run Cert.ReferenceIdeal.defs _ _).mono (fun _ h c => ⟨(h c).1.trans (by
        rw [(hag c).2.1, (hag c).2.2]
        exact refOut_eq _ _ _ (hs c) (dest_ref (hp c))), (h c).2⟩) (run_ref (F := Ideal) m' g')⟩

set_option maxHeartbeats 4000000 in
theorem value_bits : Cert.bitexact_Kernel_Reference := fun m g m' g' hp hag =>
  have hs : ∀ c, Slots (tblOf (F := Bits) m c) := fun c => slots_of_pre (hp c)
  ⟨fun c => out (F := Bits) m c,
    (θ_run Cert.KernelIdeal.defs _ _).mono (fun _ h c => h.1 c) (run_main (F := Bits) m g hs),
    (θ_run Cert.ReferenceIdeal.defs _ _).mono (fun _ h c => ⟨(h c).1.trans
        ((congrArg₂ (refOut (F := Bits)) (hag c).2.1 (hag c).2.2).trans (refOut_eq _ _ _ (hs c) (dest_ref (hp c)))), (h c).2⟩) (run_ref (F := Bits) m' g')⟩

end Cert.Proof.Dispatch

end
-- ==== Proof.InProjBlock.lean ====
/- The input projection, one grid point: the block a point writes back. Outside the rotary columns it is the product of a
   row block and a column block; inside them each 64-lane head is rotated with the tables' blocks, in four stores of 128
   lanes, and scaled. Both cases are read off the generated run as one value per place of the block. -/
module

public import proofs.«01_k».proof.Defs
public import proofs.«01_k».proof.Proof.Gen.Kernel2Ideal
public import proofs.«01_k».proof.Proof.Gen.Kernel2Ideal.Value
public import Idealize.ShloMosaic.Lib.MatmulPlain
public import Idealize.ShloMosaic.Lib.KernelVsHost
public import Idealize.ShloMosaic.Lib.Pipeline.ValueKit.Tiles

@[expose] public section

noncomputable section

namespace Cert.Proof.InProj

open Cert.Kernel2Ideal Cert.Kernel2Ideal.Gen Cert.Kernel2Ideal.Value Idealize.ShloMosaic Idealize.ShloMosaic.TcCoe
  Idealize.ShloMosaic.ValueIdx Idealize.SL.Sem
open scoped BigOperators

theorem hz : (![0, 0] : Fin 2 → Nat) = fun _ => 0 := funext fun a => by fin_cases a <;> rfl

/-- The product of the two blocks, place by place. -/
theorem prod_apply (x0 : Vec Ideal S1024x4096 .bf16) (x1 : Vec Ideal S4096x512 .bf16) (j : S1024x512.Idx) :
    k0_pay1 x0 x1 j = (show EReal from ∑ k : Fin 4096, (show EReal from x0 (ix2 (j 0) k)) * (show EReal from x1 (ix2 k (j 1)))) := by
  unfold k0_pay1
  simp only [shapeCast_self]
  show (show EReal from FloatOps.matmul (DotDims.plain 1024 4096 512) none x0 x1 (constant (F := Ideal) S1024x512 .f32 0x00000000#32) j) = _
  refine (congrArg (FloatOps.matmul (DotDims.plain 1024 4096 512) none x0 x1 (constant (F := Ideal) S1024x512 .f32 0x00000000#32)) (eq_ix2 j)).trans ?_
  refine (Ideal.matmul_plain_apply none x0 x1 _ (j 0) (j 1)).trans ?_
  refine (congrArg (· + _) (show (constant (F := Ideal) S1024x512 .f32 0x00000000#32) (ix2 (j 0) (j 1)) = (0 : EReal) from Ideal.ofBits_zero_f32)).trans (zero_add _)

/-- One store's rotated lanes: the 128 lanes `x`, the tables' blocks and the scale. -/
def rot {F : FTy → Type} [FloatOps F] (s : F .f32) (x co si : FVec F S1024x128 .f32) : FVec F S1024x128 .bf16 :=
  truncf .bf16 (mulf (addf (mulf x co)
    (mulf (select k0_pay15
      (subf (broadcast S1024x128 (Scalar.ofBits .f32 0x00000000#32)) (dynamicRotate 1 96#32 none x rotates_S1024x128_d1))
      (dynamicRotate 1 32#32 none x rotates_S1024x128_d1)) si)) (broadcast S1024x128 s)) bitsLt_bf16_f32

/-- The four stores' payloads are those lanes. -/
theorem pay2_eq {F : FTy → Type} [FloatOps F] (s : F .f32) (co si : Vec F S1024x128 .f32) (z : FVec F S1024x512 .f32) :
    k0_pay2 s co si (k0_pay14 z) k0_pay15 (k0_pay16 z) (k0_pay17 z)
      = rot s (extractStridedSlice S1024x128 ![0, 384] z slices_S1024x512_o0_384_S1024x128) co si := rfl
theorem pay13_eq {F : FTy → Type} [FloatOps F] (s : F .f32) (co si : Vec F S1024x128 .f32) (z : FVec F S1024x512 .f32) :
    k0_pay13 s co si (k0_pay8 z) (Scalar.select (Scalar.cmpi .eq 64#32 0#32) 1#32 64#32) k0_pay9 k0_pay10 k0_pay11 k0_pay12
      = rot s (extractStridedSlice S1024x128 ![0, 256] z slices_S1024x512_o0_256_S1024x128) co si := rfl
theorem pay7_eq {F : FTy → Type} [FloatOps F] (s : F .f32) (co si : Vec F S1024x128 .f32) (z : FVec F S1024x512 .f32) :
    k0_pay7 s co si (k0_pay6 z) (iota .tc S1024x128 32 [1] iota_S1024x128_d1_w32) 64#32 0#32
      = rot s (extractStridedSlice S1024x128 ![0, 128] z slices_S1024x512_o0_128_S1024x128) co si := rfl
theorem pay5_eq {F : FTy → Type} [FloatOps F] (n : BitVec 32) (co si : Vec F S1024x128 .f32) (z : FVec F S1024x512 .f32) :
    k0_pay5 n z co si
      = rot (k0_pay4 (F := F) n) (extractStridedSlice S1024x128 ![0, 0] z slices_S1024x512_o0_0_S1024x128) co si := rfl

/-- The lanes of the lower half of each head: the select's condition. -/
theorem mask_lane : ∀ l : Fin 128, k0_pay15 (ix2 (0 : Fin 1024) l) = if l.val % 64 < 32 then 1#1 else 0#1 := by
  decide +kernel

theorem mask_apply (r : Fin 1024) (l : Fin 128) : k0_pay15 (ix2 r l) = if l.val % 64 < 32 then 1#1 else 0#1 :=
  (show k0_pay15 (ix2 r l) = k0_pay15 (ix2 (0 : Fin 1024) l) from rfl).trans (mask_lane l)

/-- A block at a row and a natural column. -/
def at2 (x : FVec Ideal S1024x512 .f32) (r : Fin 1024) (n : Nat) : EReal :=
  x (ix2 r (⟨n % 512, Nat.mod_lt _ (by decide)⟩ : Fin 512))

/-- A table's block at a row and a natural column. -/
def tab (x : FVec Ideal S1024x128 .f32) (r : Fin 1024) (n : Nat) : EReal :=
  x (ix2 r (⟨n % 128, Nat.mod_lt _ (by decide)⟩ : Fin 128))

/-- The rotated block at a place. -/
def E (z : FVec Ideal S1024x512 .f32) (co si : FVec Ideal S1024x128 .f32) (s : EReal) (y : S1024x512.Idx) : EReal :=
  (at2 z (y 0) (y 1).val * tab co (y 0) (y 1).val
    + (if (y 1).val % 64 < 32 then -(at2 z (y 0) ((y 1).val + 32)) else at2 z (y 0) ((y 1).val - 32)) * tab si (y 0) (y 1).val) * s

/-- A store's lanes are the rotated block's at the store's columns. -/
theorem rot_apply (s : EReal) (z : FVec Ideal S1024x512 .f32) (co si : FVec Ideal S1024x128 .f32) (o : Nat)
    (h : S1024x512.Slices ![0, o] S1024x128) (ho : o + 128 ≤ 512) (ho' : o % 128 = 0) (r : Fin 1024) (l : Fin 128) (y : S1024x512.Idx)
    (h0 : (y 0).val = r.val) (h1 : (y 1).val = o + l.val) :
    (show EReal from rot (F := Ideal) s (extractStridedSlice S1024x128 ![0, o] z h) co si (ix2 r l)) = E z co si s y := by
  have hr : y 0 = r := Fin.ext h0
  have hl := l.isLt
  have hx : ∀ l' : Fin 128, extractStridedSlice S1024x128 ![0, o] z h (ix2 r l') = at2 z r (o + l'.val) := fun l' => by
    refine extractStridedSlice_apply _ z h (ix2 r l') _ fun a => ?_
    match a with
    | ⟨0, _⟩ => show r.val = 0 + r.val; omega
    | ⟨1, _⟩ => have := l'.isLt; show (o + l'.val) % 512 = o + l'.val; omega
  have ht : ∀ c : FVec Ideal S1024x128 .f32, c (ix2 r l) = tab c r (y 1).val := fun c => by
    refine congrArg (fun q => c (ix2 r q)) (Fin.ext ?_)
    show l.val = (y 1).val % 128
    omega
  have hm : ∀ (a b : FVec Ideal S1024x128 .f32), select k0_pay15 a b (ix2 r l) = if (y 1).val % 64 < 32 then a (ix2 r l) else b (ix2 r l) := fun a b => by
    show (if k0_pay15 (ix2 r l) = 1#1 then a (ix2 r l) else b (ix2 r l)) = _
    rw [mask_apply]
    have e : (y 1).val % 64 = l.val % 64 := by omega
    rw [e]
    by_cases hc : l.val % 64 < 32
    · rw [if_pos hc, if_pos rfl, if_pos hc]
    · rw [if_neg hc, if_neg (by decide), if_neg hc]
  have hlow : dynamicRotate 1 96#32 none (extractStridedSlice S1024x128 ![0, o] z h) rotates_S1024x128_d1 (ix2 r l)
      = at2 z r (o + (l.val + 32) % 128) := by
    refine (dynamicRotate_apply _ _ _ _ (ix2 r l) (ix2 r (⟨(l.val + 32) % 128, Nat.mod_lt _ (by decide)⟩ : Fin 128)) fun b => ?_).trans (hx _)
    match b with
    | ⟨0, _⟩ => rfl
    | ⟨1, _⟩ => show (l.val + 32) % 128 = (l.val + 128 - 96) % 128; omega
  have hhigh : dynamicRotate 1 32#32 none (extractStridedSlice S1024x128 ![0, o] z h) rotates_S1024x128_d1 (ix2 r l)
      = at2 z r (o + (l.val + 96) % 128) := by
    refine (dynamicRotate_apply _ _ _ _ (ix2 r l) (ix2 r (⟨(l.val + 96) % 128, Nat.mod_lt _ (by decide)⟩ : Fin 128)) fun b => ?_).trans (hx _)
    match b with
    | ⟨0, _⟩ => rfl
    | ⟨1, _⟩ => show (l.val + 96) % 128 = (l.val + 128 - 32) % 128; omega
  show ((show EReal from extractStridedSlice S1024x128 ![0, o] z h (ix2 r l)) * (show EReal from co (ix2 r l))
    + (show EReal from select k0_pay15 _ _ (ix2 r l)) * (show EReal from si (ix2 r l))) * s = _
  rw [hm, hx, ht co, ht si]
  unfold E
  rw [hr, h1]
  refine congrArg (fun q : EReal => (at2 z r (o + l.val) * tab co r (o + l.val) + q * tab si r (o + l.val)) * s) ?_
  by_cases hc : (o + l.val) % 64 < 32
  · rw [if_pos hc, if_pos hc]
    show (show EReal from Scalar.ofBits (F := Ideal) .f32 0x00000000#32) - (show EReal from dynamicRotate 1 96#32 none (extractStridedSlice S1024x128 ![0, o] z h) rotates_S1024x128_d1 (ix2 r l)) = _
    rw [hlow, show (Scalar.ofBits (F := Ideal) .f32 0x00000000#32 : EReal) = 0 from Ideal.ofBits_zero_f32]
    refine (zero_sub _).trans (congrArg (fun n => -(at2 z r n)) ?_)
    omega
  · rw [if_neg hc, if_neg hc]
    refine hhigh.trans (congrArg (fun n => at2 z r n) ?_)
    omega

theorem rot_at (s : EReal) (z : FVec Ideal S1024x512 .f32) (co si : FVec Ideal S1024x128 .f32) (o : Nat)
    (h : S1024x512.Slices ![0, o] S1024x128) (ho : o + 128 ≤ 512) (ho' : o % 128 = 0) (x : S1024x128.Idx) (y : S1024x512.Idx)
    (h0 : (y 0).val = (x 0).val) (h1 : (y 1).val = o + (x 1).val) :
    (show EReal from rot (F := Ideal) s (extractStridedSlice S1024x128 ![0, o] z h) co si x) = E z co si s y :=
  (congrArg (rot (F := Ideal) s (extractStridedSlice S1024x128 ![0, o] z h) co si) (eq_ix2 x)).trans
    (rot_apply s z co si o h ho ho' (x 0) (x 1) y h0 h1)

variable (c : Dev nD) (i : grid0.Coords) (arg2 : Memref sig .tc .vmem S1024x4096 .bf16) (harg2 : arg2.IsWhole)
  (arg3 : Memref sig .tc .vmem S4096x512 .bf16) (harg3 : arg3.IsWhole) (arg4 : Memref sig .tc .vmem S1024x128 .f32) (harg4 : arg4.IsWhole)
  (arg5 : Memref sig .tc .vmem S1024x128 .f32) (harg5 : arg5.IsWhole) (arg6 : Memref sig .tc .vmem S1024x512 .bf16) (harg6 : arg6.IsWhole)

/-- Outside the rotary columns the block is the product of the two blocks. -/
theorem out_A_eq (hc0 hc1) (x0 : Vec Ideal S1024x4096 .bf16) (x1 : Vec Ideal S4096x512 .bf16) (x2 x3 : Vec Ideal S1024x128 .f32) :
    out0_A_4 c i arg2 harg2 arg3 harg3 arg4 harg4 arg5 harg5 arg6 harg6 hc0 hc1 x0 x1 x2 x3 = k0_pay3 x0 x1 := by
  unfold out0_A_4
  rw [View.read_writes_junk_eq_canon]
  show View.canon (Val := Elt Ideal) (s := S1024x512) (e := .bf16) [⟨Rect.unit (s := S1024x512) ![0, 0] S1024x512.size inb_S1024x512_S1024x512_0_0,
    k0_pay3 (View.readAt (Elt Ideal) arg2.view (Rect.unit (s := S1024x4096) ![0, 0] S1024x4096.size inb_S1024x4096_S1024x4096_0_0).toLoadRect (harg2.unread x0))
      (View.readAt (Elt Ideal) arg3.view (Rect.unit (s := S4096x512) ![0, 0] S4096x512.size inb_S4096x512_S4096x512_0_0).toLoadRect (harg3.unread x1))⟩] = _
  rw [View.canon_unit_zero hz]
  simp only [View.readAt_eq_ld, harg2.read_unread, harg3.read_unread]
  rw [View.ld_unit_zero hz, View.ld_unit_zero hz]

/-- In the rotary columns it is the rotated product. -/
theorem out_B_eq (hc0 hc1) (x0 : Vec Ideal S1024x4096 .bf16) (x1 : Vec Ideal S4096x512 .bf16) (x2 x3 : Vec Ideal S1024x128 .f32)
    (y : S1024x512.Idx) :
    (show EReal from out0_B_4 c i arg2 harg2 arg3 harg3 arg4 harg4 arg5 harg5 arg6 harg6 hc0 hc1 x0 x1 x2 x3 y)
      = E (k0_pay1 x0 x1) x2 x3 (k0_pay4 (F := Ideal) (BitVec.ofNat 32 (i 1).val)) y := by
  have e0 : View.readAt (Elt Ideal) arg2.view (Rect.unit (s := S1024x4096) ![0, 0] S1024x4096.size inb_S1024x4096_S1024x4096_0_0).toLoadRect (harg2.unread x0) = x0 := by
    rw [View.readAt_eq_ld, harg2.read_unread, View.ld_unit_zero hz]
  have e1 : View.readAt (Elt Ideal) arg3.view (Rect.unit (s := S4096x512) ![0, 0] S4096x512.size inb_S4096x512_S4096x512_0_0).toLoadRect (harg3.unread x1) = x1 := by
    rw [View.readAt_eq_ld, harg3.read_unread, View.ld_unit_zero hz]
  have e2 : View.readAt (Elt Ideal) arg4.view (Rect.unit (s := S1024x128) ![0, 0] S1024x128.size inb_S1024x128_S1024x128_0_0).toLoadRect (harg4.unread x2) = x2 := by
    rw [View.readAt_eq_ld, harg4.read_unread, View.ld_unit_zero hz]
  have e3 : View.readAt (Elt Ideal) arg5.view (Rect.unit (s := S1024x128) ![0, 0] S1024x128.size inb_S1024x128_S1024x128_0_0).toLoadRect (harg5.unread x3) = x3 := by
    rw [View.readAt_eq_ld, harg5.read_unread, View.ld_unit_zero hz]
  have hcov := cover0_B_4 c i arg2 harg2 arg3 harg3 arg4 harg4 arg5 harg5 arg6 harg6 hc0 hc1 x0 x1 x2 x3 y
  unfold out0_B_4
  rw [View.read_writes_junk_eq_canon]
  refine View.canon_eq_of_allAt _ y _ hcov ?_
  let s : Ideal .f32 := k0_pay4 (F := Ideal) (BitVec.ofNat 32 (i 1).val)
  show View.AllAt (Val := Elt Ideal) (S := S1024x512) (e := .bf16)
    [⟨Rect.unit (s := S1024x512) ![0, 384] S1024x128.size inb_S1024x512_S1024x128_0_384,
        k0_pay2 s (View.readAt (Elt Ideal) arg4.view (Rect.unit (s := S1024x128) ![0, 0] S1024x128.size inb_S1024x128_S1024x128_0_0).toLoadRect (harg4.unread x2)) (View.readAt (Elt Ideal) arg5.view (Rect.unit (s := S1024x128) ![0, 0] S1024x128.size inb_S1024x128_S1024x128_0_0).toLoadRect (harg5.unread x3)) (k0_pay14 (k0_pay1 (View.readAt (Elt Ideal) arg2.view (Rect.unit (s := S1024x4096) ![0, 0] S1024x4096.size inb_S1024x4096_S1024x4096_0_0).toLoadRect (harg2.unread x0)) (View.readAt (Elt Ideal) arg3.view (Rect.unit (s := S4096x512) ![0, 0] S4096x512.size inb_S4096x512_S4096x512_0_0).toLoadRect (harg3.unread x1)))) k0_pay15 (k0_pay16 (k0_pay1 (View.readAt (Elt Ideal) arg2.view (Rect.unit (s := S1024x4096) ![0, 0] S1024x4096.size inb_S1024x4096_S1024x4096_0_0).toLoadRect (harg2.unread x0)) (View.readAt (Elt Ideal) arg3.view (Rect.unit (s := S4096x512) ![0, 0] S4096x512.size inb_S4096x512_S4096x512_0_0).toLoadRect (harg3.unread x1)))) (k0_pay17 (k0_pay1 (View.readAt (Elt Ideal) arg2.view (Rect.unit (s := S1024x4096) ![0, 0] S1024x4096.size inb_S1024x4096_S1024x4096_0_0).toLoadRect (harg2.unread x0)) (View.readAt (Elt Ideal) arg3.view (Rect.unit (s := S4096x512) ![0, 0] S4096x512.size inb_S4096x512_S4096x512_0_0).toLoadRect (harg3.unread x1))))⟩,
      ⟨Rect.unit (s := S1024x512) ![0, 256] S1024x128.size inb_S1024x512_S1024x128_0_256,
        k0_pay13 s (View.readAt (Elt Ideal) arg4.view (Rect.unit (s := S1024x128) ![0, 0] S1024x128.size inb_S1024x128_S1024x128_0_0).toLoadRect (harg4.unread x2)) (View.readAt (Elt Ideal) arg5.view (Rect.unit (s := S1024x128) ![0, 0] S1024x128.size inb_S1024x128_S1024x128_0_0).toLoadRect (harg5.unread x3)) (k0_pay8 (k0_pay1 (View.readAt (Elt Ideal) arg2.view (Rect.unit (s := S1024x4096) ![0, 0] S1024x4096.size inb_S1024x4096_S1024x4096_0_0).toLoadRect (harg2.unread x0)) (View.readAt (Elt Ideal) arg3.view (Rect.unit (s := S4096x512) ![0, 0] S4096x512.size inb_S4096x512_S4096x512_0_0).toLoadRect (harg3.unread x1)))) (Scalar.select (Scalar.cmpi .eq 64#32 0#32) 1#32 64#32) k0_pay9 k0_pay10 k0_pay11 k0_pay12⟩,
      ⟨Rect.unit (s := S1024x512) ![0, 128] S1024x128.size inb_S1024x512_S1024x128_0_128,
        k0_pay7 s (View.readAt (Elt Ideal) arg4.view (Rect.unit (s := S1024x128) ![0, 0] S1024x128.size inb_S1024x128_S1024x128_0_0).toLoadRect (harg4.unread x2)) (View.readAt (Elt Ideal) arg5.view (Rect.unit (s := S1024x128) ![0, 0] S1024x128.size inb_S1024x128_S1024x128_0_0).toLoadRect (harg5.unread x3)) (k0_pay6 (k0_pay1 (View.readAt (Elt Ideal) arg2.view (Rect.unit (s := S1024x4096) ![0, 0] S1024x4096.size inb_S1024x4096_S1024x4096_0_0).toLoadRect (harg2.unread x0)) (View.readAt (Elt Ideal) arg3.view (Rect.unit (s := S4096x512) ![0, 0] S4096x512.size inb_S4096x512_S4096x512_0_0).toLoadRect (harg3.unread x1)))) (iota .tc S1024x128 32 [1] iota_S1024x128_d1_w32) 64#32 0#32⟩,
      ⟨Rect.unit (s := S1024x512) ![0, 0] S1024x128.size inb_S1024x512_S1024x128_0_0,
        k0_pay5 (BitVec.ofNat 32 (i 1).val) (k0_pay1 (View.readAt (Elt Ideal) arg2.view (Rect.unit (s := S1024x4096) ![0, 0] S1024x4096.size inb_S1024x4096_S1024x4096_0_0).toLoadRect (harg2.unread x0)) (View.readAt (Elt Ideal) arg3.view (Rect.unit (s := S4096x512) ![0, 0] S4096x512.size inb_S4096x512_S4096x512_0_0).toLoadRect (harg3.unread x1))) (View.readAt (Elt Ideal) arg4.view (Rect.unit (s := S1024x128) ![0, 0] S1024x128.size inb_S1024x128_S1024x128_0_0).toLoadRect (harg4.unread x2)) (View.readAt (Elt Ideal) arg5.view (Rect.unit (s := S1024x128) ![0, 0] S1024x128.size inb_S1024x128_S1024x128_0_0).toLoadRect (harg5.unread x3))⟩] y _
  rw [e0, e1, e2, e3, pay2_eq, pay13_eq, pay7_eq, pay5_eq]
  refine View.allAt_cons_unit _ _ _ _ _ (fun x hx => rot_at _ _ _ _ 384 _ (by decide) (by decide) x y ((hx 0).trans (Nat.zero_add _)) (hx 1)) ?_
  refine View.allAt_cons_unit _ _ _ _ _ (fun x hx => rot_at _ _ _ _ 256 _ (by decide) (by decide) x y ((hx 0).trans (Nat.zero_add _)) (hx 1)) ?_
  refine View.allAt_cons_unit _ _ _ _ _ (fun x hx => rot_at _ _ _ _ 128 _ (by decide) (by decide) x y ((hx 0).trans (Nat.zero_add _)) (hx 1)) ?_
  exact View.allAt_cons_unit _ _ _ _ _ (fun x hx => rot_at _ _ _ _ 0 _ (by decide) (by decide) x y ((hx 0).trans (Nat.zero_add _)) (hx 1)) (View.allAt_nil _ _)

end Cert.Proof.InProj

end
-- ==== Proof.InProjRef.lean ====
/- The input projection's reference, at an index: the product's column, the gate's columns skipped, and in the query and key
   columns the rotary combination of a head's two halves, the queries scaled. -/
module

public import proofs.«01_k».proof.Defs
public import proofs.«01_k».proof.Proof.Gen.Reference2Ideal
public import proofs.«01_k».proof.Proof.Gen.Reference2Ideal.Run
public import Idealize.ShloMosaic.Lib.StackMember
public import Idealize.ShloMosaic.Lib.IdealHost
public import Idealize.ShloMosaic.Lib.Pipeline.Value

@[expose] public section

noncomputable section

namespace Cert.Proof.InProj

open Cert.Reference2Ideal Cert.Reference2Ideal.Gen Cert.Reference2Ideal.Value Idealize.ShloMosaic Idealize.ShloMosaic.TcCoe
  Idealize.ShloMosaic.ValueIdx Idealize.SL.Sem
open scoped BigOperators

/-- The product's column the result's column `n` comes from. -/
def wc (n : Nat) : Nat := if n < 1536 then n else n + 64

/-- An array of the product's shape at a row and a natural column. -/
def zat (z : FVec Ideal S8192x12864 .f32) (r : Fin 8192) (n : Nat) : EReal :=
  z (ix2 r (⟨n % 12864, Nat.mod_lt _ (by decide)⟩ : Fin 12864))

/-- A rotary table at a row and a natural lane. -/
def tbl (x : FVec Ideal S8192x32 .f32) (r : Fin 8192) (n : Nat) : EReal :=
  x (ix2 r (⟨n % 32, Nat.mod_lt _ (by decide)⟩ : Fin 32))

/-- The scale of a rotary column. -/
def sc (n : Nat) : EReal := if n < 3584 then (Scalar.ofBits (F := Ideal) .f32 0x3E000000#32 : EReal) else 1

/-- The result at row `r`, column `n`, from the whole product `z` and the tables. -/
def Gn (z : FVec Ideal S8192x12864 .f32) (co si : FVec Ideal S8192x32 .f32) (r : Fin 8192) (n : Nat) : EReal :=
  if 1536 ≤ n ∧ n < 4096 then
    (zat z r (wc n) * tbl co r n + (if n % 64 < 32 then -(zat z r (wc (n + 32))) else zat z r (wc (n - 32))) * tbl si r n) * sc n
  else zat z r (wc n)

def G (z : FVec Ideal S8192x12864 .f32) (co si : FVec Ideal S8192x32 .f32) : FVec Ideal S8192x12800 .bf16 :=
  fun i => Gn z co si (i 0) (i 1).val

/-- The whole product, place by place. -/
def prodZ (a : FVec Ideal S8192x4096 .bf16) (w : FVec Ideal S4096x12864 .f32) : FVec Ideal S8192x12864 .f32 :=
  fun i => (show EReal from ∑ k : Fin 4096, (show EReal from a (ix2 (i 0) k)) * (show EReal from w (ix2 k (i 1))))

theorem dot_eq (a : FVec Ideal S8192x4096 .bf16) (w : FVec Ideal S4096x12864 .f32) :
    Host.dotGeneral dot_S8192x4096_S4096x12864_S8192x12864_1_0_0_1_n_n none (extf .f32 a bitsLt_bf16_f32) w = prodZ a w := by
  funext i
  exact (congrArg (Host.dotGeneral (DotDims.plain 8192 4096 12864) none (extf .f32 a bitsLt_bf16_f32) w) (eq_ix2 i)).trans
    (Idealize.ShloMosaic.StackMember.dotGeneral_plain_apply none _ w (i 0) (i 1))

/-- A slice of columns of the product. -/
theorem slice_apply (z : FVec Ideal S8192x12864 .f32) (W o : Nat) (h : S8192x12864.Slices ![0, o] ⟨2, ![8192, W]⟩) (ho : o + W ≤ 12864)
    (r : Fin 8192) (p : Fin W) : extractStridedSlice ⟨2, ![8192, W]⟩ ![0, o] z h (ix2 r p) = zat z r (o + p.val) :=
  extractStridedSlice_apply _ z h (ix2 r p) _ fun a => by
    have := p.isLt
    match a with
    | ⟨0, _⟩ => show r.val = 0 + r.val; omega
    | ⟨1, _⟩ => show (o + p.val) % 12864 = o + p.val; omega

/-- The query heads' columns, split into heads. -/
def qheads (z : FVec Ideal S8192x12864 .f32) : FVec Ideal S8192x32x64 .f32 :=
  shapeCast _ (extractStridedSlice S8192x2048 ![0, 1600] z slices_S8192x12864_S8192x2048_0_1600) shapeCasts_S8192x2048_S8192x32x64

/-- A table repeated over the heads. -/
def qtab (x : FVec Ideal S8192x32 .f32) : FVec Ideal S8192x32x32 .f32 :=
  broadcastInDim S8192x32x32 ![0, 1, 2] bcast_S8192x1x32_S8192x32x32_0_1_2 (broadcastInDim S8192x1x32 ![0, 2] bcast_S8192x32_S8192x1x32_0_2 x)

/-- The two rotated halves of each head. -/
def qlo (z : FVec Ideal S8192x12864 .f32) (co si : FVec Ideal S8192x32 .f32) : FVec Ideal S8192x32x32 .f32 :=
  subf (mulf (extractStridedSlice S8192x32x32 ![0, 0, 0] (qheads z) slices_S8192x32x64_S8192x32x32_0_0_0) (qtab co))
    (mulf (extractStridedSlice S8192x32x32 ![0, 0, 32] (qheads z) slices_S8192x32x64_S8192x32x32_0_0_32) (qtab si))
def qhi (z : FVec Ideal S8192x12864 .f32) (co si : FVec Ideal S8192x32 .f32) : FVec Ideal S8192x32x32 .f32 :=
  addf (mulf (extractStridedSlice S8192x32x32 ![0, 0, 32] (qheads z) slices_S8192x32x64_S8192x32x32_0_0_32) (qtab co))
    (mulf (extractStridedSlice S8192x32x32 ![0, 0, 0] (qheads z) slices_S8192x32x64_S8192x32x32_0_0_0) (qtab si))

/-- The rotated columns, the heads flattened again. -/
def qrope (z : FVec Ideal S8192x12864 .f32) (co si : FVec Ideal S8192x32 .f32) : FVec Ideal S8192x2048 .f32 :=
  shapeCast _ (concatenate S8192x32x64 2 [⟨S8192x32x32, qlo z co si⟩, ⟨S8192x32x32, qhi z co si⟩] concatenates_S8192x32x32_S8192x32x32_S8192x32x64_d2) shapeCasts_S8192x32x64_S8192x2048

theorem qheads_apply (z : FVec Ideal S8192x12864 .f32) (r : Fin 8192) (h : Fin 32) (d : Fin 64) :
    qheads z (ix3 r h d) = zat z r (1600 + (h.val * 64 + d.val)) := by
  have hh := h.isLt
  have hd := d.isLt
  refine (shapeCast_apply _ _ (ix3 r h d) (ix2 r (⟨h.val * 64 + d.val, by omega⟩ : Fin 2048)) ?_).trans (slice_apply z 2048 1600 _ (by decide) r _)
  refine (Shape.rowMajor_val_two _).trans (Eq.trans ?_ (Shape.rowMajor_val_three _).symm)
  show r.val * 2048 + (h.val * 64 + d.val) = (r.val * 32 + h.val) * 64 + d.val
  omega

theorem qhalf_apply (z : FVec Ideal S8192x12864 .f32) (o : Nat) (hs : S8192x32x64.Slices ![0, 0, o] S8192x32x32) (ho : o ≤ 32)
    (r : Fin 8192) (h : Fin 32) (d : Fin 32) :
    extractStridedSlice S8192x32x32 ![0, 0, o] (qheads z) hs (ix3 r h d) = zat z r (1600 + (h.val * 64 + (o + d.val))) := by
  have hd := d.isLt
  refine (extractStridedSlice_apply _ _ hs (ix3 r h d) (ix3 r h (⟨o + d.val, by omega⟩ : Fin 64)) fun a => ?_).trans (qheads_apply z r h _)
  match a with
  | ⟨0, _⟩ => show r.val = 0 + r.val; omega
  | ⟨1, _⟩ => show h.val = 0 + h.val; omega
  | ⟨2, _⟩ => rfl

theorem qtab_apply (x : FVec Ideal S8192x32 .f32) (r : Fin 8192) (h : Fin 32) (d : Fin 32) (n : Nat) (hn : n % 32 = d.val) :
    qtab x (ix3 r h d) = tbl x r n := by
  unfold qtab
  refine (broadcastInDim_apply _ _ _ (ix3 r h d) (ix3 r (0 : Fin 1) d) fun a => ?_).trans
    (broadcastInDim_apply _ _ x (ix3 r (0 : Fin 1) d) (ix2 r (⟨n % 32, Nat.mod_lt _ (by decide)⟩ : Fin 32)) fun a => ?_)
  · match a with
    | ⟨0, _⟩ => rfl
    | ⟨1, _⟩ => rfl
    | ⟨2, _⟩ => rfl
  · match a with
    | ⟨0, _⟩ => rfl
    | ⟨1, _⟩ => exact hn

/-- The rotated columns at a row and a column, as the columns of the product they combine. -/
theorem qrope_apply (z : FVec Ideal S8192x12864 .f32) (co si : FVec Ideal S8192x32 .f32) (r : Fin 8192) (p : Fin 2048) (n : Nat)
    (hn : n = 1536 + p.val) :
    qrope z co si (ix2 r p) = (show EReal from zat z r (wc n) * tbl co r n
      + (if n % 64 < 32 then -(zat z r (wc (n + 32))) else zat z r (wc (n - 32))) * tbl si r n) := by
  have hp := p.isLt
  have w0 : wc n = n + 64 := if_neg (by omega)
  have hh : p.val / 64 < 32 := by omega
  have h64 : p.val % 64 < 64 := by omega
  refine (shapeCast_apply _ _ (ix2 r p) (ix3 r (⟨p.val / 64, hh⟩ : Fin 32) (⟨p.val % 64, h64⟩ : Fin 64)) ?_).trans ?_
  · refine (Shape.rowMajor_val_three _).trans (Eq.trans ?_ (Shape.rowMajor_val_two _).symm)
    show (r.val * 32 + p.val / 64) * 64 + p.val % 64 = r.val * 2048 + p.val
    omega
  by_cases hc : n % 64 < 32
  · have hc' : p.val % 64 < 32 := by omega
    have w1 : wc (n + 32) = n + 96 := if_neg (by omega)
    rw [if_pos hc, w0, w1]
    refine (concatenate_pair_apply_left (t := S8192x32x64) (s₁ := S8192x32x32) (s₂ := S8192x32x32) 2 (qlo z co si) (qhi z co si) concatenates_S8192x32x32_S8192x32x32_S8192x32x64_d2 (ix3 r (⟨p.val / 64, hh⟩ : Fin 32) (⟨p.val % 64, h64⟩ : Fin 64)) rfl (ix3 r (⟨p.val / 64, hh⟩ : Fin 32) (⟨p.val % 64, hc'⟩ : Fin 32)) fun b => ?_).trans ?_
    · match b with
      | ⟨0, _⟩ => rfl
      | ⟨1, _⟩ => rfl
      | ⟨2, _⟩ => rfl
    unfold qlo
    show (show EReal from extractStridedSlice S8192x32x32 ![0, 0, 0] (qheads z) _ _) * (show EReal from qtab co _)
      - (show EReal from extractStridedSlice S8192x32x32 ![0, 0, 32] (qheads z) _ _) * (show EReal from qtab si _) = _
    rw [qhalf_apply z 0 _ (by decide), qhalf_apply z 32 _ (by decide), qtab_apply co _ _ _ n (by show n % 32 = p.val % 64; omega),
      qtab_apply si _ _ _ n (by show n % 32 = p.val % 64; omega)]
    have e0 : 1600 + (p.val / 64 * 64 + (0 + p.val % 64)) = n + 64 := by omega
    have e1 : 1600 + (p.val / 64 * 64 + (32 + p.val % 64)) = n + 96 := by omega
    show zat z r (1600 + (p.val / 64 * 64 + (0 + p.val % 64))) * tbl co r n - zat z r (1600 + (p.val / 64 * 64 + (32 + p.val % 64))) * tbl si r n = _
    rw [e0, e1, sub_eq_add_neg, EReal.neg_mul]
  · have hc' : p.val % 64 - 32 < 32 := by omega
    have w1 : wc (n - 32) = n + 32 := (if_neg (by omega)).trans (by omega)
    rw [if_neg hc, w0, w1]
    refine (concatenate_pair_apply_right (t := S8192x32x64) (s₁ := S8192x32x32) (s₂ := S8192x32x32) 2 (qlo z co si) (qhi z co si) concatenates_S8192x32x32_S8192x32x32_S8192x32x64_d2 (ix3 r (⟨p.val / 64, hh⟩ : Fin 32) (⟨p.val % 64, h64⟩ : Fin 64)) rfl rfl (ix3 r (⟨p.val / 64, hh⟩ : Fin 32) (⟨p.val % 64 - 32, hc'⟩ : Fin 32)) (fun b hb => ?_) ?_).trans ?_
    · match b with
      | ⟨0, _⟩ => rfl
      | ⟨1, _⟩ => rfl
      | ⟨2, _⟩ => exact absurd rfl hb
    · show p.val % 64 - 32 + 32 = p.val % 64
      omega
    unfold qhi
    show (show EReal from extractStridedSlice S8192x32x32 ![0, 0, 32] (qheads z) _ _) * (show EReal from qtab co _)
      + (show EReal from extractStridedSlice S8192x32x32 ![0, 0, 0] (qheads z) _ _) * (show EReal from qtab si _) = _
    rw [qhalf_apply z 0 _ (by decide), qhalf_apply z 32 _ (by decide), qtab_apply co _ _ _ n (by show n % 32 = p.val % 64 - 32; omega),
      qtab_apply si _ _ _ n (by show n % 32 = p.val % 64 - 32; omega)]
    have e0 : 1600 + (p.val / 64 * 64 + (0 + (p.val % 64 - 32))) = n + 32 := by omega
    have e1 : 1600 + (p.val / 64 * 64 + (32 + (p.val % 64 - 32))) = n + 64 := by omega
    show zat z r (1600 + (p.val / 64 * 64 + (32 + (p.val % 64 - 32)))) * tbl co r n + zat z r (1600 + (p.val / 64 * 64 + (0 + (p.val % 64 - 32)))) * tbl si r n = _
    rw [e0, e1]

/-- The key heads' columns, split into heads. -/
def kheads (z : FVec Ideal S8192x12864 .f32) : FVec Ideal S8192x8x64 .f32 :=
  shapeCast _ (extractStridedSlice S8192x512 ![0, 3648] z slices_S8192x12864_S8192x512_0_3648) shapeCasts_S8192x512_S8192x8x64

/-- A table repeated over the heads. -/
def ktab (x : FVec Ideal S8192x32 .f32) : FVec Ideal S8192x8x32 .f32 :=
  broadcastInDim S8192x8x32 ![0, 1, 2] bcast_S8192x1x32_S8192x8x32_0_1_2 (broadcastInDim S8192x1x32 ![0, 2] bcast_S8192x32_S8192x1x32_0_2 x)

/-- The two rotated halves of each head. -/
def klo (z : FVec Ideal S8192x12864 .f32) (co si : FVec Ideal S8192x32 .f32) : FVec Ideal S8192x8x32 .f32 :=
  subf (mulf (extractStridedSlice S8192x8x32 ![0, 0, 0] (kheads z) slices_S8192x8x64_S8192x8x32_0_0_0) (ktab co))
    (mulf (extractStridedSlice S8192x8x32 ![0, 0, 32] (kheads z) slices_S8192x8x64_S8192x8x32_0_0_32) (ktab si))
def khi (z : FVec Ideal S8192x12864 .f32) (co si : FVec Ideal S8192x32 .f32) : FVec Ideal S8192x8x32 .f32 :=
  addf (mulf (extractStridedSlice S8192x8x32 ![0, 0, 32] (kheads z) slices_S8192x8x64_S8192x8x32_0_0_32) (ktab co))
    (mulf (extractStridedSlice S8192x8x32 ![0, 0, 0] (kheads z) slices_S8192x8x64_S8192x8x32_0_0_0) (ktab si))

/-- The rotated columns, the heads flattened again. -/
def krope (z : FVec Ideal S8192x12864 .f32) (co si : FVec Ideal S8192x32 .f32) : FVec Ideal S8192x512 .f32 :=
  shapeCast _ (concatenate S8192x8x64 2 [⟨S8192x8x32, klo z co si⟩, ⟨S8192x8x32, khi z co si⟩] concatenates_S8192x8x32_S8192x8x32_S8192x8x64_d2) shapeCasts_S8192x8x64_S8192x512

theorem kheads_apply (z : FVec Ideal S8192x12864 .f32) (r : Fin 8192) (h : Fin 8) (d : Fin 64) :
    kheads z (ix3 r h d) = zat z r (3648 + (h.val * 64 + d.val)) := by
  have hh := h.isLt
  have hd := d.isLt
  refine (shapeCast_apply _ _ (ix3 r h d) (ix2 r (⟨h.val * 64 + d.val, by omega⟩ : Fin 512)) ?_).trans (slice_apply z 512 3648 _ (by decide) r _)
  refine (Shape.rowMajor_val_two _).trans (Eq.trans ?_ (Shape.rowMajor_val_three _).symm)
  show r.val * 512 + (h.val * 64 + d.val) = (r.val * 8 + h.val) * 64 + d.val
  omega

theorem khalf_apply (z : FVec Ideal S8192x12864 .f32) (o : Nat) (hs : S8192x8x64.Slices ![0, 0, o] S8192x8x32) (ho : o ≤ 32)
    (r : Fin 8192) (h : Fin 8) (d : Fin 32) :
    extractStridedSlice S8192x8x32 ![0, 0, o] (kheads z) hs (ix3 r h d) = zat z r (3648 + (h.val * 64 + (o + d.val))) := by
  have hd := d.isLt
  refine (extractStridedSlice_apply _ _ hs (ix3 r h d) (ix3 r h (⟨o + d.val, by omega⟩ : Fin 64)) fun a => ?_).trans (kheads_apply z r h _)
  match a with
  | ⟨0, _⟩ => show r.val = 0 + r.val; omega
  | ⟨1, _⟩ => show h.val = 0 + h.val; omega
  | ⟨2, _⟩ => rfl

theorem ktab_apply (x : FVec Ideal S8192x32 .f32) (r : Fin 8192) (h : Fin 8) (d : Fin 32) (n : Nat) (hn : n % 32 = d.val) :
    ktab x (ix3 r h d) = tbl x r n := by
  unfold ktab
  refine (broadcastInDim_apply _ _ _ (ix3 r h d) (ix3 r (0 : Fin 1) d) fun a => ?_).trans
    (broadcastInDim_apply _ _ x (ix3 r (0 : Fin 1) d) (ix2 r (⟨n % 32, Nat.mod_lt _ (by decide)⟩ : Fin 32)) fun a => ?_)
  · match a with
    | ⟨0, _⟩ => rfl
    | ⟨1, _⟩ => rfl
    | ⟨2, _⟩ => rfl
  · match a with
    | ⟨0, _⟩ => rfl
    | ⟨1, _⟩ => exact hn

/-- The rotated columns at a row and a column, as the columns of the product they combine. -/
theorem krope_apply (z : FVec Ideal S8192x12864 .f32) (co si : FVec Ideal S8192x32 .f32) (r : Fin 8192) (p : Fin 512) (n : Nat)
    (hn : n = 3584 + p.val) :
    krope z co si (ix2 r p) = (show EReal from zat z r (wc n) * tbl co r n
      + (if n % 64 < 32 then -(zat z r (wc (n + 32))) else zat z r (wc (n - 32))) * tbl si r n) := by
  have hp := p.isLt
  have w0 : wc n = n + 64 := if_neg (by omega)
  have hh : p.val / 64 < 8 := by omega
  have h64 : p.val % 64 < 64 := by omega
  refine (shapeCast_apply _ _ (ix2 r p) (ix3 r (⟨p.val / 64, hh⟩ : Fin 8) (⟨p.val % 64, h64⟩ : Fin 64)) ?_).trans ?_
  · refine (Shape.rowMajor_val_three _).trans (Eq.trans ?_ (Shape.rowMajor_val_two _).symm)
    show (r.val * 8 + p.val / 64) * 64 + p.val % 64 = r.val * 512 + p.val
    omega
  by_cases hc : n % 64 < 32
  · have hc' : p.val % 64 < 32 := by omega
    have w1 : wc (n + 32) = n + 96 := if_neg (by omega)
    rw [if_pos hc, w0, w1]
    refine (concatenate_pair_apply_left (t := S8192x8x64) (s₁ := S8192x8x32) (s₂ := S8192x8x32) 2 (klo z co si) (khi z co si) concatenates_S8192x8x32_S8192x8x32_S8192x8x64_d2 (ix3 r (⟨p.val / 64, hh⟩ : Fin 8) (⟨p.val % 64, h64⟩ : Fin 64)) rfl (ix3 r (⟨p.val / 64, hh⟩ : Fin 8) (⟨p.val % 64, hc'⟩ : Fin 32)) fun b => ?_).trans ?_
    · match b with
      | ⟨0, _⟩ => rfl
      | ⟨1, _⟩ => rfl
      | ⟨2, _⟩ => rfl
    unfold klo
    show (show EReal from extractStridedSlice S8192x8x32 ![0, 0, 0] (kheads z) _ _) * (show EReal from ktab co _)
      - (show EReal from extractStridedSlice S8192x8x32 ![0, 0, 32] (kheads z) _ _) * (show EReal from ktab si _) = _
    rw [khalf_apply z 0 _ (by decide), khalf_apply z 32 _ (by decide), ktab_apply co _ _ _ n (by show n % 32 = p.val % 64; omega),
      ktab_apply si _ _ _ n (by show n % 32 = p.val % 64; omega)]
    have e0 : 3648 + (p.val / 64 * 64 + (0 + p.val % 64)) = n + 64 := by omega
    have e1 : 3648 + (p.val / 64 * 64 + (32 + p.val % 64)) = n + 96 := by omega
    show zat z r (3648 + (p.val / 64 * 64 + (0 + p.val % 64))) * tbl co r n - zat z r (3648 + (p.val / 64 * 64 + (32 + p.val % 64))) * tbl si r n = _
    rw [e0, e1, sub_eq_add_neg, EReal.neg_mul]
  · have hc' : p.val % 64 - 32 < 32 := by omega
    have w1 : wc (n - 32) = n + 32 := (if_neg (by omega)).trans (by omega)
    rw [if_neg hc, w0, w1]
    refine (concatenate_pair_apply_right (t := S8192x8x64) (s₁ := S8192x8x32) (s₂ := S8192x8x32) 2 (klo z co si) (khi z co si) concatenates_S8192x8x32_S8192x8x32_S8192x8x64_d2 (ix3 r (⟨p.val / 64, hh⟩ : Fin 8) (⟨p.val % 64, h64⟩ : Fin 64)) rfl rfl (ix3 r (⟨p.val / 64, hh⟩ : Fin 8) (⟨p.val % 64 - 32, hc'⟩ : Fin 32)) (fun b hb => ?_) ?_).trans ?_
    · match b with
      | ⟨0, _⟩ => rfl
      | ⟨1, _⟩ => rfl
      | ⟨2, _⟩ => exact absurd rfl hb
    · show p.val % 64 - 32 + 32 = p.val % 64
      omega
    unfold khi
    show (show EReal from extractStridedSlice S8192x8x32 ![0, 0, 32] (kheads z) _ _) * (show EReal from ktab co _)
      + (show EReal from extractStridedSlice S8192x8x32 ![0, 0, 0] (kheads z) _ _) * (show EReal from ktab si _) = _
    rw [khalf_apply z 0 _ (by decide), khalf_apply z 32 _ (by decide), ktab_apply co _ _ _ n (by show n % 32 = p.val % 64 - 32; omega),
      ktab_apply si _ _ _ n (by show n % 32 = p.val % 64 - 32; omega)]
    have e0 : 3648 + (p.val / 64 * 64 + (0 + (p.val % 64 - 32))) = n + 32 := by omega
    have e1 : 3648 + (p.val / 64 * 64 + (32 + (p.val % 64 - 32))) = n + 64 := by omega
    show zat z r (3648 + (p.val / 64 * 64 + (32 + (p.val % 64 - 32)))) * tbl co r n + zat z r (3648 + (p.val / 64 * 64 + (0 + (p.val % 64 - 32)))) * tbl si r n = _
    rw [e0, e1]

/-- The seven groups of columns. -/
def parts (z : FVec Ideal S8192x12864 .f32) (co si : FVec Ideal S8192x32 .f32) : List ((s : Shape) × (s.Idx → Ideal .f32)) :=
  [⟨S8192x1024, extractStridedSlice S8192x1024 ![0, 0] z slices_S8192x12864_S8192x1024_0_0⟩,
    ⟨S8192x512, extractStridedSlice S8192x512 ![0, 1024] z slices_S8192x12864_S8192x512_0_1024⟩,
    ⟨S8192x2048, mulf (qrope z co si) (broadcastInDim S8192x2048 ![] bcast_S_S8192x2048 (constant S_ .f32 0x3E000000#32))⟩,
    ⟨S8192x512, krope z co si⟩,
    ⟨S8192x512, extractStridedSlice S8192x512 ![0, 4160] z slices_S8192x12864_S8192x512_0_4160⟩,
    ⟨S8192x4096, extractStridedSlice S8192x4096 ![0, 4672] z slices_S8192x12864_S8192x4096_0_4672⟩,
    ⟨S8192x4096, extractStridedSlice S8192x4096 ![0, 8768] z slices_S8192x12864_S8192x4096_0_8768⟩]

/-- Side by side. -/
def cat (z : FVec Ideal S8192x12864 .f32) (co si : FVec Ideal S8192x32 .f32) : FVec Ideal S8192x12800 .f32 :=
  concatenate S8192x12800 1 (parts z co si) concatenates_S8192x1024_S8192x512_S8192x2048_S8192x512_S8192x512_S8192x4096_S8192x4096_S8192x12800_d1

/-- The columns before each group. -/
theorem pre_0 : (((([S8192x1024, S8192x512, S8192x2048, S8192x512, S8192x512, S8192x4096, S8192x4096] : List Shape).take 0)).map fun s => if h : s.rank = S8192x12800.rank then s.size ((1 : Fin S8192x12800.rank).cast h.symm) else 0).sum = 0 := by decide +kernel
theorem pre_1 : (((([S8192x1024, S8192x512, S8192x2048, S8192x512, S8192x512, S8192x4096, S8192x4096] : List Shape).take 1)).map fun s => if h : s.rank = S8192x12800.rank then s.size ((1 : Fin S8192x12800.rank).cast h.symm) else 0).sum = 1024 := by decide +kernel
theorem pre_2 : (((([S8192x1024, S8192x512, S8192x2048, S8192x512, S8192x512, S8192x4096, S8192x4096] : List Shape).take 2)).map fun s => if h : s.rank = S8192x12800.rank then s.size ((1 : Fin S8192x12800.rank).cast h.symm) else 0).sum = 1536 := by decide +kernel
theorem pre_3 : (((([S8192x1024, S8192x512, S8192x2048, S8192x512, S8192x512, S8192x4096, S8192x4096] : List Shape).take 3)).map fun s => if h : s.rank = S8192x12800.rank then s.size ((1 : Fin S8192x12800.rank).cast h.symm) else 0).sum = 3584 := by decide +kernel
theorem pre_4 : (((([S8192x1024, S8192x512, S8192x2048, S8192x512, S8192x512, S8192x4096, S8192x4096] : List Shape).take 4)).map fun s => if h : s.rank = S8192x12800.rank then s.size ((1 : Fin S8192x12800.rank).cast h.symm) else 0).sum = 4096 := by decide +kernel
theorem pre_5 : (((([S8192x1024, S8192x512, S8192x2048, S8192x512, S8192x512, S8192x4096, S8192x4096] : List Shape).take 5)).map fun s => if h : s.rank = S8192x12800.rank then s.size ((1 : Fin S8192x12800.rank).cast h.symm) else 0).sum = 4608 := by decide +kernel
theorem pre_6 : (((([S8192x1024, S8192x512, S8192x2048, S8192x512, S8192x512, S8192x4096, S8192x4096] : List Shape).take 6)).map fun s => if h : s.rank = S8192x12800.rank then s.size ((1 : Fin S8192x12800.rank).cast h.symm) else 0).sum = 8704 := by decide +kernel

theorem part_apply (z : FVec Ideal S8192x12864 .f32) (co si : FVec Ideal S8192x32 .f32) (k W pre : Nat) (hk : k < 7)
    (x : (⟨2, ![8192, W]⟩ : Shape).Idx → Ideal .f32) (hx : (parts z co si)[k]'hk = ⟨⟨2, ![8192, W]⟩, x⟩)
    (hpre : (((([S8192x1024, S8192x512, S8192x2048, S8192x512, S8192x512, S8192x4096, S8192x4096] : List Shape).take k)).map fun s => if h : s.rank = S8192x12800.rank then s.size ((1 : Fin S8192x12800.rank).cast h.symm) else 0).sum = pre)
    (r : Fin 8192) (n : Fin 12800) (p : Fin W) (hp : pre + p.val = n.val) : cat z co si (ix2 r n) = x (ix2 r p) := by
  refine concatenate_apply_piece (t := S8192x12800) 1 (parts z co si) _ (ix2 r n) k hk ⟨2, ![8192, W]⟩ x hx rfl pre
    ((congrArg (fun l : List Shape => (l.map fun s => if h : s.rank = S8192x12800.rank then s.size ((1 : Fin S8192x12800.rank).cast h.symm) else 0).sum)
      (List.map_take : ((parts z co si).take k).map (·.1) = _)).trans hpre) (ix2 r p) (fun b hb => ?_) hp
  match b with
  | ⟨0, _⟩ => rfl
  | ⟨1, _⟩ => exact absurd rfl hb

theorem piece_plain (z : FVec Ideal S8192x12864 .f32) (co si : FVec Ideal S8192x32 .f32) (r : Fin 8192) (n : Nat)
    (h : ¬(1536 ≤ n ∧ n < 4096)) (q : Nat) (hq : q = wc n) : zat z r q = Gn z co si r n := by
  rw [hq]; exact (if_neg h).symm

/-- The columns at a row and a column. -/
theorem cat_apply (z : FVec Ideal S8192x12864 .f32) (co si : FVec Ideal S8192x32 .f32) (r : Fin 8192) (n : Fin 12800) :
    cat z co si (ix2 r n) = Gn z co si r n.val := by
  have hn := n.isLt
  rcases Nat.lt_or_ge n.val 1024 with h | h1
  · have hp : n.val - 0 < 1024 := by omega
    refine (part_apply z co si 0 1024 0 (by decide) _ rfl pre_0 r n (⟨n.val - 0, hp⟩ : Fin 1024) (by show 0 + (n.val - 0) = n.val; omega)).trans ((slice_apply z 1024 0 _ (by decide) r _).trans (piece_plain z co si r n.val (by omega) _ (by show 0 + (n.val - 0) = wc n.val; unfold wc; split <;> omega)))
  rcases Nat.lt_or_ge n.val 1536 with h | h2
  · have hp : n.val - 1024 < 512 := by omega
    refine (part_apply z co si 1 512 1024 (by decide) _ rfl pre_1 r n (⟨n.val - 1024, hp⟩ : Fin 512) (by show 1024 + (n.val - 1024) = n.val; omega)).trans ((slice_apply z 512 1024 _ (by decide) r _).trans (piece_plain z co si r n.val (by omega) _ (by show 1024 + (n.val - 1024) = wc n.val; unfold wc; split <;> omega)))
  rcases Nat.lt_or_ge n.val 3584 with h | h3
  · have hp : n.val - 1536 < 2048 := by omega
    refine (part_apply z co si 2 2048 1536 (by decide) _ rfl pre_2 r n (⟨n.val - 1536, hp⟩ : Fin 2048) (by show 1536 + (n.val - 1536) = n.val; omega)).trans ?_
    refine Eq.trans ?_ (if_pos (show 1536 ≤ n.val ∧ n.val < 4096 by omega)).symm
    refine congrArg₂ (fun a b : EReal => a * b) (qrope_apply z co si r _ n.val (by show n.val = 1536 + (n.val - 1536); omega)) ?_
    exact (if_pos (show n.val < 3584 by omega)).symm
  rcases Nat.lt_or_ge n.val 4096 with h | h4
  · have hp : n.val - 3584 < 512 := by omega
    refine (part_apply z co si 3 512 3584 (by decide) _ rfl pre_3 r n (⟨n.val - 3584, hp⟩ : Fin 512) (by show 3584 + (n.val - 3584) = n.val; omega)).trans ?_
    refine Eq.trans ?_ (if_pos (show 1536 ≤ n.val ∧ n.val < 4096 by omega)).symm
    rw [show sc n.val = 1 from if_neg (by omega), mul_one]
    exact krope_apply z co si r _ n.val (by show n.val = 3584 + (n.val - 3584); omega)
  rcases Nat.lt_or_ge n.val 4608 with h | h5
  · have hp : n.val - 4096 < 512 := by omega
    refine (part_apply z co si 4 512 4096 (by decide) _ rfl pre_4 r n (⟨n.val - 4096, hp⟩ : Fin 512) (by show 4096 + (n.val - 4096) = n.val; omega)).trans ((slice_apply z 512 4160 _ (by decide) r _).trans (piece_plain z co si r n.val (by omega) _ (by show 4160 + (n.val - 4096) = wc n.val; unfold wc; split <;> omega)))
  rcases Nat.lt_or_ge n.val 8704 with h | h6
  · have hp : n.val - 4608 < 4096 := by omega
    refine (part_apply z co si 5 4096 4608 (by decide) _ rfl pre_5 r n (⟨n.val - 4608, hp⟩ : Fin 4096) (by show 4608 + (n.val - 4608) = n.val; omega)).trans ((slice_apply z 4096 4672 _ (by decide) r _).trans (piece_plain z co si r n.val (by omega) _ (by show 4672 + (n.val - 4608) = wc n.val; unfold wc; split <;> omega)))
  · have hp : n.val - 8704 < 4096 := by omega
    refine (part_apply z co si 6 4096 8704 (by decide) _ rfl pre_6 r n (⟨n.val - 8704, hp⟩ : Fin 4096) (by show 8704 + (n.val - 8704) = n.val; omega)).trans ((slice_apply z 4096 8768 _ (by decide) r _).trans (piece_plain z co si r n.val (by omega) _ (by show 8768 + (n.val - 8704) = wc n.val; unfold wc; split <;> omega)))

theorem res_eq (m : (ℓ : Loc nD τ sig) → Buf (Elt Ideal) ℓ) (c : Dev nD) :
    res_main_v47 m c = G (prodZ (m ((c.tc : Thread nD τ).loc main_arg0)) (m ((c.tc : Thread nD τ).loc main_arg1)))
      (m ((c.tc : Thread nD τ).loc main_arg2)) (m ((c.tc : Thread nD τ).loc main_arg3)) := by
  rw [← dot_eq]
  refine (show res_main_v47 m c = truncf .bf16 (cat (Host.dotGeneral dot_S8192x4096_S4096x12864_S8192x12864_1_0_0_1_n_n none
    (extf .f32 (m ((c.tc : Thread nD τ).loc main_arg0)) bitsLt_bf16_f32) (m ((c.tc : Thread nD τ).loc main_arg1)))
      (m ((c.tc : Thread nD τ).loc main_arg2)) (m ((c.tc : Thread nD τ).loc main_arg3))) bitsLt_bf16_f32 from by unfold res_main_v47; rfl).trans ?_
  funext i
  exact (congrArg (cat _ _ _) (eq_ix2 i)).trans (cat_apply _ _ _ (i 0) (i 1))

end Cert.Proof.InProj

end
-- ==== Proof.InProj.lean ====
/- The input projection: the block each grid point writes back is that block of one array, the whole product's columns with
   the rotary columns rotated and scaled, and the reference's result is the same array. -/
module

public import proofs.«01_k».proof.Proof.InProjBlock
public import proofs.«01_k».proof.Proof.InProjRef
public import proofs.«01_k».proof.Proof.Gen.Kernel2

@[expose] public section

noncomputable section

namespace Cert.Proof.InProj

open Cert.Kernel2Ideal Cert.Kernel2Ideal.Gen Cert.Kernel2Ideal.Value Idealize.ShloMosaic Idealize.ShloMosaic.TcCoe
  Idealize.ShloMosaic.ValueIdx Idealize.SL.Sem
open scoped BigOperators

local instance : Cert.Kernel2.Facts := Cert.Kernel2.Gen.facts
local instance : Cert.Reference2Ideal.Facts := Cert.Reference2Ideal.Gen.facts

/-- The weights with the gate's columns removed, at an index. -/
theorem weights_apply (w : FVec Ideal S4096x12864 .f32) (k : Fin 4096) (n : Fin 12800) (q : Fin 12864) (hq : q.val = wc n.val) :
    truncf (F := Ideal) .bf16 (concatenate S4096x12800 1 [⟨S4096x1536, extractStridedSlice S4096x1536 ![0, 0] w slices_S4096x12864_S4096x1536_0_0⟩,
      ⟨S4096x11264, extractStridedSlice S4096x11264 ![0, 1600] w slices_S4096x12864_S4096x11264_0_1600⟩] concatenates_S4096x1536_S4096x11264_S4096x12800_d1)
      bitsLt_bf16_f32 (ix2 k n) = (show EReal from w (ix2 k q)) := by
  have hn := n.isLt
  show concatenate S4096x12800 1 [⟨S4096x1536, extractStridedSlice S4096x1536 ![0, 0] w slices_S4096x12864_S4096x1536_0_0⟩,
      ⟨S4096x11264, extractStridedSlice S4096x11264 ![0, 1600] w slices_S4096x12864_S4096x11264_0_1600⟩] concatenates_S4096x1536_S4096x11264_S4096x12800_d1 (ix2 k n) = w (ix2 k q)
  unfold wc at hq
  by_cases h : n.val < 1536
  · rw [if_pos h] at hq
    refine (concatenate_pair_apply_left (t := S4096x12800) (s₁ := S4096x1536) (s₂ := S4096x11264) 1 _ _ _ (ix2 k n) rfl (ix2 k (⟨n.val, h⟩ : Fin 1536)) fun b => ?_).trans
      (extractStridedSlice_apply _ w _ (ix2 k (⟨n.val, h⟩ : Fin 1536)) _ fun a => ?_)
    · match b with
      | ⟨0, _⟩ => rfl
      | ⟨1, _⟩ => rfl
    · match a with
      | ⟨0, _⟩ => show k.val = 0 + k.val; omega
      | ⟨1, _⟩ => show q.val = 0 + n.val; omega
  · rw [if_neg h] at hq
    obtain ⟨p, hp⟩ : ∃ p : Fin 11264, p.val + 1536 = n.val := ⟨⟨n.val - 1536, by omega⟩, by show n.val - 1536 + 1536 = n.val; omega⟩
    refine (concatenate_pair_apply_right (t := S4096x12800) (s₁ := S4096x1536) (s₂ := S4096x11264) 1 _ _ _ (ix2 k n) rfl rfl (ix2 k p) (fun b hb => ?_) hp).trans
      (extractStridedSlice_apply _ w _ (ix2 k p) _ fun a => ?_)
    · match b with
      | ⟨0, _⟩ => rfl
      | ⟨1, _⟩ => exact absurd rfl hb
    · match a with
      | ⟨0, _⟩ => show k.val = 0 + k.val; omega
      | ⟨1, _⟩ => show q.val = 1600 + p.val; omega

/-- A table repeated to 128 lanes, at an index. -/
theorem tiled_apply (x : FVec Ideal S8192x32 .f32) (r : Fin 8192) (l : Fin 128) :
    shapeCast S8192x128 (broadcastInDim S1x8192x4x32 ![0, 1, 2, 3] bcast_S1x8192x1x32_S1x8192x4x32_0_1_2_3
      (shapeCast S1x8192x1x32 x shapeCasts_S8192x32_S1x8192x1x32)) shapeCasts_S1x8192x4x32_S8192x128 (ix2 r l) = tbl x r l.val := by
  have hl := l.isLt
  have h0 : l.val / 32 < 4 := by omega
  have h1 : l.val % 32 < 32 := by omega
  refine (shapeCast_apply _ _ (ix2 r l) (ix4 (0 : Fin 1) r (⟨l.val / 32, h0⟩ : Fin 4) (⟨l.val % 32, h1⟩ : Fin 32)) ?_).trans
    ((broadcastInDim_apply _ _ _ _ (ix4 (0 : Fin 1) r (0 : Fin 1) (⟨l.val % 32, h1⟩ : Fin 32)) fun a => ?_).trans
      (shapeCast_apply x _ _ (ix2 r (⟨l.val % 32, h1⟩ : Fin 32)) ?_))
  · refine (Shape.rowMajor_val_four _).trans (Eq.trans ?_ (Shape.rowMajor_val_two _).symm)
    show ((0 * 8192 + r.val) * 4 + l.val / 32) * 32 + l.val % 32 = r.val * 128 + l.val
    omega
  · match a with
    | ⟨0, _⟩ => rfl
    | ⟨1, _⟩ => rfl
    | ⟨2, _⟩ => rfl
    | ⟨3, _⟩ => rfl
  · refine (Shape.rowMajor_val_two _).trans (Eq.trans ?_ (Shape.rowMajor_val_four _).symm)
    show r.val * 32 + l.val % 32 = ((0 * 8192 + r.val) * 1 + 0) * 32 + l.val % 32
    omega

/-- The block index of each window at point `t`, the grid's 200 points in row order. -/
theorem idx0 : ∀ t : Fin cfg0.N, win0_0.index t (0 : Fin 2) = t.val / 25 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 25 :=
  (by decide +kernel : ∀ t : Fin grid0.N, _)
theorem idx2 : ∀ t : Fin cfg0.N, win0_2.index t (0 : Fin 2) = t.val / 25 ∧ win0_2.index t (1 : Fin 2) = 0 :=
  (by decide +kernel : ∀ t : Fin grid0.N, _)
theorem idx3 : ∀ t : Fin cfg0.N, win0_3.index t (0 : Fin 2) = t.val / 25 ∧ win0_3.index t (1 : Fin 2) = 0 :=
  (by decide +kernel : ∀ t : Fin grid0.N, _)
theorem idx4 : ∀ t : Fin cfg0.N, win0_4.index t (0 : Fin 2) = t.val / 25 ∧ win0_4.index t (1 : Fin 2) = t.val % 25 :=
  (by decide +kernel : ∀ t : Fin grid0.N, _)

theorem coord1 : ∀ t : Fin cfg0.N, (grid0.coords t (1 : Fin 2)).val = t.val % 25 :=
  (by decide +kernel : ∀ t : Fin grid0.N, _)

theorem N_eq : cfg0.N = 200 := by decide

/-- The array row of block row `r` at point `t`, and the column of block column `q`. -/
def row (t : Fin cfg0.N) (r : Fin 1024) : Fin 8192 :=
  ⟨t.val / 25 * 1024 + r.val, by
    have h : t.val < 200 := N_eq ▸ t.isLt
    have h0 := r.isLt
    omega⟩
def col (t : Fin cfg0.N) (q : Fin 512) : Fin 12800 :=
  ⟨t.val % 25 * 512 + q.val, by have h := q.isLt; omega⟩

theorem emb0 (t : Fin cfg0.N) (r : Fin 1024) (k : Fin 4096) :
    ((cfg0.win 0).blk t).view.emb (ix2 r k) = (ix2 (row t r) k : S8192x4096.Idx) := by
  obtain ⟨e0, e1⟩ := idx0 t
  funext a; apply Fin.ext
  match a with
  | ⟨0, _⟩ => show win0_0.index t (0 : Fin 2) * 1024 + 1 * r.val = t.val / 25 * 1024 + r.val; omega
  | ⟨1, _⟩ => show win0_0.index t (1 : Fin 2) * 4096 + 1 * k.val = k.val; omega

theorem emb1 (t : Fin cfg0.N) (q : Fin 512) (k : Fin 4096) :
    ((cfg0.win 1).blk t).view.emb (ix2 k q) = (ix2 k (col t q) : S4096x12800.Idx) := by
  obtain ⟨e0, e1⟩ := idx1 t
  funext a; apply Fin.ext
  match a with
  | ⟨0, _⟩ => show win0_1.index t (0 : Fin 2) * 4096 + 1 * k.val = k.val; omega
  | ⟨1, _⟩ => show win0_1.index t (1 : Fin 2) * 512 + 1 * q.val = t.val % 25 * 512 + q.val; omega

theorem emb2 (t : Fin cfg0.N) (r : Fin 1024) (l : Fin 128) :
    ((cfg0.win 2).blk t).view.emb (ix2 r l) = (ix2 (row t r) l : S8192x128.Idx) := by
  obtain ⟨e0, e1⟩ := idx2 t
  funext a; apply Fin.ext
  match a with
  | ⟨0, _⟩ => show win0_2.index t (0 : Fin 2) * 1024 + 1 * r.val = t.val / 25 * 1024 + r.val; omega
  | ⟨1, _⟩ => show win0_2.index t (1 : Fin 2) * 128 + 1 * l.val = l.val; omega

theorem emb3 (t : Fin cfg0.N) (r : Fin 1024) (l : Fin 128) :
    ((cfg0.win 3).blk t).view.emb (ix2 r l) = (ix2 (row t r) l : S8192x128.Idx) := by
  obtain ⟨e0, e1⟩ := idx3 t
  funext a; apply Fin.ext
  match a with
  | ⟨0, _⟩ => show win0_3.index t (0 : Fin 2) * 1024 + 1 * r.val = t.val / 25 * 1024 + r.val; omega
  | ⟨1, _⟩ => show win0_3.index t (1 : Fin 2) * 128 + 1 * l.val = l.val; omega

theorem emb4 (t : Fin cfg0.N) (j : S1024x512.Idx) :
    ((cfg0.win 4).blk t).view.emb j = (ix2 (row t (j 0)) (col t (j 1)) : S8192x12800.Idx) := by
  obtain ⟨e0, e1⟩ := idx4 t
  funext a; apply Fin.ext
  match a with
  | ⟨0, _⟩ => show win0_4.index t (0 : Fin 2) * 1024 + 1 * (j 0).val = t.val / 25 * 1024 + (j 0).val; omega
  | ⟨1, _⟩ => show win0_4.index t (1 : Fin 2) * 512 + 1 * (j 1).val = t.val % 25 * 512 + (j 1).val; omega

variable (m : (ℓ : Loc nD τ sig) → Buf (Elt Ideal) ℓ) (ρ : Dev nD → PrngReg)

/-- What the launch finds in the arrays the host prepares. -/
theorem V_main_v3 (c : Dev nD) : V m c main_v3 = truncf (F := Ideal) .bf16 (concatenate S4096x12800 1
      [⟨S4096x1536, extractStridedSlice S4096x1536 ![0, 0] (m ((c : Thread nD τ).loc main_arg1)) slices_S4096x12864_S4096x1536_0_0⟩,
      ⟨S4096x11264, extractStridedSlice S4096x11264 ![0, 1600] (m ((c : Thread nD τ).loc main_arg1)) slices_S4096x12864_S4096x11264_0_1600⟩] concatenates_S4096x1536_S4096x11264_S4096x12800_d1)
      bitsLt_bf16_f32 := by
  show StableHlo.after _ _ _ = _
  after_results

theorem V_main_v6 (c : Dev nD) : V m c main_v6 = shapeCast S8192x128 (broadcastInDim S1x8192x4x32 ![0, 1, 2, 3] bcast_S1x8192x1x32_S1x8192x4x32_0_1_2_3
      (shapeCast S1x8192x1x32 (m ((c : Thread nD τ).loc main_arg2)) shapeCasts_S8192x32_S1x8192x1x32)) shapeCasts_S1x8192x4x32_S8192x128 := by
  show StableHlo.after _ _ _ = _
  after_results
  rfl

theorem V_main_v9 (c : Dev nD) : V m c main_v9 = shapeCast S8192x128 (broadcastInDim S1x8192x4x32 ![0, 1, 2, 3] bcast_S1x8192x1x32_S1x8192x4x32_0_1_2_3
      (shapeCast S1x8192x1x32 (m ((c : Thread nD τ).loc main_arg3)) shapeCasts_S8192x32_S1x8192x1x32)) shapeCasts_S1x8192x4x32_S8192x128 := by
  show StableHlo.after _ _ _ = _
  after_results
  rfl

/-- The whole product of the arguments. -/
def Z (c : Dev nD) : FVec Ideal Cert.Reference2Ideal.S8192x12864 .f32 := prodZ (m ((c : Thread nD τ).loc main_arg0)) (m ((c : Thread nD τ).loc main_arg1))

/-- A point's product block is the whole product's, the gate's columns skipped. -/
theorem block_prod (c : Dev nD) (t : Fin cfg0.N) (r : Fin 1024) (n : Nat) (hn : n < 512) :
    at2 (k0_pay1 (iblk m c 0 t) (iblk m c 1 t)) r n = zat (Z m c) (row t r) (wc (t.val % 25 * 512 + n)) := by
  have hw : wc (t.val % 25 * 512 + n) < 12864 := by unfold wc; split <;> omega
  have hm : n % 512 = n := Nat.mod_eq_of_lt hn
  unfold at2 zat Z prodZ
  refine (prod_apply _ _ _).trans ?_
  show (∑ k : Fin 4096, (_ : EReal) * (_ : EReal)) = ∑ k : Fin 4096, (_ : EReal) * (_ : EReal)
  refine (Finset.sum_congr rfl fun k _ => congrArg₂ (fun a b : EReal => a * b) ?_ ?_)
  · refine (congrArg (V m c main_arg0) (emb0 t r k)).trans ?_
    rw [V_main_arg0]
  · refine (congrArg (V m c main_v3) (emb1 t (⟨n % 512, Nat.mod_lt _ (by decide)⟩ : Fin 512) k)).trans ?_
    rw [V_main_v3]
    refine weights_apply _ k (col t _) _ ?_
    show wc (t.val % 25 * 512 + n) % 12864 = wc (t.val % 25 * 512 + n % 512)
    rw [hm, Nat.mod_eq_of_lt hw]

theorem block_cos (c : Dev nD) (t : Fin cfg0.N) (r : Fin 1024) (n : Nat) :
    tab (iblk m c 2 t) r n = tbl (m ((c : Thread nD τ).loc main_arg2)) (row t r) (t.val % 25 * 512 + n) := by
  unfold tab
  refine (congrArg (V m c main_v6) (emb2 t r _)).trans ?_
  rw [V_main_v6]
  refine (tiled_apply _ _ _).trans ?_
  unfold tbl
  refine congrArg (fun q => (m ((c : Thread nD τ).loc main_arg2) : FVec Ideal S8192x32 .f32) (ix2 (row t r) q)) (Fin.ext ?_)
  show n % 128 % 32 = (t.val % 25 * 512 + n) % 32
  omega

theorem block_sin (c : Dev nD) (t : Fin cfg0.N) (r : Fin 1024) (n : Nat) :
    tab (iblk m c 3 t) r n = tbl (m ((c : Thread nD τ).loc main_arg3)) (row t r) (t.val % 25 * 512 + n) := by
  unfold tab
  refine (congrArg (V m c main_v9) (emb3 t r _)).trans ?_
  rw [V_main_v9]
  refine (tiled_apply _ _ _).trans ?_
  unfold tbl
  refine congrArg (fun q => (m ((c : Thread nD τ).loc main_arg3) : FVec Ideal S8192x32 .f32) (ix2 (row t r) q)) (Fin.ext ?_)
  show n % 128 % 32 = (t.val % 25 * 512 + n) % 32
  omega

/-- The kernel's choice of scale, over the grid's columns. -/
theorem below7 : ∀ n : Fin 25, Scalar.cmpi .slt (BitVec.ofNat 32 n.val) 7#32 = if n.val < 7 then 1#1 else 0#1 := by decide

theorem scale_eq (t : Fin cfg0.N) (q : Fin 512) :
    (show EReal from k0_pay4 (F := Ideal) (BitVec.ofNat 32 (grid0.coords t (1 : Fin 2)).val)) = sc (t.val % 25 * 512 + q.val) := by
  have hq := q.isLt
  rw [coord1 t]
  unfold k0_pay4 sc
  show Scalar.select (Scalar.cmpi .slt (BitVec.ofNat 32 (t.val % 25)) 7#32) _ _ = _
  rw [below7 ⟨t.val % 25, Nat.mod_lt _ (by decide)⟩]
  by_cases h : t.val % 25 < 7
  · rw [if_pos (show t.val % 25 * 512 + q.val < 3584 by omega)]
    rw [if_pos (show (⟨t.val % 25, Nat.mod_lt _ (by decide)⟩ : Fin 25).val < 7 from h)]
    rfl
  · rw [if_neg (show ¬ t.val % 25 * 512 + q.val < 3584 by omega)]
    rw [if_neg (show ¬ (⟨t.val % 25, Nat.mod_lt _ (by decide)⟩ : Fin 25).val < 7 from h)]
    exact Idealize.ShloMosaic.Ideal.ofBits_one_f32

/-- The rotated block at a place is the result's value there. -/
theorem place_B (c : Dev nD) (t : Fin cfg0.N) (h : 3 ≤ t.val % 25 ∧ t.val % 25 ≤ 7) (r : Fin 1024) (q : Fin 512) :
    E (k0_pay1 (iblk m c 0 t) (iblk m c 1 t)) (iblk m c 2 t) (iblk m c 3 t)
        (k0_pay4 (F := Ideal) (BitVec.ofNat 32 (grid0.coords t (1 : Fin 2)).val)) (ix2 r q)
      = Gn (Z m c) (m ((c : Thread nD τ).loc main_arg2)) (m ((c : Thread nD τ).loc main_arg3)) (row t r) (t.val % 25 * 512 + q.val) := by
  have hq := q.isLt
  refine Eq.trans ?_ (if_pos (show 1536 ≤ t.val % 25 * 512 + q.val ∧ t.val % 25 * 512 + q.val < 4096 by omega)).symm
  show (at2 (k0_pay1 (iblk m c 0 t) (iblk m c 1 t)) r q.val * tab (iblk m c 2 t) r q.val
    + (if q.val % 64 < 32 then -(at2 (k0_pay1 (iblk m c 0 t) (iblk m c 1 t)) r (q.val + 32)) else at2 (k0_pay1 (iblk m c 0 t) (iblk m c 1 t)) r (q.val - 32))
      * tab (iblk m c 3 t) r q.val) * (show EReal from k0_pay4 (F := Ideal) (BitVec.ofNat 32 (grid0.coords t (1 : Fin 2)).val)) = _
  rw [block_cos, block_sin, block_prod m c t r _ hq, scale_eq t q]
  have e : (t.val % 25 * 512 + q.val) % 64 = q.val % 64 := by omega
  rw [e]
  by_cases hc : q.val % 64 < 32
  · rw [if_pos hc, if_pos hc, block_prod m c t r _ (by omega), Nat.add_assoc]
  · have e' : t.val % 25 * 512 + (q.val - 32) = t.val % 25 * 512 + q.val - 32 := by omega
    rw [if_neg hc, if_neg hc, block_prod m c t r _ (by omega), e']

theorem place_A (c : Dev nD) (t : Fin cfg0.N) (h : ¬(3 ≤ t.val % 25 ∧ t.val % 25 ≤ 7)) (r : Fin 1024) (q : Fin 512) :
    k0_pay1 (iblk m c 0 t) (iblk m c 1 t) (ix2 r q)
      = Gn (Z m c) (m ((c : Thread nD τ).loc main_arg2)) (m ((c : Thread nD τ).loc main_arg3)) (row t r) (t.val % 25 * 512 + q.val) := by
  have hq := q.isLt
  refine Eq.trans ?_ (if_neg (show ¬(1536 ≤ t.val % 25 * 512 + q.val ∧ t.val % 25 * 512 + q.val < 4096) by omega)).symm
  refine Eq.trans ?_ (block_prod m c t r q.val hq)
  exact congrArg (fun q' => k0_pay1 (iblk m c 0 t) (iblk m c 1 t) (ix2 r q')) (Fin.ext (Nat.mod_eq_of_lt hq).symm)

/-- What point `t` writes back is its block of `G` of the arguments. -/
theorem flushed_eq (c : Dev nD) (t : Fin cfg0.N) :
    (dats m 0 c).flushed 4 t = ((cfg0.win 4).blk t).view.read (Elt Ideal)
      (G (Z m c) (m ((c : Thread nD τ).loc main_arg2)) (m ((c : Thread nD τ).loc main_arg3))) := by
  funext (j : S1024x512.Idx)
  refine Eq.trans ?_ (congrArg (G (Z m c) (m ((c : Thread nD τ).loc main_arg2)) (m ((c : Thread nD τ).loc main_arg3))) (emb4 t j)).symm
  by_cases h : 3 ≤ t.val % 25 ∧ t.val % 25 ≤ 7
  · rw [flushed4_B m c t h (fun h' => h' h)]
    refine (out_B_eq c _ _ _ _ _ _ _ _ _ _ _ _ _ _ _ _ _ j).trans ?_
    exact (congrArg (E _ _ _ _) (eq_ix2 j)).trans (place_B m c t h (j 0) (j 1))
  · rw [flushed4_A m c t h h, out_A_eq]
    exact (congrArg (k0_pay1 (iblk m c 0 t) (iblk m c 1 t)) (eq_ix2 j)).trans (place_A m c t h (j 0) (j 1))

/-- Every place of the result is in some point's block. -/
theorem covered (i : S8192x12800.Idx) :
    ∃ t : Fin cfg0.N, (cfg0.win 4).flush t = true ∧ i ∈ ((cfg0.win 4).blk t).view.set := by
  have h0 : (i 0).val < 8192 := (i 0).isLt
  have h1 : (i 1).val < 12800 := (i 1).isLt
  let t : Fin cfg0.N := ⟨(i 0).val / 1024 * 25 + (i 1).val / 512, by rw [N_eq]; omega⟩
  let j : S1024x512.Idx := ix2 (⟨(i 0).val % 1024, by omega⟩ : Fin 1024) (⟨(i 1).val % 512, by omega⟩ : Fin 512)
  refine ⟨t, flush0_4 t, ?_⟩
  have h := ((cfg0.win 4).blk t).view.emb_mem_set j
  have e : ((cfg0.win 4).blk t).view.emb j = i := by
    rw [emb4]
    funext a; apply Fin.ext
    match a with
    | ⟨0, _⟩ => show ((i 0).val / 1024 * 25 + (i 1).val / 512) / 25 * 1024 + (i 0).val % 1024 = (i 0).val; omega
    | ⟨1, _⟩ => show ((i 0).val / 1024 * 25 + (i 1).val / 512) % 25 * 512 + (i 1).val % 512 = (i 1).val; omega
  rwa [e] at h

/-- The result array after the run is `G` of the arguments. -/
theorem final (c : Dev nD) : (dats m 0 c).arrAt 4 cfg0.N
    = G (Z m c) (m ((c : Thread nD τ).loc main_arg2)) (m ((c : Thread nD τ).loc main_arg3)) :=
  (dats m 0 c).arrAt_eq_of_cover 4 _ (fun t _ => flushed_eq m c t) covered

/-- The kernel's labels run the same bodies whichever printing of it is read. -/
theorem defs_eq {F : FTy → Type} [FloatOps F] : Cert.Kernel2.defs (F := F) = Cert.Kernel2Ideal.defs (F := F) :=
  congrArg (Pipeline.defs (Cert.Kernel2Ideal.pcfgs (F := F))) (show Cert.Kernel2.defs₀ (F := F) = Cert.Kernel2Ideal.defs₀ from
    congrArg Defs.onTc (funext fun l => funext fun x => match l, x with
      | 0, (t, s) => rfl
      | ⟨_ + 1, h⟩, _ => absurd h (Nat.not_lt.2 (Nat.le_add_left _ _))))

theorem frame_KernelIdeal : Cert.quiescent_Kernel2Ideal := fun m g _ => Cert.Kernel2Ideal.Gen.frame (F := Ideal) m g

theorem frame_Kernel : Cert.quiescent_Kernel2 := fun m g _ => by
  rw [defs_eq]
  exact (θ_run Cert.Kernel2Ideal.defs _ _).mono (fun _ h => h) (Cert.Kernel2Ideal.Gen.frame (F := Bits) m g)

theorem frame_ReferenceIdeal : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem value_ideal : Cert.algebraic_Kernel2Ideal_Reference2Ideal := fun m g m' g' _ hag =>
  ⟨fun c => G (Z m c) (m ((c : Thread nD τ).loc main_arg2)) (m ((c : Thread nD τ).loc main_arg3)),
    (θ_run Cert.Kernel2Ideal.defs _ _).mono (fun _ h c => ⟨(h c).1.trans (final m c), (h c).2⟩) (run_blocks (F := Ideal) m g),
    (θ_run Cert.Reference2Ideal.defs _ _).mono (fun _ h c => ⟨(h c).1.trans ((res_eq m' c).trans (by
        rw [(hag c).1, (hag c).2.1, (hag c).2.2.1, (hag c).2.2.2]
        rfl)), (h c).2⟩) (Cert.Reference2Ideal.Value.run (F := Ideal) m' g')⟩

end Cert.Proof.InProj

end
-- ==== Proof.OutProj.lean ====
/- The output projection: each grid point's block of the result is the residual's block plus the product of a row block and
   a column block, which is that block of the residual plus the whole product. So the array the launch leaves is the
   reference's, and the claims about the call follow from the generated runs. -/
module

public import proofs.«01_k».proof.Defs
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Lib.MatmulPlain
public import Idealize.ShloMosaic.Lib.StackMember

@[expose] public section

noncomputable section

namespace Cert.Proof.OutProj

open Cert.Kernel3Ideal Cert.Kernel3Ideal.Gen Cert.Kernel3Ideal.Value Idealize.ShloMosaic Idealize.ShloMosaic.TcCoe
  Idealize.ShloMosaic.ValueIdx Idealize.SL.Sem
open scoped BigOperators

local instance : Cert.Kernel3.Facts := Cert.Kernel3.Gen.facts
local instance : Cert.Reference3Ideal.Facts := Cert.Reference3Ideal.Gen.facts

/-- The result at row `r`, column `c`: the residual plus the row of `a` times the column of `w`. -/
def G (a : Vec Ideal S8192x4096 .bf16) (w : Vec Ideal S4096x4096 .f32) (h : Vec Ideal S8192x4096 .f32) :
    Vec Ideal S8192x4096 .f32 :=
  fun i => (show EReal from h i) + ∑ k : Fin 4096, (show EReal from a (ix2 (i 0) k)) * (show EReal from w (ix2 k (i 1)))

theorem hz : (![0, 0] : Fin 2 → Nat) = fun _ => 0 := funext fun a => by fin_cases a <;> rfl

/-- What the body leaves in the result's block is its one store's payload at the whole blocks. -/
theorem out_eq {F : FTy → Type} [FloatOps F] (x0 : Vec F S1024x4096 .bf16) (x1 : Vec F S4096x512 .bf16)
    (x2 : Vec F S1024x512 .f32) : out0_3 x0 x1 x2 = k0_pay1 x0 x1 x2 := by
  unfold out0_3 r0_0 r0_1 r0_2
  rw [View.canon_unit_zero hz, View.ld_unit_zero hz, View.ld_unit_zero hz, View.ld_unit_zero hz]

/-- The payload at an index: the residual's entry plus the product of a row and a column of the blocks. -/
theorem pay_apply (x0 : Vec Ideal S1024x4096 .bf16) (x1 : Vec Ideal S4096x512 .bf16) (x2 : Vec Ideal S1024x512 .f32)
    (j : S1024x512.Idx) :
    k0_pay1 x0 x1 x2 j = (show EReal from x2 j) + ∑ k : Fin 4096, (show EReal from x0 (ix2 (j 0) k)) * (show EReal from x1 (ix2 k (j 1))) := by
  unfold k0_pay1
  simp only [shapeCast_self]
  show (show EReal from x2 j) + (show EReal from FloatOps.matmul (DotDims.plain 1024 4096 512) none x0 x1 (constant (F := Ideal) S1024x512 .f32 0x00000000#32) j) = _
  refine congrArg (x2 j + ·) ?_
  refine (congrArg (FloatOps.matmul (DotDims.plain 1024 4096 512) none x0 x1 (constant (F := Ideal) S1024x512 .f32 0x00000000#32)) (eq_ix2 j)).trans ?_
  refine (Ideal.matmul_plain_apply none x0 x1 _ (j 0) (j 1)).trans ?_
  refine (congrArg (· + _) (show (constant (F := Ideal) S1024x512 .f32 0x00000000#32) (ix2 (j 0) (j 1)) = (0 : EReal) from Ideal.ofBits_zero_f32)).trans (zero_add _)

/-- The block index of each window at point `t`, the grid's 64 points in row order. -/
theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 8 :=
  (by decide +kernel : ∀ t : Fin grid0.N, _)
theorem idx2 : ∀ t : Fin cfg0.N, win0_2.index t (0 : Fin 2) = t.val / 8 ∧ win0_2.index t (1 : Fin 2) = t.val % 8 :=
  (by decide +kernel : ∀ t : Fin grid0.N, _)
theorem idx3 : ∀ t : Fin cfg0.N, win0_3.index t (0 : Fin 2) = t.val / 8 ∧ win0_3.index t (1 : Fin 2) = t.val % 8 :=
  (by decide +kernel : ∀ t : Fin grid0.N, _)

theorem N_eq : cfg0.N = 64 := by decide

/-- The array row and column of place `j` of the result's block at point `t`. -/
def row (t : Fin cfg0.N) (j : S1024x512.Idx) : Fin 8192 :=
  ⟨t.val / 8 * 1024 + (j 0).val, by
    have h : t.val < 64 := N_eq ▸ t.isLt
    have h0 : (j 0).val < 1024 := (j 0).isLt
    omega⟩
def col (t : Fin cfg0.N) (j : S1024x512.Idx) : Fin 4096 :=
  ⟨t.val % 8 * 512 + (j 1).val, by
    have h : (j 1).val < 512 := (j 1).isLt; omega⟩

theorem emb0 (t : Fin cfg0.N) (j : S1024x512.Idx) (k : Fin 4096) :
    ((cfg0.win 0).blk t).view.emb (ix2 (j 0) k) = (ix2 (row t j) k : S8192x4096.Idx) := by
  obtain ⟨e0, e1⟩ := idx0 t
  funext a; apply Fin.ext
  match a with
  | ⟨0, _⟩ => show win0_0.index t (0 : Fin 2) * 1024 + 1 * (j 0).val = t.val / 8 * 1024 + (j 0).val; omega
  | ⟨1, _⟩ => show win0_0.index t (1 : Fin 2) * 4096 + 1 * k.val = k.val; omega

theorem emb1 (t : Fin cfg0.N) (j : S1024x512.Idx) (k : Fin 4096) :
    ((cfg0.win 1).blk t).view.emb (ix2 k (j 1)) = (ix2 k (col t j) : S4096x4096.Idx) := by
  obtain ⟨e0, e1⟩ := idx1 t
  funext a; apply Fin.ext
  match a with
  | ⟨0, _⟩ => show win0_1.index t (0 : Fin 2) * 4096 + 1 * k.val = k.val; omega
  | ⟨1, _⟩ => show win0_1.index t (1 : Fin 2) * 512 + 1 * (j 1).val = t.val % 8 * 512 + (j 1).val; omega

theorem emb2 (t : Fin cfg0.N) (j : S1024x512.Idx) :
    ((cfg0.win 2).blk t).view.emb j = (ix2 (row t j) (col t j) : S8192x4096.Idx) := by
  obtain ⟨e0, e1⟩ := idx2 t
  funext a; apply Fin.ext
  match a with
  | ⟨0, _⟩ => show win0_2.index t (0 : Fin 2) * 1024 + 1 * (j 0).val = t.val / 8 * 1024 + (j 0).val; omega
  | ⟨1, _⟩ => show win0_2.index t (1 : Fin 2) * 512 + 1 * (j 1).val = t.val % 8 * 512 + (j 1).val; omega

theorem emb3 (t : Fin cfg0.N) (j : S1024x512.Idx) :
    ((cfg0.win 3).blk t).view.emb j = (ix2 (row t j) (col t j) : S8192x4096.Idx) := by
  obtain ⟨e0, e1⟩ := idx3 t
  funext a; apply Fin.ext
  match a with
  | ⟨0, _⟩ => show win0_3.index t (0 : Fin 2) * 1024 + 1 * (j 0).val = t.val / 8 * 1024 + (j 0).val; omega
  | ⟨1, _⟩ => show win0_3.index t (1 : Fin 2) * 512 + 1 * (j 1).val = t.val % 8 * 512 + (j 1).val; omega

variable (m : (ℓ : Loc nD τ sig) → Buf (Elt Ideal) ℓ) (ρ : Dev nD → PrngReg)

/-- The launch finds the weights as the argument holds them: rounding to a narrower format changes no ideal value. -/
theorem V_main_v0 (c : Dev nD) : V m c main_v0 = (m ((c : Thread nD τ).loc main_arg1) : Vec Ideal S4096x4096 .f32) := by
  show StableHlo.after _ _ _ = _
  after_results
  rfl

/-- What point `t` writes back is its block of `G` of the arguments. -/
theorem flushed_eq (c : Dev nD) (t : Fin cfg0.N) :
    (dats m 0 c).flushed 3 t = ((cfg0.win 3).blk t).view.read (Elt Ideal)
      (G (V m c main_arg0) (V m c main_v0) (V m c main_arg2)) := by
  rw [flushed3, out_eq]
  funext j
  show k0_pay1 (iblk m c 0 t) (iblk m c 1 t) (iblk m c 2 t) j = G _ _ _ (((cfg0.win 3).blk t).view.emb j)
  rw [pay_apply, emb3]
  unfold G
  refine congrArg₂ (· + ·) ?_ (Finset.sum_congr rfl fun k _ => congrArg₂ (· * ·) ?_ ?_)
  · exact congrArg (V m c main_arg2) (emb2 t j)
  · exact congrArg (V m c main_arg0) (emb0 t j k)
  · exact congrArg (V m c main_v0) (emb1 t j k)

/-- Every place of the result is in some point's block. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  let t : Fin cfg0.N := ⟨(i 0).val / 1024 * 8 + (i 1).val / 512, by rw [N_eq]; omega⟩
  let j : S1024x512.Idx := ix2 (⟨(i 0).val % 1024, by omega⟩ : Fin 1024) (⟨(i 1).val % 512, by omega⟩ : Fin 512)
  refine ⟨t, flush0_3 t, ?_⟩
  have h := ((cfg0.win 3).blk t).view.emb_mem_set j
  have e : ((cfg0.win 3).blk t).view.emb j = i := by
    rw [emb3]
    funext a; apply Fin.ext
    match a with
    | ⟨0, _⟩ => show ((i 0).val / 1024 * 8 + (i 1).val / 512) / 8 * 1024 + (i 0).val % 1024 = (i 0).val; omega
    | ⟨1, _⟩ => show ((i 0).val / 1024 * 8 + (i 1).val / 512) % 8 * 512 + (i 1).val % 512 = (i 1).val; omega
  rwa [e] at h

/-- The result array after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) :=
  ((dats m 0 c).arrAt_eq_of_cover 3 _ (fun t _ => flushed_eq m c t) covered).trans
    (by rw [V_main_arg0, V_main_arg2, V_main_v0])

/-- The reference's result is `G` of its arguments. -/
theorem ref_eq (a : FVec Ideal S8192x4096 .bf16) (w : FVec Ideal S4096x4096 .f32) (h : FVec Ideal S8192x4096 .f32) :
    addf h (Host.dotGeneral Cert.Reference3Ideal.dot_S8192x4096_S4096x4096_S8192x4096_1_0_0_1_n_n none
      (extf .f32 a Cert.Reference3Ideal.Facts₀.bitsLt_bf16_f32) w) = G a w h := by
  funext i
  refine congrArg (fun z : EReal => (show EReal from h i) + z) ?_
  exact (congrArg (Host.dotGeneral (DotDims.plain 8192 4096 4096) none (extf .f32 a Cert.Reference3Ideal.Facts₀.bitsLt_bf16_f32) w) (eq_ix2 i)).trans
    (Idealize.ShloMosaic.StackMember.dotGeneral_plain_apply none _ w (i 0) (i 1))

/-- The kernel's labels run the same bodies whichever printing of it is read. -/
theorem defs_eq {F : FTy → Type} [FloatOps F] : Cert.Kernel3.defs (F := F) = Cert.Kernel3Ideal.defs (F := F) :=
  congrArg (Pipeline.defs (Cert.Kernel3Ideal.pcfgs (F := F))) (show Cert.Kernel3.defs₀ (F := F) = Cert.Kernel3Ideal.defs₀ from
    congrArg Defs.onTc (funext fun l => funext fun x => match l, x with
      | 0, (t, s) => rfl
      | ⟨_ + 1, h⟩, _ => absurd h (Nat.not_lt.2 (Nat.le_add_left _ _))))

theorem frame_KernelIdeal : Cert.quiescent_Kernel3Ideal := fun m g _ => Cert.Kernel3Ideal.Gen.frame (F := Ideal) m g

theorem frame_Kernel : Cert.quiescent_Kernel3 := fun m g _ => by
  rw [defs_eq]
  exact (θ_run Cert.Kernel3Ideal.defs _ _).mono (fun _ h => h) (Cert.Kernel3Ideal.Gen.frame (F := Bits) m g)

theorem frame_ReferenceIdeal : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem value_ideal : Cert.algebraic_Kernel3Ideal_Reference3Ideal := fun m g m' g' _ hag =>
  ⟨fun c => G (m ((c : Thread nD τ).loc main_arg0)) (m ((c : Thread nD τ).loc main_arg1)) (m ((c : Thread nD τ).loc main_arg2)),
    (θ_run Cert.Kernel3Ideal.defs _ _).mono (fun _ h c => ⟨(h c).1.trans (final m c), (h c).2⟩) (run_blocks (F := Ideal) m g),
    (θ_run Cert.Reference3Ideal.defs _ _).mono (fun _ h c => ⟨(h c).1.trans (by
        rw [(hag c).1, (hag c).2.1, (hag c).2.2]
        exact ref_eq _ _ _), (h c).2⟩) (Cert.Reference3Ideal.Value.run (F := Ideal) m' g')⟩

end Cert.Proof.OutProj

end
-- ==== Proof.Merge.lean ====
/- The gated merge: each grid point's block of the result is the two gated products' sum over a row block and a column block
   of each pair, the gates read from two column ranges of one array. That is the block of the whole expression, so the array
   the launch leaves is the reference's, and the claims about the call follow from the generated runs. -/
module

public import proofs.«01_k».proof.Defs
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.MatmulPlain
public import Idealize.ShloMosaic.Lib.StackMember

@[expose] public section

noncomputable section

namespace Cert.Proof.Merge

open Cert.Kernel4Ideal Cert.Kernel4Ideal.Gen Cert.Kernel4Ideal.Value Idealize.ShloMosaic Idealize.ShloMosaic.TcCoe
  Idealize.ShloMosaic.ValueIdx Idealize.SL.Sem
open scoped BigOperators

local instance : Cert.Kernel4.Facts := Cert.Kernel4.Gen.facts
local instance : Cert.Reference4Ideal.Facts := Cert.Reference4Ideal.Gen.facts

/-- One over one plus the exponential of the negated gate, the ones as the literal both programs print. -/
def gate (x : EReal) : EReal :=
  Ideal.div (Scalar.ofBits (F := Ideal) .f32 0x3F800000#32)
    ((show EReal from Scalar.ofBits (F := Ideal) .f32 0x3F800000#32) + Ideal.exp (-x))

/-- Column `c` of the first gate, and of the second, in the array both are read from. -/
def gcol (o : ℕ) (ho : o + 4096 ≤ 12800) (c : Fin 4096) : Fin 12800 := ⟨o + c.val, by omega⟩

/-- The result at row `r`, column `c`: each gate times its product, added. -/
def G (a : Vec Ideal S8192x2048 .bf16) (wa : Vec Ideal S2048x4096 .f32) (b : Vec Ideal S8192x2048 .bf16)
    (wb : Vec Ideal S2048x4096 .f32) (z : Vec Ideal S8192x12800 .bf16) : Vec Ideal S8192x4096 .bf16 :=
  fun i => gate (z (ix2 (i 0) (gcol 4608 (by omega) (i 1))))
        * (∑ k : Fin 2048, (show EReal from a (ix2 (i 0) k)) * (show EReal from wa (ix2 k (i 1))))
      + gate (z (ix2 (i 0) (gcol 8704 (by omega) (i 1))))
        * (∑ k : Fin 2048, (show EReal from b (ix2 (i 0) k)) * (show EReal from wb (ix2 k (i 1))))

theorem hz : (![0, 0] : Fin 2 → Nat) = fun _ => 0 := funext fun a => by fin_cases a <;> rfl

/-- What the body leaves in the result's block is its one store's payload at the whole blocks. -/
theorem out_eq {F : FTy → Type} [FloatOps F] (x0 : Vec F S1024x2048 .bf16) (x1 : Vec F S2048x512 .bf16)
    (x2 : Vec F S1024x2048 .bf16) (x3 : Vec F S2048x512 .bf16) (x4 x5 : Vec F S1024x512 .bf16) :
    out0_6 x0 x1 x2 x3 x4 x5 = k0_pay1 x0 x1 x2 x3 x4 x5 := by
  unfold out0_6 r0_0 r0_1 r0_2
  rw [View.canon_unit_zero hz, View.ld_unit_zero hz, View.ld_unit_zero hz, View.ld_unit_zero hz, View.ld_unit_zero hz,
    View.ld_unit_zero hz, View.ld_unit_zero hz]

/-- A block's product at an index. -/
theorem mm_apply (x0 : FVec Ideal S1024x2048 .bf16) (x1 : FVec Ideal S2048x512 .bf16) (j : S1024x512.Idx) :
    (show EReal from FloatOps.matmul (DotDims.plain 1024 2048 512) none x0 x1 (constant (F := Ideal) S1024x512 .f32 0x00000000#32) j)
      = ∑ k : Fin 2048, (show EReal from x0 (ix2 (j 0) k)) * (show EReal from x1 (ix2 k (j 1))) := by
  refine (congrArg (FloatOps.matmul (DotDims.plain 1024 2048 512) none x0 x1 (constant (F := Ideal) S1024x512 .f32 0x00000000#32)) (eq_ix2 j)).trans ?_
  refine (Ideal.matmul_plain_apply none x0 x1 _ (j 0) (j 1)).trans ?_
  exact (congrArg (· + _) (show (constant (F := Ideal) S1024x512 .f32 0x00000000#32) (ix2 (j 0) (j 1)) = (0 : EReal) from Ideal.ofBits_zero_f32)).trans (zero_add _)

/-- Zero minus the gate is the gate negated. -/
theorem gate_eq (x : EReal) :
    Ideal.div (Scalar.ofBits (F := Ideal) .f32 0x3F800000#32)
      ((show EReal from Scalar.ofBits (F := Ideal) .f32 0x3F800000#32)
        + Ideal.exp ((show EReal from Scalar.ofBits (F := Ideal) .f32 0x00000000#32) - x)) = gate x := by
  rw [show (show EReal from Scalar.ofBits (F := Ideal) .f32 0x00000000#32) = 0 from Ideal.ofBits_zero_f32, zero_sub]
  rfl

/-- The payload at an index. -/
theorem pay_apply (x0 : Vec Ideal S1024x2048 .bf16) (x1 : Vec Ideal S2048x512 .bf16) (x2 : Vec Ideal S1024x2048 .bf16)
    (x3 : Vec Ideal S2048x512 .bf16) (x4 x5 : Vec Ideal S1024x512 .bf16) (j : S1024x512.Idx) :
    k0_pay1 x0 x1 x2 x3 x4 x5 j
      = gate (x4 j) * (∑ k : Fin 2048, (show EReal from x0 (ix2 (j 0) k)) * (show EReal from x1 (ix2 k (j 1))))
        + gate (x5 j) * (∑ k : Fin 2048, (show EReal from x2 (ix2 (j 0) k)) * (show EReal from x3 (ix2 k (j 1)))) := by
  unfold k0_pay1
  simp only [shapeCast_self]
  exact congrArg₂ (fun a b : EReal => a + b) (congrArg₂ (fun a b : EReal => a * b) (gate_eq (x4 j)) (mm_apply x0 x1 j))
    (congrArg₂ (fun a b : EReal => a * b) (gate_eq (x5 j)) (mm_apply x2 x3 j))

/-- The block index of each window at point `t`, the grid's 64 points in row order. -/
theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 8 :=
  (by decide +kernel : ∀ t : Fin grid0.N, _)
theorem idx2 : ∀ t : Fin cfg0.N, win0_2.index t (0 : Fin 2) = t.val / 8 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 8 :=
  (by decide +kernel : ∀ t : Fin grid0.N, _)
theorem idx4 : ∀ t : Fin cfg0.N, win0_4.index t (0 : Fin 2) = t.val / 8 ∧ win0_4.index t (1 : Fin 2) = t.val % 8 + 9 :=
  (by decide +kernel : ∀ t : Fin grid0.N, _)
theorem idx5 : ∀ t : Fin cfg0.N, win0_5.index t (0 : Fin 2) = t.val / 8 ∧ win0_5.index t (1 : Fin 2) = t.val % 8 + 17 :=
  (by decide +kernel : ∀ t : Fin grid0.N, _)
theorem idx6 : ∀ t : Fin cfg0.N, win0_6.index t (0 : Fin 2) = t.val / 8 ∧ win0_6.index t (1 : Fin 2) = t.val % 8 :=
  (by decide +kernel : ∀ t : Fin grid0.N, _)

theorem N_eq : cfg0.N = 64 := by decide

/-- The array row and column of place `j` of the result's block at point `t`. -/
def row (t : Fin cfg0.N) (j : S1024x512.Idx) : Fin 8192 :=
  ⟨t.val / 8 * 1024 + (j 0).val, by
    have h : t.val < 64 := N_eq ▸ t.isLt
    have h0 : (j 0).val < 1024 := (j 0).isLt
    omega⟩
def col (t : Fin cfg0.N) (j : S1024x512.Idx) : Fin 4096 :=
  ⟨t.val % 8 * 512 + (j 1).val, by
    have h : (j 1).val < 512 := (j 1).isLt; omega⟩

theorem emb0 (t : Fin cfg0.N) (j : S1024x512.Idx) (k : Fin 2048) :
    ((cfg0.win 0).blk t).view.emb (ix2 (j 0) k) = (ix2 (row t j) k : S8192x2048.Idx) := by
  obtain ⟨e0, e1⟩ := idx0 t
  funext a; apply Fin.ext
  match a with
  | ⟨0, _⟩ => show win0_0.index t (0 : Fin 2) * 1024 + 1 * (j 0).val = t.val / 8 * 1024 + (j 0).val; omega
  | ⟨1, _⟩ => show win0_0.index t (1 : Fin 2) * 2048 + 1 * k.val = k.val; omega

theorem emb1 (t : Fin cfg0.N) (j : S1024x512.Idx) (k : Fin 2048) :
    ((cfg0.win 1).blk t).view.emb (ix2 k (j 1)) = (ix2 k (col t j) : S2048x4096.Idx) := by
  obtain ⟨e0, e1⟩ := idx1 t
  funext a; apply Fin.ext
  match a with
  | ⟨0, _⟩ => show win0_1.index t (0 : Fin 2) * 2048 + 1 * k.val = k.val; omega
  | ⟨1, _⟩ => show win0_1.index t (1 : Fin 2) * 512 + 1 * (j 1).val = t.val % 8 * 512 + (j 1).val; omega

theorem emb2 (t : Fin cfg0.N) (j : S1024x512.Idx) (k : Fin 2048) :
    ((cfg0.win 2).blk t).view.emb (ix2 (j 0) k) = (ix2 (row t j) k : S8192x2048.Idx) := by
  obtain ⟨e0, e1⟩ := idx2 t
  funext a; apply Fin.ext
  match a with
  | ⟨0, _⟩ => show win0_2.index t (0 : Fin 2) * 1024 + 1 * (j 0).val = t.val / 8 * 1024 + (j 0).val; omega
  | ⟨1, _⟩ => show win0_2.index t (1 : Fin 2) * 2048 + 1 * k.val = k.val; omega

theorem emb3 (t : Fin cfg0.N) (j : S1024x512.Idx) (k : Fin 2048) :
    ((cfg0.win 3).blk t).view.emb (ix2 k (j 1)) = (ix2 k (col t j) : S2048x4096.Idx) := by
  obtain ⟨e0, e1⟩ := idx3 t
  funext a; apply Fin.ext
  match a with
  | ⟨0, _⟩ => show win0_3.index t (0 : Fin 2) * 2048 + 1 * k.val = k.val; omega
  | ⟨1, _⟩ => show win0_3.index t (1 : Fin 2) * 512 + 1 * (j 1).val = t.val % 8 * 512 + (j 1).val; omega

theorem emb4 (t : Fin cfg0.N) (j : S1024x512.Idx) :
    ((cfg0.win 4).blk t).view.emb j = (ix2 (row t j) (gcol 4608 (by omega) (col t j)) : S8192x12800.Idx) := by
  obtain ⟨e0, e1⟩ := idx4 t
  funext a; apply Fin.ext
  match a with
  | ⟨0, _⟩ => show win0_4.index t (0 : Fin 2) * 1024 + 1 * (j 0).val = t.val / 8 * 1024 + (j 0).val; omega
  | ⟨1, _⟩ => show win0_4.index t (1 : Fin 2) * 512 + 1 * (j 1).val = 4608 + (t.val % 8 * 512 + (j 1).val); omega

theorem emb5 (t : Fin cfg0.N) (j : S1024x512.Idx) :
    ((cfg0.win 5).blk t).view.emb j = (ix2 (row t j) (gcol 8704 (by omega) (col t j)) : S8192x12800.Idx) := by
  obtain ⟨e0, e1⟩ := idx5 t
  funext a; apply Fin.ext
  match a with
  | ⟨0, _⟩ => show win0_5.index t (0 : Fin 2) * 1024 + 1 * (j 0).val = t.val / 8 * 1024 + (j 0).val; omega
  | ⟨1, _⟩ => show win0_5.index t (1 : Fin 2) * 512 + 1 * (j 1).val = 8704 + (t.val % 8 * 512 + (j 1).val); omega

theorem emb6 (t : Fin cfg0.N) (j : S1024x512.Idx) :
    ((cfg0.win 6).blk t).view.emb j = (ix2 (row t j) (col t j) : S8192x4096.Idx) := by
  obtain ⟨e0, e1⟩ := idx6 t
  funext a; apply Fin.ext
  match a with
  | ⟨0, _⟩ => show win0_6.index t (0 : Fin 2) * 1024 + 1 * (j 0).val = t.val / 8 * 1024 + (j 0).val; omega
  | ⟨1, _⟩ => show win0_6.index t (1 : Fin 2) * 512 + 1 * (j 1).val = t.val % 8 * 512 + (j 1).val; omega

variable (m : (ℓ : Loc nD τ sig) → Buf (Elt Ideal) ℓ) (ρ : Dev nD → PrngReg)

/-- The launch finds the weights as the arguments hold them: rounding to a narrower format changes no ideal value. -/
theorem V_main_v0 (c : Dev nD) : V m c main_v0 = (m ((c : Thread nD τ).loc main_arg1) : Vec Ideal S2048x4096 .f32) := by
  show StableHlo.after _ _ _ = _
  after_results
  rfl
theorem V_main_v1 (c : Dev nD) : V m c main_v1 = (m ((c : Thread nD τ).loc main_arg3) : Vec Ideal S2048x4096 .f32) := by
  show StableHlo.after _ _ _ = _
  after_results
  rfl

/-- What point `t` writes back is its block of `G` of the arguments. -/
theorem flushed_eq (c : Dev nD) (t : Fin cfg0.N) :
    (dats m 0 c).flushed 6 t = ((cfg0.win 6).blk t).view.read (Elt Ideal)
      (G (V m c main_arg0) (V m c main_v0) (V m c main_arg2) (V m c main_v1) (V m c main_arg4)) := by
  rw [flushed6, out_eq]
  funext j
  show k0_pay1 (iblk m c 0 t) (iblk m c 1 t) (iblk m c 2 t) (iblk m c 3 t) (iblk m c 4 t) (iblk m c 5 t) j
    = G _ _ _ _ _ (((cfg0.win 6).blk t).view.emb j)
  rw [pay_apply, emb6]
  unfold G
  refine congrArg₂ (· + ·) (congrArg₂ (· * ·) ?_ (Finset.sum_congr rfl fun k _ => congrArg₂ (· * ·) ?_ ?_))
    (congrArg₂ (· * ·) ?_ (Finset.sum_congr rfl fun k _ => congrArg₂ (· * ·) ?_ ?_))
  · exact congrArg (fun i => gate (V m c main_arg4 i)) (emb4 t j)
  · exact congrArg (V m c main_arg0) (emb0 t j k)
  · exact congrArg (V m c main_v0) (emb1 t j k)
  · exact congrArg (fun i => gate (V m c main_arg4 i)) (emb5 t j)
  · exact congrArg (V m c main_arg2) (emb2 t j k)
  · exact congrArg (V m c main_v1) (emb3 t j k)

/-- Every place of the result is in some point's block. -/
theorem covered (i : S8192x4096.Idx) :
    ∃ t : Fin cfg0.N, (cfg0.win 6).flush t = true ∧ i ∈ ((cfg0.win 6).blk t).view.set := by
  have h0 : (i 0).val < 8192 := (i 0).isLt
  have h1 : (i 1).val < 4096 := (i 1).isLt
  let t : Fin cfg0.N := ⟨(i 0).val / 1024 * 8 + (i 1).val / 512, by rw [N_eq]; omega⟩
  let j : S1024x512.Idx := ix2 (⟨(i 0).val % 1024, by omega⟩ : Fin 1024) (⟨(i 1).val % 512, by omega⟩ : Fin 512)
  refine ⟨t, flush0_6 t, ?_⟩
  have h := ((cfg0.win 6).blk t).view.emb_mem_set j
  have e : ((cfg0.win 6).blk t).view.emb j = i := by
    rw [emb6]
    funext a; apply Fin.ext
    match a with
    | ⟨0, _⟩ => show ((i 0).val / 1024 * 8 + (i 1).val / 512) / 8 * 1024 + (i 0).val % 1024 = (i 0).val; omega
    | ⟨1, _⟩ => show ((i 0).val / 1024 * 8 + (i 1).val / 512) % 8 * 512 + (i 1).val % 512 = (i 1).val; omega
  rwa [e] at h

/-- The result array after the run is `G` of the arguments. -/
theorem final (c : Dev nD) : (dats m 0 c).arrAt 6 cfg0.N
    = G (m ((c : Thread nD τ).loc main_arg0)) (m ((c : Thread nD τ).loc main_arg1)) (m ((c : Thread nD τ).loc main_arg2))
      (m ((c : Thread nD τ).loc main_arg3)) (m ((c : Thread nD τ).loc main_arg4)) :=
  ((dats m 0 c).arrAt_eq_of_cover 6 _ (fun t _ => flushed_eq m c t) covered).trans
    (by rw [V_main_arg0, V_main_arg2, V_main_arg4, V_main_v0, V_main_v1])

/-- The reference's product at an index. -/
theorem dot_apply (a : FVec Ideal S8192x2048 .bf16) (w : FVec Ideal S2048x4096 .f32) (i : S8192x4096.Idx) :
    Host.dotGeneral Cert.Reference4Ideal.dot_S8192x2048_S2048x4096_S8192x4096_1_0_0_1_n_n none
      (extf .f32 a Cert.Reference4Ideal.Facts₀.bitsLt_bf16_f32) w i
      = ∑ k : Fin 2048, (show EReal from a (ix2 (i 0) k)) * (show EReal from w (ix2 k (i 1))) :=
  (congrArg (Host.dotGeneral (DotDims.plain 8192 2048 4096) none (extf .f32 a Cert.Reference4Ideal.Facts₀.bitsLt_bf16_f32) w) (eq_ix2 i)).trans
    (Idealize.ShloMosaic.StackMember.dotGeneral_plain_apply none _ w (i 0) (i 1))

/-- The first gate's column range, and the second's, read at an index. -/
theorem slice_at1 (z : FVec Ideal S8192x12800 .bf16) (i : S8192x4096.Idx) :
    extractStridedSlice Cert.Reference4Ideal.S8192x4096 ![0, 4608] z Cert.Reference4Ideal.Facts₀.slices_S8192x12800_S8192x4096_0_4608 i
      = z (ix2 (i 0) (gcol 4608 (by omega) (i 1))) := by
  refine congrArg z (funext fun a => Fin.ext ?_)
  match a with
  | ⟨0, _⟩ => show 0 + (i 0).val = (i 0).val; omega
  | ⟨1, _⟩ => rfl
theorem slice_at2 (z : FVec Ideal S8192x12800 .bf16) (i : S8192x4096.Idx) :
    extractStridedSlice Cert.Reference4Ideal.S8192x4096 ![0, 8704] z Cert.Reference4Ideal.Facts₀.slices_S8192x12800_S8192x4096_0_8704 i
      = z (ix2 (i 0) (gcol 8704 (by omega) (i 1))) := by
  refine congrArg z (funext fun a => Fin.ext ?_)
  match a with
  | ⟨0, _⟩ => show 0 + (i 0).val = (i 0).val; omega
  | ⟨1, _⟩ => rfl

/-- The reference's result is `G` of its arguments. -/
theorem ref_eq (a : FVec Ideal S8192x2048 .bf16) (wa : FVec Ideal S2048x4096 .f32) (b : FVec Ideal S8192x2048 .bf16)
    (wb : FVec Ideal S2048x4096 .f32) (z : FVec Ideal S8192x12800 .bf16) :
    truncf .bf16 (addf (mulf (Host.divf (broadcastInDim Cert.Reference4Ideal.S8192x4096 ![] Cert.Reference4Ideal.Facts₀.bcast_S_S8192x4096 (constant Cert.Reference4Ideal.S_ .f32 0x3F800000#32)) (addf (broadcastInDim Cert.Reference4Ideal.S8192x4096 ![] Cert.Reference4Ideal.Facts₀.bcast_S_S8192x4096 (constant Cert.Reference4Ideal.S_ .f32 0x3F800000#32)) (Host.exp (Host.negf (extf .f32 (extractStridedSlice Cert.Reference4Ideal.S8192x4096 ![0, 4608] z Cert.Reference4Ideal.Facts₀.slices_S8192x12800_S8192x4096_0_4608) Cert.Reference4Ideal.Facts₀.bitsLt_bf16_f32))))) (Host.dotGeneral Cert.Reference4Ideal.dot_S8192x2048_S2048x4096_S8192x4096_1_0_0_1_n_n none (extf .f32 a Cert.Reference4Ideal.Facts₀.bitsLt_bf16_f32) wa)) (mulf (Host.divf (broadcastInDim Cert.Reference4Ideal.S8192x4096 ![] Cert.Reference4Ideal.Facts₀.bcast_S_S8192x4096 (constant Cert.Reference4Ideal.S_ .f32 0x3F800000#32)) (addf (broadcastInDim Cert.Reference4Ideal.S8192x4096 ![] Cert.Reference4Ideal.Facts₀.bcast_S_S8192x4096 (constant Cert.Reference4Ideal.S_ .f32 0x3F800000#32)) (Host.exp (Host.negf (extf .f32 (extractStridedSlice Cert.Reference4Ideal.S8192x4096 ![0, 8704] z Cert.Reference4Ideal.Facts₀.slices_S8192x12800_S8192x4096_0_8704) Cert.Reference4Ideal.Facts₀.bitsLt_bf16_f32))))) (Host.dotGeneral Cert.Reference4Ideal.dot_S8192x2048_S2048x4096_S8192x4096_1_0_0_1_n_n none (extf .f32 b Cert.Reference4Ideal.Facts₀.bitsLt_bf16_f32) wb))) Cert.Reference4Ideal.Facts₀.bitsLt_bf16_f32
      = G a wa b wb z := by
  funext i
  exact congrArg₂ (fun a b : EReal => a + b)
    (congrArg₂ (fun a b : EReal => a * b) (congrArg gate (slice_at1 z i)) (dot_apply a wa i))
    (congrArg₂ (fun a b : EReal => a * b) (congrArg gate (slice_at2 z i)) (dot_apply b wb i))

/-- The kernel's labels run the same bodies whichever printing of it is read. -/
theorem defs_eq {F : FTy → Type} [FloatOps F] : Cert.Kernel4.defs (F := F) = Cert.Kernel4Ideal.defs (F := F) :=
  congrArg (Pipeline.defs (Cert.Kernel4Ideal.pcfgs (F := F))) (show Cert.Kernel4.defs₀ (F := F) = Cert.Kernel4Ideal.defs₀ from
    congrArg Defs.onTc (funext fun l => funext fun x => match l, x with
      | 0, (t, s) => rfl
      | ⟨_ + 1, h⟩, _ => absurd h (Nat.not_lt.2 (Nat.le_add_left _ _))))

theorem frame_KernelIdeal : Cert.quiescent_Kernel4Ideal := fun m g _ => Cert.Kernel4Ideal.Gen.frame (F := Ideal) m g

theorem frame_Kernel : Cert.quiescent_Kernel4 := fun m g _ => by
  rw [defs_eq]
  exact (θ_run Cert.Kernel4Ideal.defs _ _).mono (fun _ h => h) (Cert.Kernel4Ideal.Gen.frame (F := Bits) m g)

theorem frame_ReferenceIdeal : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem value_ideal : Cert.algebraic_Kernel4Ideal_Reference4Ideal := fun m g m' g' _ hag =>
  ⟨fun c => G (m ((c : Thread nD τ).loc main_arg0)) (m ((c : Thread nD τ).loc main_arg1)) (m ((c : Thread nD τ).loc main_arg2))
      (m ((c : Thread nD τ).loc main_arg3)) (m ((c : Thread nD τ).loc main_arg4)),
    (θ_run Cert.Kernel4Ideal.defs _ _).mono (fun _ h c => ⟨(h c).1.trans (final m c), (h c).2⟩) (run_blocks (F := Ideal) m g),
    (θ_run Cert.Reference4Ideal.defs _ _).mono (fun _ h c => ⟨(h c).1.trans (by
        rw [(hag c).1, (hag c).2.1, (hag c).2.2.1, (hag c).2.2.2.1, (hag c).2.2.2.2]
        exact ref_eq _ _ _ _ _), (h c).2⟩) (Cert.Reference4Ideal.Value.run (F := Ideal) m' g')⟩

end Cert.Proof.Merge

end
-- ==== Proof.ExpertsBody.lean ====
/- The expert blocks' kernel at one grid point: run on any staging buffers, in each of its two cases. -/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Experts

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables as the host computes them: each block's expert, and the number of blocks used. -/
abbrev mE : Memref sig .tc .smem S160 .i32 := Memref.whole main_v22
abbrev mU : Memref sig .tc .smem S1 .i32 := Memref.whole main_v24
abbrev TE (c : Dev nD) : Type := Buf (Elt F) (mE.view.loc (c : Thread nD τ))
abbrev TU (c : Dev nD) : Type := Buf (Elt F) (mU.view.loc (c : Thread nD τ))
/-- Half of each table held, the kernel's to read. -/
abbrev holdE (c : Dev nD) (f : TE (F := F) c) : sProp 𝕄 := mE.view.loc (c : Thread nD τ) ↦{fullShare.right} f
abbrev holdU (c : Dev nD) (f : TU (F := F) c) : sProp 𝕄 := mU.view.loc (c : Thread nD τ) ↦{fullShare.right} f

/-- The word the kernel reads from the second table. -/
abbrev word (c : Dev nD) (f : TU (F := F) c) : BitVec 32 :=
  mU.view.readAt (Elt F) (Rect.unit (s := S1) ![0] S1.size inb_S1_S1_0).toLoadRect f (Shape.Idx.first (numel1_S1.symm ▸ Nat.one_pos))

/-- The whole block of an output or of the rows. -/
abbrev rX : Rect S128x4096 := Rect.unit (s := S128x4096) ![0, 0] S128x4096.size inb_S128x4096_S128x4096_0_0
abbrev rW : Rect S1x4096x768 := Rect.unit (s := S1x4096x768) ![0, 0, 0] S1x4096x768.size inb_S1x4096x768_S1x4096x768_0_0_0
abbrev rD : Rect S1x768x4096 := Rect.unit (s := S1x768x4096) ![0, 0, 0] S1x768x4096.size inb_S1x768x4096_S1x768x4096_0_0_0

section
variable (c : Dev nD) (i : grid0.Coords)
  (a3 : Memref sig .tc .vmem S128x4096 .f32) (h3 : a3.IsWhole) (a4 : Memref sig .tc .vmem S1x4096x768 .bf16) (h4 : a4.IsWhole)
  (a5 : Memref sig .tc .vmem S1x4096x768 .bf16) (h5 : a5.IsWhole) (a6 : Memref sig .tc .vmem S1x768x4096 .bf16) (h6 : a6.IsWhole)
  (a7 : Memref sig .tc .vmem S128x4096 .f32) (h7 : a7.IsWhole)
  (x0 : Vec F S128x4096 .f32) (x1 : Vec F S1x4096x768 .bf16) (x2 : Vec F S1x4096x768 .bf16) (x3 : Vec F S1x768x4096 .bf16)
  (te : TE (F := F) c) (tu : TU (F := F) c)

/-- What the kernel is handed at a point, but for the result's block. -/
def handed : sProp 𝕄 :=
  iprop(owns (c : Thread nD τ) a3 fullShare x0 ∗ owns (c : Thread nD τ) a4 fullShare x1 ∗ owns (c : Thread nD τ) a5 fullShare x2
    ∗ owns (c : Thread nD τ) a6 fullShare x3 ∗ holdE c te ∗ holdU c tu)

set_option maxHeartbeats 1000000 in
/-- A block in use: the result's block ends at the gated feed-forward of the rows' block. -/
theorem point_used (h1 : ¬ k0_cond1 i (word c tu) = 1#1) (h2 : k0_cond2 i (word c tu) = 1#1) (E : Set ℕ) (K : PUnit → sProp 𝕄) :
    iprop(handed c a3 a4 a5 a6 x0 x1 x2 x3 te tu ∗ (∃ d, owns (c : Thread nD τ) a7 fullShare d)
        ∗ (iprop(handed c a3 a4 a5 a6 x0 x1 x2 x3 te tu ∗ owns (c : Thread nD τ) a7 fullShare (k0_pay2 x0 x1 x2 x3)) -∗ K ⟨⟩))
      ⊢ wp frame (wpE (defs₀ (F := F)) Variants.none c none) E
          (cc0_moe_experts i mE (Memref.isWhole_whole _) mU (Memref.isWhole_whole _) a3 h3 a4 h4 a5 h5 a6 h6 a7 h7) K := by
  simp only [cc0_moe_experts_eq_skeleton]; unfold cc0_moe_experts_skel
  unfold handed owns
  iintro ⟨⟨⟨%f0, %e0, H0⟩, ⟨%f1, %e1, H1⟩, ⟨%f2, %e2, H2⟩, ⟨%f3, %e3, H3⟩, HE, HU⟩, ⟨%d4, %f4, -, H4⟩, Hk⟩
  obtain rfl := h3.eq_unread e0; obtain rfl := h4.eq_unread e1; obtain rfl := h5.eq_unread e2; obtain rfl := h6.eq_unread e3
  sl_exec (disch := first | sl_exact h1 | sl_exact h2)
  sl_step
  iapply Hk
  isplitl [H0 H1 H2 H3 HE HU]
  · isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [HE]; · iexact HE
    iexact HU
  iexists _; isplitr
  swap; · iexact H4
  ipureintro
  rw [View.read_writes_full a7.view f4 inb_S128x4096_S128x4096_0_0]
  have g0 := (View.readAt_full (Val := Elt F) a3.view (h3.unread x0) inb_S128x4096_S128x4096_0_0).trans e0
  have g1 := (View.readAt_full (Val := Elt F) a4.view (h4.unread x1) inb_S1x4096x768_S1x4096x768_0_0_0).trans e1
  have g2 := (View.readAt_full (Val := Elt F) a5.view (h5.unread x2) inb_S1x4096x768_S1x4096x768_0_0_0).trans e2
  have g3 := (View.readAt_full (Val := Elt F) a6.view (h6.unread x3) inb_S1x768x4096_S1x768x4096_0_0_0).trans e3
  exact congr (congr (congr (congrArg k0_pay2 g0) g1) g2) g3

set_option maxHeartbeats 1000000 in
/-- A block not in use: the result's block ends at zeros. -/
theorem point_unused (h1 : k0_cond1 i (word c tu) = 1#1) (h2 : ¬ k0_cond2 i (word c tu) = 1#1) (E : Set ℕ) (K : PUnit → sProp 𝕄) :
    iprop(handed c a3 a4 a5 a6 x0 x1 x2 x3 te tu ∗ (∃ d, owns (c : Thread nD τ) a7 fullShare d)
        ∗ (iprop(handed c a3 a4 a5 a6 x0 x1 x2 x3 te tu ∗ owns (c : Thread nD τ) a7 fullShare (k0_pay1 (F := F))) -∗ K ⟨⟩))
      ⊢ wp frame (wpE (defs₀ (F := F)) Variants.none c none) E
          (cc0_moe_experts i mE (Memref.isWhole_whole _) mU (Memref.isWhole_whole _) a3 h3 a4 h4 a5 h5 a6 h6 a7 h7) K := by
  simp only [cc0_moe_experts_eq_skeleton]; unfold cc0_moe_experts_skel
  unfold handed owns
  iintro ⟨⟨⟨%f0, %e0, H0⟩, ⟨%f1, %e1, H1⟩, ⟨%f2, %e2, H2⟩, ⟨%f3, %e3, H3⟩, HE, HU⟩, ⟨%d4, %f4, -, H4⟩, Hk⟩
  sl_exec (disch := first | sl_exact h1 | sl_exact h2)
  sl_step
  iapply Hk
  isplitl [H0 H1 H2 H3 HE HU]
  · isplitl [H0]
    · iexists _; isplitr; · ipureintro; exact e0
      iexact H0
    isplitl [H1]
    · iexists _; isplitr; · ipureintro; exact e1
      iexact H1
    isplitl [H2]
    · iexists _; isplitr; · ipureintro; exact e2
      iexact H2
    isplitl [H3]
    · iexists _; isplitr; · ipureintro; exact e3
      iexact H3
    isplitl [HE]; · iexact HE
    iexact HU
  iexists _; isplitr
  swap; · iexact H4
  ipureintro
  exact View.read_writes_full a7.view f4 inb_S128x4096_S128x4096_0_0 _ []

end

end Cert.Proof.Experts

end
-- ==== Proof.ExpertsTab.lean ====
/- The experts' two tables as the host computes them: each block's expert, the number of experts that end at or before the
   block's first row, and the number of blocks used, the last expert's end in blocks. -/
module

public import proofs.«01_k».proof.Proof.TableVal
public import proofs.«01_k».proof.Proof.Gen.Kernel5Ideal
public import proofs.«01_k».proof.Proof.Gen.Pre_counted
public import Idealize.ShloMosaic.Lib.ReduceAll

@[expose] public section

noncomputable section

namespace Cert.Proof.Experts

open Cert.Kernel5Ideal Cert.Kernel5Ideal.Gen Idealize.ShloMosaic Idealize.ShloMosaic.ValueIdx

/-- Where each expert's rows end in the padded buffer. -/
def endsOf (c : IVec S32 32) : IVec S32 32 := Dispatch.cumOf (Dispatch.padOf c)
/-- Each block's first row. -/
def startsOf : IVec S160 32 := muli (iotaInDim S160 32 0) (broadcastInDim S160 ![] bcast_S_S160 (constantI S_ 32 128#32))
/-- Each block's expert. -/
def beOf (c : IVec S32 32) : IVec S160 32 :=
  minsi (Host.reduce IntOp.addi (extui 32 (cmpi .sle
      (broadcastInDim S160x32 ![0, 1] bcast_S1x32_S160x32_0_1 (broadcastInDim S1x32 ![1] bcast_S32_S1x32_1 (endsOf c)))
      (broadcastInDim S160x32 ![0, 1] bcast_S160x1_S160x32_0_1 (broadcastInDim S160x1 ![0] bcast_S160_S160x1_0 startsOf))) natLt_1_32)
    (constantI S_ 32 0#32) reducesTo_S160x32_S160_d1 h_S_) (broadcastInDim S160 ![] bcast_S_S160 (constantI S_ 32 31#32))
/-- The last expert's end, and the number of blocks used. -/
def lastOf (c : IVec S32 32) : IVec S1 32 := extractStridedSlice S1 ![31] (endsOf c) slices_S32_S1_31
def nuOf (c : IVec S32 32) : IVec S1 32 := Routing.pyDiv bcast_S_S1 (lastOf c) (constantI S_ 32 128#32)

/-! ## In natural numbers -/

theorem dvd_upTo (f : ℕ → ℕ) (h : ∀ b, 128 ∣ f b) (b : ℕ) : 128 ∣ Dispatch.upTo f b := by
  induction b with
  | zero => exact ⟨0, rfl⟩
  | succ b ih => rw [Dispatch.upTo_succ]; exact Nat.dvd_add ih (h b)

theorem dvd_ps {N : ℕ} (e : Fin N → ℕ) (b : ℕ) : 128 ∣ Dispatch.ps e b := dvd_upTo _ (fun b => Nat.dvd_mul_left ..) b

theorem st_le_ps {N : ℕ} (e : Fin N → ℕ) (b : ℕ) : Dispatch.st e b ≤ Dispatch.ps e b := by
  induction b with
  | zero => exact Nat.le_refl _
  | succ b ih =>
    have := Dispatch.le_pd (Dispatch.cnt e b)
    unfold Dispatch.ps Dispatch.st at ih ⊢
    rw [Dispatch.upTo_succ, Dispatch.upTo_succ]
    omega

theorem st_all {N : ℕ} (e : Fin N → ℕ) (B : ℕ) (h : ∀ i, e i < B) : Dispatch.st e B = N := by
  rw [Dispatch.st_eq, Finset.filter_true_of_mem fun i _ => h i]
  simp

/-- A running sum, in natural numbers. -/
theorem sum_at (c : IVec S32 32) (f : ℕ → ℕ) (hc : ∀ b : Fin 32, c (ix1 b) = BitVec.ofNat 32 (f b.val)) (b : Fin 32) :
    Dispatch.cumOf c (ix1 b) = BitVec.ofNat 32 (Dispatch.upTo f (b.val + 1)) := by
  have h : Dispatch.cumOf c (ix1 b) - c (ix1 b) = BitVec.ofNat 32 (Dispatch.upTo f b.val) := Dispatch.cum_at c f hc b
  rw [Dispatch.upTo_succ, BitVec.ofNat_add, ← h, hc, BitVec.sub_add_cancel]

theorem min_31 : ∀ k : Fin 33, (IntOp.minsi (BitVec.ofNat 32 k.val) 31#32).toNat < 32 := by decide

/-- A count over 32, cut off at 31, is below 32. -/
theorem count_lt (msk : IVec S160x32 1) (t : Fin 160) :
    (minsi (Host.reduce IntOp.addi (extui 32 msk natLt_1_32) (constantI S_ 32 0#32) reducesTo_S160x32_S160_d1 h_S_)
      (broadcastInDim S160 ![] bcast_S_S160 (constantI S_ 32 31#32)) (ix1 t)).toNat < 32 := by
  classical
  obtain ⟨k, hk, e⟩ : ∃ k, k ≤ 32 ∧ Host.reduce IntOp.addi (extui 32 msk natLt_1_32) (constantI S_ 32 0#32) reducesTo_S160x32_S160_d1 h_S_ (ix1 t)
      = BitVec.ofNat 32 k := ⟨_, Nat.count_le _, Routing.reduce_count (n := 160) (m := 32) (by decide) msk natLt_1_32 reducesTo_S160x32_S160_d1 h_S_ t
    (fun q => ∃ hq : q < 32, msk (ix2 t ⟨q, hq⟩) = 1#1) (fun q => ⟨fun hh => ⟨q.isLt, hh⟩, fun ⟨_, hh⟩ => hh⟩)⟩
  generalize Host.reduce IntOp.addi (extui 32 msk natLt_1_32) (constantI S_ 32 0#32) reducesTo_S160x32_S160_d1 h_S_ = X at e ⊢
  have h : minsi X (broadcastInDim S160 ![] bcast_S_S160 (constantI S_ 32 31#32)) (ix1 t) = IntOp.minsi (X (ix1 t)) 31#32 := rfl
  rw [h, e]
  exact min_31 ⟨k, Nat.lt_succ_of_le hk⟩

/-- The last of the 32 ends. -/
theorem slice_31 (v : IVec S32 32) : extractStridedSlice S1 ![31] v slices_S32_S1_31 (ix1 (0 : Fin 1)) = v (ix1 (⟨31, by decide⟩ : Fin 32)) := by
  refine congrArg v (funext fun a => ?_)
  match a with
  | ⟨0, _⟩ => rfl

section
variable {en : Fin 16384 → ℕ} (hb : ∀ j, en j < 32)
include hb

theorem last_bounds : 16384 ≤ Dispatch.ps en 32 ∧ Dispatch.ps en 32 ≤ 20448 := by
  have h1 := st_le_ps en 32
  have h2 := Dispatch.ps_le en 32
  rw [st_all en 32 hb] at h1 h2
  omega

variable {c : IVec S32 32} (hc : ∀ b : Fin 32, c (ix1 b) = BitVec.ofNat 32 (Dispatch.cnt en b.val))
include hc

omit hb in
theorem ends_at (b : Fin 32) : endsOf c (ix1 b) = BitVec.ofNat 32 (Dispatch.ps en (b.val + 1)) :=
  sum_at (Dispatch.padOf c) (fun b => Dispatch.pd (Dispatch.cnt en b))
    (fun b => Dispatch.pad_at c b (hc b) ((Dispatch.cnt_le en b.val).trans_lt (by norm_num))) b

omit hb in
theorem last_at : lastOf c (ix1 (0 : Fin 1)) = BitVec.ofNat 32 (Dispatch.ps en 32) := by
  unfold lastOf
  rw [slice_31]
  exact ends_at hc (⟨31, by decide⟩ : Fin 32)

theorem nu_at : nuOf c (ix1 (0 : Fin 1)) = BitVec.ofNat 32 (Dispatch.ps en 32 / 128) :=
  have h := last_bounds hb
  Routing.pyDiv_ap bcast_S_S1 (lastOf c) (constantI S_ 32 128#32) (ix1 (0 : Fin 1)) (last_at hc) rfl (by omega) (by decide) (by decide)

theorem nu_nat : (nuOf c (ix1 (0 : Fin 1))).toNat = Dispatch.ps en 32 / 128 := by
  have h := last_bounds hb
  rw [nu_at hb hc, BitVec.toNat_ofNat]
  omega

theorem nu_bounds : 1 ≤ (nuOf c (ix1 (0 : Fin 1))).toNat ∧ (nuOf c (ix1 (0 : Fin 1))).toNat ≤ 160 := by
  have h := last_bounds hb
  rw [nu_nat hb hc]
  omega

omit hb hc in
/-- However the counts are, a block's expert is one of the 32. -/
theorem be_lt (c : IVec S32 32) (t : Fin 160) : (beOf c (ix1 t)).toNat < 32 := by
  unfold beOf
  exact count_lt _ t

/-- A row lies before the last expert's end when its block is one of those used. -/
theorem before_last (j : Fin 20480) : (BitVec.ofBool ((BitVec.ofNat 32 j.val).slt (lastOf c (ix1 (0 : Fin 1)))) = 1#1)
    ↔ j.val / 128 < (nuOf c (ix1 (0 : Fin 1))).toNat := by
  have hj := j.isLt
  have h := last_bounds hb
  obtain ⟨q, hq⟩ := dvd_ps en 32
  rw [nu_nat hb hc, last_at hc, hq, Nat.mul_div_cancel_left q (by decide)]
  have e : (BitVec.ofNat 32 j.val).slt (BitVec.ofNat 32 (128 * q)) = decide (j.val / 128 < q) := by
    unfold BitVec.slt
    rw [Dispatch.small_toInt _ (by omega), Dispatch.small_toInt _ (by omega)]
    exact decide_eq_decide.2 (by omega)
  rw [e]
  by_cases h' : j.val / 128 < q
  · simp [h']
  · simp [h']

end

/-! ## What the precondition says -/

local instance : Cert.Pre_counted.Facts := Cert.Pre_counted.Gen.facts

theorem bit_true {p : Bool} (h : BitVec.ofBool p = 1#1) : p = true := by cases p <;> simp_all

variable {F : FTy → Type} [FloatOps F]

/-- The experts' numbers. -/
def numOf (R : FVec F S8192x128 .f32) (j : Fin 16384) : ℕ := (Dispatch.eOf R (ix1 j)).toNat

theorem num_eq (R : FVec F S8192x128 .f32) (j : Fin 16384) : Dispatch.eOf R (ix1 j) = BitVec.ofNat 32 (numOf R j) := by
  unfold numOf
  rw [BitVec.ofNat_toNat, BitVec.setWidth_eq]

/-- The table's experts exist, and the counts are theirs. -/
structure Counted (C : FVec F S1x128 .f32) (R : FVec F S8192x128 .f32) : Prop where
  num : ∀ j, numOf R j < 32
  counts : Dispatch.cOf C = Dispatch.cntOf (Dispatch.eOf R)

theorem Counted.at {C : FVec F S1x128 .f32} {R : FVec F S8192x128 .f32} (h : Counted C R) (b : Fin 32) :
    Dispatch.cntOf (Dispatch.eOf R) (ix1 b) = BitVec.ofNat 32 (Dispatch.cnt (numOf R) b.val) := Dispatch.cnt_at (num_eq R) h.num b

theorem counted_of_pre {C : FVec F S1x128 .f32} {R : FVec F S8192x128 .f32} {x : FVec F S20480x4096 .f32} {g u : FVec F S32x4096x768 .f32}
    {d : FVec F S32x768x4096 .f32} (h : Cert.Pre_counted.fn (F := F) C R x g u d = fun _ => 1#1) : Counted C R := by
  haveI : Subsingleton Cert.Pre_counted.S_.Idx := ⟨fun a b => funext fun i => i.elim0⟩
  have h0 := congrFun h (fun a => a.elim0)
  obtain ⟨h1, hc⟩ := IntOp.andi_eq_one.1 h0
  obtain ⟨hl, hu⟩ := IntOp.andi_eq_one.1 h1
  refine ⟨fun j => ?_, funext fun i => ?_⟩
  · have e1 : BitVec.ofBool ((0#32).sle (Dispatch.eOf R (ix1 j))) = 1#1 := Host.reduce_andi_all _ _ _ _ _ hl (ix1 j)
    have e2 : BitVec.ofBool ((Dispatch.eOf R (ix1 j)).slt 32#32) = 1#1 := Host.reduce_andi_all _ _ _ _ _ hu (ix1 j)
    have e1' := bit_true e1
    have e2' := bit_true e2
    rw [BitVec.sle_iff_toInt_le] at e1'
    rw [BitVec.slt_iff_toInt_lt] at e2'
    have e1'' : (0 : Int) ≤ (Dispatch.eOf R (ix1 j)).toInt := e1'
    have e2'' : (Dispatch.eOf R (ix1 j)).toInt < 32 := e2'
    unfold numOf
    rw [BitVec.toInt_eq_toNat_cond] at e1'' e2''
    split_ifs at e1'' e2'' <;> omega
  · rw [eq_ix1 i]
    have e : BitVec.ofBool (Dispatch.cOf C (ix1 (i 0)) == Dispatch.cntOf (Dispatch.eOf R) (ix1 (i 0))) = 1#1 := Host.reduce_andi_all _ _ _ _ _ hc (ix1 (i 0))
    exact beq_iff_eq.1 (bit_true e)

end Cert.Proof.Experts

end
-- ==== Proof.ExpertsRun.lean ====
/- The expert blocks' run: the launch of its one region, every grid point by `point_used` or `point_unused`, at any contents
   of the two tables that name experts and blocks that exist. -/
module

public import proofs.«01_k».proof.Proof.ExpertsBody
public import proofs.«01_k».proof.Proof.ExpertsTab
public import Idealize.ShloMosaic.Lib.Claim
public import Idealize.ShloMosaic.Lib.PairWhole
public import Idealize.ShloMosaic.Lib.SortFacts

@[expose] public section

set_option maxRecDepth 16384

noncomputable section

namespace Cert.Proof.Experts

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- The host's operations, a stretch after another. -/
abbrev stretches : List (List (HloOp τ sig (Elt F))) := [hostOps0, hostOps0_1, hostOps0_2, hostOps0_3, hostOps0_4, hostOps0_5, hostOps0_6]

/-- The buffers when the region is entered. -/
def V (c : Dev nD) (b : Ref sig .tc) : Buf (Elt F) ((c : Thread nD τ).loc b) := StableHlo.after (stretches (F := F)).flatten (fun b => m (c, b)) b

theorem into_region (𝒱 : Variants) : Pipeline.HMainP (Ix := Unit) (Name := ℕ) (U := UR sig nD τ) (Lvl := ℕ) pcfgs 0 defs₀ 𝒱 m (main (F := F)) (V m) :=
  Pipeline.hmainP_prefixes pcfgs 0 defs₀ 𝒱 m main stretches ⟨hostOps0_sub, hostOps0_1_sub, hostOps0_2_sub, hostOps0_3_sub, hostOps0_4_sub, hostOps0_5_sub, hostOps0_6_sub⟩
    (by simp only [List.Forall]; refine ⟨?_, ?_, ?_, ?_, ?_, ?_, ?_⟩ <;> (repeat' constructor)) main_chain

/-- The counts the host reads. -/
abbrev cntsOf (c : Dev nD) : IVec S32 32 := Dispatch.cOf (F := F) (m ((c : Thread nD τ).loc main_arg0))

set_option maxHeartbeats 8000000 in
theorem V_arg0 (c : Dev nD) : V m c main_arg0 = m ((c : Thread nD τ).loc main_arg0) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxHeartbeats 8000000 in
theorem V_arg1 (c : Dev nD) : V m c main_arg1 = m ((c : Thread nD τ).loc main_arg1) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxHeartbeats 8000000 in
theorem V_arg2 (c : Dev nD) : V m c main_arg2 = m ((c : Thread nD τ).loc main_arg2) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxHeartbeats 8000000 in
theorem V_arg3 (c : Dev nD) : V m c main_arg3 = m ((c : Thread nD τ).loc main_arg3) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxHeartbeats 8000000 in
theorem V_arg4 (c : Dev nD) : V m c main_arg4 = m ((c : Thread nD τ).loc main_arg4) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxHeartbeats 8000000 in
theorem V_arg5 (c : Dev nD) : V m c main_arg5 = m ((c : Thread nD τ).loc main_arg5) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxHeartbeats 8000000 in
/-- The tables are the ones of the counts. -/
theorem V_experts (c : Dev nD) : V m c main_v22 = beOf (cntsOf m c) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxHeartbeats 8000000 in
theorem V_used (c : Dev nD) : V m c main_v24 = nuOf (cntsOf m c) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl

/-- The tables' contents when the region is entered. -/
def tabs : pre0.Contents (Elt F) := fun j => V m (0 : Dev nD) (pre0.ref j)
theorem V_tabs (c : Dev nD) (j : Fin 2) : V m c (pre0.ref j) = tabs m j := by
  obtain rfl : c = 0 := Subsingleton.elim _ _
  rfl

/-- The tables' words: the number of blocks used, and each block's expert. -/
def nBlocks : BitVec 32 := tabs m 1 (Shape.Idx.ofFin (0 : Fin 1))
def expertOf (t : Fin 160) : BitVec 32 := tabs m 0 (Shape.Idx.ofFin t)

/-- Every block's expert is one of the 32, and between one and all of the blocks are used. -/
structure Blocks : Prop where
  expert : ∀ t, (expertOf m t).toNat < 32
  pos : 1 ≤ (nBlocks m).toNat
  le : (nBlocks m).toNat ≤ 160

omit [FloatOps F] in
theorem slt_iff {a b : BitVec 32} (ha : a.toNat < 2 ^ 31) (hb : b.toNat < 2 ^ 31) : (a.slt b = true) ↔ a.toNat < b.toNat := by
  rw [BitVec.slt_iff_toInt_lt]
  rw [BitVec.toInt_eq_toNat_cond, BitVec.toInt_eq_toNat_cond]
  split_ifs <;> omega

omit [FloatOps F] in
theorem min_word {n : ℕ} {u : BitVec 32} (ha : n < 160) (h1 : 1 ≤ u.toNat) (h2 : u.toNat ≤ 160) :
    (Scalar.minsi (BitVec.ofNat 32 n) (Scalar.subi u 1#32)).toNat = min n (u.toNat - 1) := by
  have hu : (Scalar.subi u 1#32).toNat = u.toNat - 1 := by
    show (u - 1#32).toNat = _
    rw [BitVec.toNat_sub]
    show (2 ^ 32 - 1 + u.toNat) % 2 ^ 32 = _
    omega
  have hn : (BitVec.ofNat 32 n).toNat = n := by rw [BitVec.toNat_ofNat]; omega
  show (if (BitVec.ofNat 32 n).slt (Scalar.subi u 1#32) then BitVec.ofNat 32 n else Scalar.subi u 1#32).toNat = _
  split_ifs with h
  · rw [slt_iff (by omega) (by omega)] at h; rw [hn] at *; omega
  · rw [slt_iff (by omega) (by omega)] at h; rw [hu]; omega

theorem coord_lt (i : grid0.Coords) : (i 0).val < 160 := (i 0).isLt

/-- The one element of a unit rectangle. -/
theorem emb_used : (Rect.unit (s := S1) ![0] S1.size inb_S1_S1_0).emb (Shape.Idx.first (numel1_S1.symm ▸ Nat.one_pos)) = (Shape.Idx.ofFin (0 : Fin 1) : S1.Idx) :=
  funext fun a => by
    obtain rfl : a = 0 := Subsingleton.elim _ _
    exact Subsingleton.elim (α := Fin 1) _ _

theorem emb_expert (i : grid0.Coords) : (Rect.unit (s := S160) (k0_off1 i) S1.size (k0_off1_inb i)).emb (Shape.Idx.first (numel1_S1.symm ▸ Nat.one_pos))
    = (Shape.Idx.ofFin (⟨(i 0).val, coord_lt i⟩ : Fin 160) : S160.Idx) :=
  funext fun a => Fin.ext (by
    obtain rfl : a = 0 := Subsingleton.elim _ _
    have hf : ((Shape.Idx.first (s := S1) (numel1_S1.symm ▸ Nat.one_pos)) 0).val < 1 := ((Shape.Idx.first (s := S1) (numel1_S1.symm ▸ Nat.one_pos)) 0).isLt
    have hi := coord_lt i
    show (BitVec.ofNat 32 (i 0).val).toNat + 1 * ((Shape.Idx.first (s := S1) (numel1_S1.symm ▸ Nat.one_pos)) 0).val = (i 0).val
    rw [BitVec.toNat_ofNat]
    omega)

theorem at_used : Pipeline.Prefetch.Contents.at (tabs m) 1 (Rect.unit (s := S1) ![0] S1.size inb_S1_S1_0) numel1_S1 = nBlocks m :=
  congrArg (tabs m 1) emb_used

theorem at_expert (i : grid0.Coords) :
    Pipeline.Prefetch.Contents.at (tabs m) 0 (Rect.unit (s := S160) (k0_off1 i) S1.size (k0_off1_inb i)) numel1_S1 = expertOf m ⟨(i 0).val, coord_lt i⟩ :=
  congrArg (tabs m 0) (emb_expert i)

/-- The block index of each window whose map reads a table. -/
theorem ix_rows (h : Blocks m) (i : grid0.Coords) :
    cc0_transform_0 (F := F) inb_S1_S1_0 numel1_S1 (tabs m) i = ![min (i 0).val ((nBlocks m).toNat - 1), 0] := by
  unfold cc0_transform_0
  dsimp only
  rw [at_used]
  rw [min_word (coord_lt i) h.pos h.le]
  rfl
theorem ix_gate (i : grid0.Coords) :
    cc0_transform_1 (F := F) k0_off1_inb numel1_S1 (tabs m) i = ![(expertOf m ⟨(i 0).val, coord_lt i⟩).toNat, 0, 0] := by
  rw [← at_expert]; rfl
theorem ix_up (i : grid0.Coords) :
    cc0_transform_2 (F := F) k0_off1_inb numel1_S1 (tabs m) i = ![(expertOf m ⟨(i 0).val, coord_lt i⟩).toNat, 0, 0] := by
  rw [← at_expert]; rfl
theorem ix_down (i : grid0.Coords) :
    cc0_transform_3 (F := F) k0_off1_inb numel1_S1 (tabs m) i = ![(expertOf m ⟨(i 0).val, coord_lt i⟩).toNat, 0, 0] := by
  rw [← at_expert]; rfl

/-- What the launch asks of the tables. -/
theorem ok (h : Blocks m) : ok0 (F := F) (tabs m) := by
  unfold ok0
  refine ⟨fun i => ⟨?_, .inl rfl⟩, fun i => ⟨?_, .inr ?_⟩, fun i => ⟨?_, .inr ?_⟩, fun i => ⟨?_, .inr ?_⟩⟩
  · rw [ix_rows m h]
    have := h.le; have := h.pos
    intro a
    match a with
    | ⟨0, _⟩ => show (min (i 0).val ((nBlocks m).toNat - 1) + 1) * 128 ≤ 20480; omega
    | ⟨1, _⟩ => show (0 + 1) * 4096 ≤ 4096; omega
  · rw [ix_gate]
    have := h.expert ⟨(i 0).val, coord_lt i⟩
    intro a
    match a with
    | ⟨0, _⟩ => show ((expertOf m ⟨(i 0).val, coord_lt i⟩).toNat + 1) * 1 ≤ 32; omega
    | ⟨1, _⟩ => show (0 + 1) * 4096 ≤ 4096; omega
    | ⟨2, _⟩ => show (0 + 1) * 768 ≤ 768; omega
  · exact Rect.WholeRows.wholeWords (Rect.wholeRows_unit (by decide) rfl rfl) _
  · rw [ix_up]
    have := h.expert ⟨(i 0).val, coord_lt i⟩
    intro a
    match a with
    | ⟨0, _⟩ => show ((expertOf m ⟨(i 0).val, coord_lt i⟩).toNat + 1) * 1 ≤ 32; omega
    | ⟨1, _⟩ => show (0 + 1) * 4096 ≤ 4096; omega
    | ⟨2, _⟩ => show (0 + 1) * 768 ≤ 768; omega
  · exact Rect.WholeRows.wholeWords (Rect.wholeRows_unit (by decide) rfl rfl) _
  · rw [ix_down]
    have := h.expert ⟨(i 0).val, coord_lt i⟩
    intro a
    match a with
    | ⟨0, _⟩ => show ((expertOf m ⟨(i 0).val, coord_lt i⟩).toNat + 1) * 1 ≤ 32; omega
    | ⟨1, _⟩ => show (0 + 1) * 768 ≤ 768; omega
    | ⟨2, _⟩ => show (0 + 1) * 4096 ≤ 4096; omega
  · exact Rect.WholeRows.wholeWords (Rect.wholeRows_unit (by decide) rfl rfl) _

/-! ## The region at those tables -/

abbrev adm (hb : Blocks m) : (pcfg0 (F := F)).Adm := ⟨tabs m, ok m hb⟩
abbrev cfgB (hb : Blocks m) : Pipeline.Cfg sig Λ₀ := cfg0 (adm m hb)

theorem halves (c : Dev nD) : (Pipeline.ΦT pre0 (tabs m) c : sProp 𝕄) = iprop(holdE c (tabs m 0) ∗ holdU c (tabs m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array. -/
def blkAt (hb : Blocks m) (c : Dev nD) (w : Fin (cfgB m hb).W) (t : Fin (cfgB m hb).N) : (((cfgB m hb).win w).xblock ((cfgB m hb).grid.coords t)).Idx → Elt F ((cfgB m hb).win w).elt :=
  (((cfgB m hb).win w).blk t).view.read (Elt F) (V m c (Pipeline.arrRef spec0 w))

/-- The word the body reads, -/
abbrev theWord (c : Dev nD) : BitVec 32 := word (F := F) c (tabs m 1)

/-- and what it leaves in the result's block: the gated feed-forward if the block is used, zeros if not. -/
def outAt (hb : Blocks m) (c : Dev nD) (t : Fin (cfgB m hb).N) : Vec F S128x4096 .f32 :=
  if k0_cond1 (grid0.coords t) (theWord m c) = 1#1 then k0_pay1 (F := F)
  else k0_pay2 (blkAt m hb c 0 t) (blkAt m hb c 1 t) (blkAt m hb c 2 t) (blkAt m hb c 3 t)

/-- The two conditions are each other's negation. -/
theorem cond_not (i : grid0.Coords) (v : BitVec 32) : k0_cond2 i v = 1#1 ↔ ¬ k0_cond1 i v = 1#1 := by
  unfold k0_cond1 k0_cond2
  dsimp only
  generalize Scalar.cmpi .slt (BitVec.ofNat 32 (i 0).val) v = b
  revert b
  decide

def dats (hb : Blocks m) (_ : Fin 1) (c : Dev nD) : Dat τ (Elt F) Unit ℕ (UR sig nD τ) ℕ (cfgB m hb) c where
  A w := V m c (Pipeline.arrRef spec0 w)
  after w t := match w with
    | ⟨0, _⟩ => blkAt m hb c 0 t
    | ⟨1, _⟩ => blkAt m hb c 1 t
    | ⟨2, _⟩ => blkAt m hb c 2 t
    | ⟨3, _⟩ => blkAt m hb c 3 t
    | ⟨4, _⟩ => outAt m hb c t
  Φ _ := iprop(Pipeline.ΦA spec0 c ∗ Pipeline.ΦT pre0 (tabs m) c)
  q _ := fullShare
  owed _ := 0

theorem arrays_eq (hb : Blocks m) (c : Dev nD) (w : Fin (cfgB m hb).W) : (dats m hb 0 c).A w = V m c (Pipeline.arrRef spec0 w) := by
  dsimp only [dats]

theorem after0 (hb : Blocks m) (c : Dev nD) (t : Fin (cfgB m hb).N) : (dats m hb 0 c).after 0 t = blkAt m hb c 0 t := by dsimp only [dats]; try rfl
theorem after1 (hb : Blocks m) (c : Dev nD) (t : Fin (cfgB m hb).N) : (dats m hb 0 c).after 1 t = blkAt m hb c 1 t := by dsimp only [dats]; try rfl
theorem after2 (hb : Blocks m) (c : Dev nD) (t : Fin (cfgB m hb).N) : (dats m hb 0 c).after 2 t = blkAt m hb c 2 t := by dsimp only [dats]; try rfl
theorem after3 (hb : Blocks m) (c : Dev nD) (t : Fin (cfgB m hb).N) : (dats m hb 0 c).after 3 t = blkAt m hb c 3 t := by dsimp only [dats]; try rfl
theorem after4 (hb : Blocks m) (c : Dev nD) (t : Fin (cfgB m hb).N) : (dats m hb 0 c).after 4 t = outAt m hb c t := by dsimp only [dats]; try rfl

theorem before0 (hb : Blocks m) (c : Dev nD) (t : Fin (cfgB m hb).N) (d) : (dats m hb 0 c).before 0 t d = blkAt m hb c 0 t :=
  ((dats m hb 0 c).before_in_eq_fetched 0 rfl (fun _ => rfl) (fun _ _ _ => rfl) (fun t => by rw [after0]; unfold Dat.blockOf blkAt; rw [arrays_eq]) t d).trans
    (by unfold Dat.fetched Dat.blockOf blkAt; rw [arrays_eq]; try rfl)
theorem before1 (hb : Blocks m) (c : Dev nD) (t : Fin (cfgB m hb).N) (d) : (dats m hb 0 c).before 1 t d = blkAt m hb c 1 t :=
  ((dats m hb 0 c).before_in_eq_fetched 1 rfl (fun _ => rfl) (fun _ _ _ => rfl) (fun t => by rw [after1]; unfold Dat.blockOf blkAt; rw [arrays_eq]) t d).trans
    (by unfold Dat.fetched Dat.blockOf blkAt; rw [arrays_eq]; try rfl)
theorem before2 (hb : Blocks m) (c : Dev nD) (t : Fin (cfgB m hb).N) (d) : (dats m hb 0 c).before 2 t d = blkAt m hb c 2 t :=
  ((dats m hb 0 c).before_in_eq_fetched 2 rfl (fun _ => rfl) (fun _ _ _ => rfl) (fun t => by rw [after2]; unfold Dat.blockOf blkAt; rw [arrays_eq]) t d).trans
    (by unfold Dat.fetched Dat.blockOf blkAt; rw [arrays_eq]; try rfl)
theorem before3 (hb : Blocks m) (c : Dev nD) (t : Fin (cfgB m hb).N) (d) : (dats m hb 0 c).before 3 t d = blkAt m hb c 3 t :=
  ((dats m hb 0 c).before_in_eq_fetched 3 rfl (fun _ => rfl) (fun _ _ _ => rfl) (fun t => by rw [after3]; unfold Dat.blockOf blkAt; rw [arrays_eq]) t d).trans
    (by unfold Dat.fetched Dat.blockOf blkAt; rw [arrays_eq]; try rfl)

/-- The result is written back at every point. -/
theorem flush4 (hb : Blocks m) : ∀ t : Fin (cfgB m hb).N, ((cfgB m hb).win 4).flush t = true :=
  (fun t => (Pipeline.Window.flushOf_reads cc0_transform_4 reads0_4 hreads0_4 0 (by decide) (by decide)
      (Pipeline.Window.sep_of_coord cc0_transform_4 0 0 (fun _ => rfl) (by decide)) (P := 1) (m := 0) (by decide) rfl t).mpr (Nat.mod_one _) :
    ∀ t : Fin grid0.N, Pipeline.Window.flushOf grid0 true cc0_transform_4 t = true)

/-! ## One grid point -/

abbrev g0 (hb : Blocks m) (t : Fin (cfgB m hb).N) : Memref sig .tc .vmem S128x4096 .f32 := spec0_0.stage ((cfgB m hb).slots t 0)
abbrev g1 (hb : Blocks m) (t : Fin (cfgB m hb).N) : Memref sig .tc .vmem S1x4096x768 .bf16 := spec0_1.stage ((cfgB m hb).slots t 1)
abbrev g2 (hb : Blocks m) (t : Fin (cfgB m hb).N) : Memref sig .tc .vmem S1x4096x768 .bf16 := spec0_2.stage ((cfgB m hb).slots t 2)
abbrev g3 (hb : Blocks m) (t : Fin (cfgB m hb).N) : Memref sig .tc .vmem S1x768x4096 .bf16 := spec0_3.stage ((cfgB m hb).slots t 3)
abbrev g4 (hb : Blocks m) (t : Fin (cfgB m hb).N) : Memref sig .tc .vmem S128x4096 .f32 := spec0_4.stage ((cfgB m hb).slots t 4)

/-- The kernel at point `t`, on the buffers it is handed there. -/
abbrev bodyAt (hb : Blocks m) (t : Fin (cfgB m hb).N) : Prog (TpuEff nD τ sig (Elt F) Λ₀ .tc) PUnit :=
  cc0_moe_experts (grid0.coords t) mE (Memref.isWhole_whole _) mU (Memref.isWhole_whole _)
    (g0 m hb t) (hstage0_0 (((cfgB m hb).slots t 0).cast nbuf0_0)) (g1 m hb t) (hstage0_1 (((cfgB m hb).slots t 1).cast nbuf0_1))
    (g2 m hb t) (hstage0_2 (((cfgB m hb).slots t 2).cast nbuf0_2)) (g3 m hb t) (hstage0_3 (((cfgB m hb).slots t 3).cast nbuf0_3))
    (g4 m hb t) (hstage0_4 (((cfgB m hb).slots t 4).cast nbuf0_4))

theorem row_eq (hb : Blocks m) (t : Fin (cfgB m hb).N) :
    defs₀ (F := F) .tc (cfgB m hb).body ((cfgB m hb).bodyArgs t ((cfgB m hb).slots t)) = bodyAt m hb t := by
  unfold defs₀; rw [Defs.onTc_tc]

/-- What the body is called with at point `t`, -/
def given (hb : Blocks m) (c : Dev nD) (t : Fin (cfgB m hb).N) : sProp 𝕄 :=
  iprop((dats m hb 0 c).Φ t.castSucc ∗ (dats m hb 0 c).owesAt () t.castSucc
    ∗ (∃ d, owns (c : Thread nD τ) (g0 m hb t) fullShare ((dats m hb 0 c).before 0 t d))
    ∗ (∃ d, owns (c : Thread nD τ) (g1 m hb t) fullShare ((dats m hb 0 c).before 1 t d))
    ∗ (∃ d, owns (c : Thread nD τ) (g2 m hb t) fullShare ((dats m hb 0 c).before 2 t d))
    ∗ (∃ d, owns (c : Thread nD τ) (g3 m hb t) fullShare ((dats m hb 0 c).before 3 t d))
    ∗ (∃ d, owns (c : Thread nD τ) (g4 m hb t) fullShare ((dats m hb 0 c).before 4 t d)))

/-- and what it returns. -/
def returned (hb : Blocks m) (c : Dev nD) (t : Fin (cfgB m hb).N) : sProp 𝕄 :=
  iprop((dats m hb 0 c).Φ t.succ ∗ (dats m hb 0 c).owesAt () t.succ
    ∗ owns (c : Thread nD τ) (g0 m hb t) fullShare ((dats m hb 0 c).after 0 t)
    ∗ owns (c : Thread nD τ) (g1 m hb t) fullShare ((dats m hb 0 c).after 1 t)
    ∗ owns (c : Thread nD τ) (g2 m hb t) fullShare ((dats m hb 0 c).after 2 t)
    ∗ owns (c : Thread nD τ) (g3 m hb t) fullShare ((dats m hb 0 c).after 3 t)
    ∗ owns (c : Thread nD τ) (g4 m hb t) fullShare ((dats m hb 0 c).after 4 t))

set_option maxHeartbeats 800000 in
theorem at_point (hb : Blocks m) (c : Dev nD) (t : Fin (cfgB m hb).N) :
    given m hb c t ⊢ wp frame (wpE (defs₀ (F := F)) Variants.none c none) Set.univ (bodyAt m hb t) (fun _ => returned m hb c t) := by
  unfold given returned bodyAt
  simp only [before0, before1, before2, before3]
  rw [show (dats m hb 0 c).Φ t.succ = (dats m hb 0 c).Φ t.castSucc from rfl,
    show (dats m hb 0 c).owesAt () t.succ = (dats m hb 0 c).owesAt () t.castSucc from rfl,
    after0, after1, after2, after3, after4]
  rw [show (dats m hb 0 c).Φ t.castSucc = iprop(Pipeline.ΦA spec0 c ∗ Pipeline.ΦT pre0 (tabs m) c) from rfl, halves]
  have leave : ∀ x : Vec F S128x4096 .f32, outAt m hb c t = x →
      iprop(Pipeline.ΦA spec0 c ∗ (dats m hb 0 c).owesAt () t.castSucc) ⊢
        iprop(iprop(handed c (g0 m hb t) (g1 m hb t) (g2 m hb t) (g3 m hb t) (blkAt m hb c 0 t) (blkAt m hb c 1 t) (blkAt m hb c 2 t) (blkAt m hb c 3 t) (tabs m 0) (tabs m 1)
            ∗ owns (c : Thread nD τ) (g4 m hb t) fullShare x) -∗
          iprop(iprop(Pipeline.ΦA spec0 c ∗ holdE c (tabs m 0) ∗ holdU c (tabs m 1)) ∗ (dats m hb 0 c).owesAt () t.castSucc
            ∗ owns (c : Thread nD τ) (g0 m hb t) fullShare (blkAt m hb c 0 t)
            ∗ owns (c : Thread nD τ) (g1 m hb t) fullShare (blkAt m hb c 1 t)
            ∗ owns (c : Thread nD τ) (g2 m hb t) fullShare (blkAt m hb c 2 t)
            ∗ owns (c : Thread nD τ) (g3 m hb t) fullShare (blkAt m hb c 3 t)
            ∗ owns (c : Thread nD τ) (g4 m hb t) fullShare (outAt m hb c t))) := fun x hx => by
    rw [hx]; unfold handed
    iintro ⟨HΦ, Ho⟩ ⟨⟨H0, H1, H2, H3, HE, HU⟩, H4⟩
    isplitl [HΦ HE HU]
    · isplitl [HΦ]; · iexact HΦ
      isplitl [HE]; · iexact HE
      iexact HU
    isplitl [Ho]; · iexact Ho
    isplitl [H0]; · iexact H0
    isplitl [H1]; · iexact H1
    isplitl [H2]; · iexact H2
    isplitl [H3]; · iexact H3
    iexact H4
  by_cases h1 : k0_cond1 (grid0.coords t) (theWord m c) = 1#1
  · have h2 : ¬ k0_cond2 (grid0.coords t) (theWord m c) = 1#1 := fun h => (cond_not _ _).1 h h1
    have hl := leave _ (if_pos h1)
    iintro ⟨⟨HΦ, HE, HU⟩, Ho, ⟨%d0, H0⟩, ⟨%d1, H1⟩, ⟨%d2, H2⟩, ⟨%d3, H3⟩, ⟨%d4, H4⟩⟩
    iapply (point_unused c (grid0.coords t) _ _ _ _ _ _ _ _ _ _ (blkAt m hb c 0 t) (blkAt m hb c 1 t) (blkAt m hb c 2 t) (blkAt m hb c 3 t) (tabs m 0) (tabs m 1) h1 h2 Set.univ _)
    isplitl [H0 H1 H2 H3 HE HU]
    · unfold handed
      isplitl [H0]; · iexact H0
      isplitl [H1]; · iexact H1
      isplitl [H2]; · iexact H2
      isplitl [H3]; · iexact H3
      isplitl [HE]; · iexact HE
      iexact HU
    isplitl [H4]; · iexists _; iexact H4
    iapply hl
    isplitl [HΦ]; · iexact HΦ
    iexact Ho
  · have h2 : k0_cond2 (grid0.coords t) (theWord m c) = 1#1 := (cond_not _ _).2 h1
    have hl := leave _ (if_neg h1)
    iintro ⟨⟨HΦ, HE, HU⟩, Ho, ⟨%d0, H0⟩, ⟨%d1, H1⟩, ⟨%d2, H2⟩, ⟨%d3, H3⟩, ⟨%d4, H4⟩⟩
    iapply (point_used c (grid0.coords t) _ _ _ _ _ _ _ _ _ _ (blkAt m hb c 0 t) (blkAt m hb c 1 t) (blkAt m hb c 2 t) (blkAt m hb c 3 t) (tabs m 0) (tabs m 1) h1 h2 Set.univ _)
    isplitl [H0 H1 H2 H3 HE HU]
    · unfold handed
      isplitl [H0]; · iexact H0
      isplitl [H1]; · iexact H1
      isplitl [H2]; · iexact H2
      isplitl [H3]; · iexact H3
      isplitl [HE]; · iexact HE
      iexact HU
    isplitl [H4]; · iexists _; iexact H4
    iapply hl
    isplitl [HΦ]; · iexact HΦ
    iexact Ho

/-- A buffer written back is at what the body leaves, idle or not. -/
theorem settle {M : Type} [URA M] (P X : sProp M) (b f : Bool) (hf : f = true) :
    P ⊢ (match (generalizing := false) b with | true => (match (generalizing := false) f with | false => X | true => P) | false => P) := by
  subst hf; cases b <;> exact .rfl

theorem every_point (hb : Blocks m) (c : Dev nD) : BodyObligation (dats (F := F) m hb 0 c) (defs₀ (F := F)) Variants.none () Set.univ := fun t => by
  rw [bigSep_W0, bigSep_W0, row_eq m hb]
  refine triple_restated (at_point m hb c t) rfl .rfl fun _ => ?_
  unfold returned
  dsimp only
  exact sep_mono .rfl (sep_mono .rfl (sep_mono .rfl (sep_mono .rfl (sep_mono .rfl (sep_mono .rfl (settle _ _ _ _ (flush4 m hb t)))))))

/-! ## The run -/

-- the launch theorem's implicit arguments are read off this statement, through plain definitions
set_option backward.isDefEq.respectTransparency.types false in
/-- THE RUN, at any float values, from any memory whose tables name experts and blocks that exist. -/
theorem run_main (hb : Blocks m) : θ_run defs (onTc (τ := τ) (main (F := F))) (s₀ m ρ)
    (fun r => (Pipeline.FramePost (Pipeline.pin pcfgs fun _ => adm m hb) (dats m hb) 0 (V m)) r ∧ r.2.sem = fun _ => 0) :=
  Pipeline.θ_run_frameP (Q' := _) pcfgs (fun _ => adm m hb) (dats m hb) (0 : Fin 1) launch0 defs₀ Variants.none m ρ main
    (hbody := fun c => (every_point m hb c).loose) (hshare := fun c => (dats m hb 0 c).share_full fun _ => rfl)
    (howed := fun _ _ => rfl) (V := V m) (hmain := into_region m Variants.none) (hA := arrays_eq m hb) (hpf := V_tabs m)
    (hΦ := fun _ _ => rfl)

/-- What it leaves: the result at the array the points' blocks make, the arguments unchanged, every semaphore at zero. -/
theorem run_ends (hb : Blocks m) : θ_run defs (onTc (τ := τ) (main (F := F))) ⟨m, fun _ => 0, ρ⟩ (fun r => (∀ c : Dev nD,
      r.2.mem ((c.tc : Thread nD τ).loc main_v28) = (dats m hb 0 c).arrAt 4 (cfgB m hb).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1 c).1 4,
      ((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).1 0).trans (((dats m hb 0 c).arrAt_in 0 rfl _).trans ((arrays_eq m hb c 0).trans (V_arg2 m c))),
      ((h.1 c).2 main_arg3 (by decide : main_arg3 ∈ Pipeline.restRefs sig spec0)).trans (V_arg3 m c),
      ((h.1 c).2 main_arg4 (by decide : main_arg4 ∈ Pipeline.restRefs sig spec0)).trans (V_arg4 m c),
      ((h.1 c).2 main_arg5 (by decide : main_arg5 ∈ Pipeline.restRefs sig spec0)).trans (V_arg5 m c)⟩, h.2⟩) (run_main m ρ hb)

end Cert.Proof.Experts

end
-- ==== Proof.ExpertsVal.lean ====
/- The routed experts' result, place by place: a row's block names its expert, and the row goes through that expert's gated
   feed-forward; the rows of the blocks not used are zeros. With it the one-block slices and updates the reference's loop makes,
   read at an index. -/
module

public import Idealize.ShloMosaic.Lib.MatmulPlain
public import Idealize.ShloMosaic.Lib.StackMember
public import Idealize.ShloMosaic.Lib.IdealHost
public import Idealize.ShloMosaic.Lib.Pipeline.Value
public import Idealize.ShloMosaic.Lib.DynamicIndex

@[expose] public section

noncomputable section

namespace Cert.Proof.Experts

open Idealize.ShloMosaic Idealize.ShloMosaic.ValueIdx
open scoped BigOperators

/-! ## The result -/

/-- The number times its logistic. -/
def silu (x : EReal) : EReal := Ideal.div x (1 + Ideal.exp (-x))

/-- The expert block `t` is given to. -/
def expertAt (be : IVec ⟨1, ![160]⟩ 32) (t : Fin 160) : Fin 32 := ⟨(be (ix1 t)).toNat % 32, Nat.mod_lt _ (by decide)⟩

/-- Row `r` times column `n` of expert `e`'s first weights. -/
def proj (x : FVec Ideal ⟨2, ![20480, 4096]⟩ .f32) (w : FVec Ideal ⟨3, ![32, 4096, 768]⟩ .f32) (e : Fin 32) (r : Fin 20480) (n : Fin 768) : EReal :=
  ∑ k : Fin 4096, (show EReal from x (ix2 r k)) * (show EReal from w (ix3 e k n))

/-- Row `r` through expert `e`, at column `p`. -/
def ffn (x : FVec Ideal ⟨2, ![20480, 4096]⟩ .f32) (g u : FVec Ideal ⟨3, ![32, 4096, 768]⟩ .f32) (d : FVec Ideal ⟨3, ![32, 768, 4096]⟩ .f32)
    (e : Fin 32) (r : Fin 20480) (p : Fin 4096) : EReal :=
  ∑ n : Fin 768, silu (proj x g e r n) * proj x u e r n * (show EReal from d (ix3 e n p))

theorem blk_lt (r : Fin 20480) : r.val / 128 < 160 := by omega

def G (be : IVec ⟨1, ![160]⟩ 32) (nu : IVec ⟨1, ![1]⟩ 32) (x : FVec Ideal ⟨2, ![20480, 4096]⟩ .f32)
    (g u : FVec Ideal ⟨3, ![32, 4096, 768]⟩ .f32) (d : FVec Ideal ⟨3, ![32, 768, 4096]⟩ .f32) : FVec Ideal ⟨2, ![20480, 4096]⟩ .f32 :=
  fun i => (show EReal from if (i 0).val / 128 < (nu (ix1 (0 : Fin 1))).toNat
    then ffn x g u d (expertAt be ⟨(i 0).val / 128, blk_lt (i 0)⟩) (i 0) (i 1) else 0)

/-! ## The gate -/

theorem exp_nonneg (x : EReal) : 0 ≤ Ideal.exp x := by
  induction x with
  | bot => exact le_refl _
  | top => exact le_top
  | coe r => exact EReal.coe_nonneg.2 (Real.exp_pos r).le

theorem den_ne (x : EReal) : 1 + Ideal.exp x ≠ 0 := by
  intro h
  have h1 : (1 : EReal) ≤ 1 + Ideal.exp x := le_add_of_nonneg_right (exp_nonneg x)
  rw [h] at h1
  exact absurd h1 (by simp)

/-- The gate as the reference writes it, -/
theorem silu_ref (x : EReal) :
    x * Ideal.div (Scalar.ofBits (F := Ideal) .f32 0x3F800000#32) ((show EReal from Scalar.ofBits (F := Ideal) .f32 0x3F800000#32) + Ideal.exp (-x)) = silu x := by
  have h : (show EReal from Scalar.ofBits (F := Ideal) .f32 0x3F800000#32) = 1 := Ideal.ofBits_one_f32
  exact (congrArg (fun z : EReal => x * Ideal.div z (z + Ideal.exp (-x))) h).trans (Ideal.mul_one_div (den_ne _))

/-- and as the kernel does. -/
theorem silu_ker (x : EReal) :
    Ideal.div x ((show EReal from Scalar.ofBits (F := Ideal) .f32 0x3F800000#32)
      + Ideal.exp ((show EReal from Scalar.ofBits (F := Ideal) .f32 0x00000000#32) - x)) = silu x := by
  rw [show (show EReal from Scalar.ofBits (F := Ideal) .f32 0x3F800000#32) = 1 from Ideal.ofBits_one_f32,
    show (show EReal from Scalar.ofBits (F := Ideal) .f32 0x00000000#32) = 0 from Ideal.ofBits_zero_f32, zero_sub]
  rfl

/-! ## One block of a stack -/

variable {α : Type} {A B C : ℕ}

theorem slices_one (k : Fin A) : (⟨3, ![A, B, C]⟩ : Shape).Slices ![k.val, 0, 0] ⟨3, ![1, B, C]⟩ :=
  ⟨rfl, fun a => by
    have := k.isLt
    match a with
    | ⟨0, _⟩ => show k.val + 1 ≤ A; omega
    | ⟨1, _⟩ => show 0 + B ≤ B; omega
    | ⟨2, _⟩ => show 0 + C ≤ C; omega⟩

/-- A start inside the stack is not clamped. -/
theorem clamp_one (k : Fin A) (st : Fin 3 → Int) (h0 : st 0 = (k.val : Int)) (h1 : st 1 = 0) (h2 : st 2 = 0)
    (h : (⟨3, ![A, B, C]⟩ : Shape).Slices (fun _ => 0) ⟨3, ![1, B, C]⟩) (a : Fin 3) :
    (min (max (st a) 0) (((⟨3, ![A, B, C]⟩ : Shape).size a - (⟨3, ![1, B, C]⟩ : Shape).size (a.cast h.1.symm) : Nat) : Int)).toNat = ![k.val, 0, 0] a := by
  have := k.isLt
  match a with
  | ⟨0, _⟩ =>
    show (min (max (st 0) 0) ((A - 1 : Nat) : Int)).toNat = k.val
    rw [h0]; omega
  | ⟨1, _⟩ =>
    show (min (max (st 1) 0) ((B - B : Nat) : Int)).toNat = 0
    rw [h1]; omega
  | ⟨2, _⟩ =>
    show (min (max (st 2) 0) ((C - C : Nat) : Int)).toNat = 0
    rw [h2]; omega

theorem slice_one (x : (⟨3, ![A, B, C]⟩ : Shape).Idx → α) (st : Fin 3 → Int) (h : (⟨3, ![A, B, C]⟩ : Shape).Slices (fun _ => 0) ⟨3, ![1, B, C]⟩)
    (k : Fin A) (h0 : st 0 = (k.val : Int)) (h1 : st 1 = 0) (h2 : st 2 = 0) (b : Fin B) (c : Fin C) :
    Host.dynamicSlice ⟨3, ![1, B, C]⟩ x st h (ix3 (0 : Fin 1) b c) = x (ix3 k b c) := by
  rw [Host.dynamicSlice_eq_extractStridedSlice_of_clamp _ x st h ![k.val, 0, 0] (clamp_one k st h0 h1 h2 h) (slices_one k)]
  refine extractStridedSlice_apply _ x _ _ _ fun a => ?_
  match a with
  | ⟨0, _⟩ => rfl
  | ⟨1, _⟩ => show b.val = 0 + b.val; omega
  | ⟨2, _⟩ => show c.val = 0 + c.val; omega

theorem update_one (x : (⟨3, ![A, B, C]⟩ : Shape).Idx → α) (u : (⟨3, ![1, B, C]⟩ : Shape).Idx → α) (st : Fin 3 → Int)
    (h : (⟨3, ![A, B, C]⟩ : Shape).Slices (fun _ => 0) ⟨3, ![1, B, C]⟩)
    (k : Fin A) (h0 : st 0 = (k.val : Int)) (h1 : st 1 = 0) (h2 : st 2 = 0) (j : Fin A) (b : Fin B) (c : Fin C) :
    Host.dynamicUpdateSlice x u st h (ix3 j b c) = if j = k then u (ix3 (0 : Fin 1) b c) else x (ix3 j b c) := by
  rw [Host.dynamicUpdateSlice_eq_updateSlice x u st h ![k.val, 0, 0] (clamp_one k st h0 h1 h2 h) (slices_one k)]
  unfold updateSlice
  by_cases hj : j = k
  · subst hj
    rw [if_pos rfl, dif_pos (fun a => by
      have := b.isLt
      have := c.isLt
      match a with
      | ⟨0, _⟩ => show j.val ≤ j.val ∧ j.val < j.val + 1; omega
      | ⟨1, _⟩ => show 0 ≤ b.val ∧ b.val < 0 + B; omega
      | ⟨2, _⟩ => show 0 ≤ c.val ∧ c.val < 0 + C; omega)]
    refine congrArg u (funext fun a => Fin.ext ?_)
    match a with
    | ⟨0, _⟩ => show j.val - j.val = 0; omega
    | ⟨1, _⟩ => show b.val - 0 = b.val; omega
    | ⟨2, _⟩ => show c.val - 0 = c.val; omega
  · rw [if_neg hj, dif_neg (fun hin => hj (Fin.ext (by
      have : k.val ≤ j.val ∧ j.val < k.val + 1 := hin (0 : Fin 3)
      omega)))]

/-- The one word of a table, as a slice and a scalar. -/
theorem slice_word {n : ℕ} (x : (⟨1, ![n]⟩ : Shape).Idx → α) (st : Fin 1 → Int) (h : (⟨1, ![n]⟩ : Shape).Slices (fun _ => 0) ⟨1, ![1]⟩)
    (k : Fin n) (h0 : st 0 = (k.val : Int)) (q : (⟨1, ![1]⟩ : Shape).Idx) :
    Host.dynamicSlice ⟨1, ![1]⟩ x st h q = x (ix1 k) := by
  have hk := k.isLt
  rw [Host.dynamicSlice_eq_extractStridedSlice_of_clamp _ x st h ![k.val] (fun a => by
    match a with
    | ⟨0, _⟩ =>
      show (min (max (st 0) 0) ((n - 1 : Nat) : Int)).toNat = k.val
      rw [h0]; omega) ⟨rfl, fun a => by
    match a with
    | ⟨0, _⟩ => show k.val + 1 ≤ n; omega⟩]
  refine extractStridedSlice_apply _ x _ _ _ fun a => ?_
  match a with
  | ⟨0, _⟩ =>
    have : (q 0).val < 1 := (q 0).isLt
    show k.val = k.val + (q 0).val
    omega

end Cert.Proof.Experts

end
-- ==== Proof.ExpertsRef.lean ====
/- The routed experts' reference: its loop computes one block a trip and puts it in its place, so after the last trip every
   row is its block's expert of it; the rows past the last expert's are zeros before it, so their results are too. -/
module

public import proofs.«01_k».proof.Proof.ExpertsVal
public import proofs.«01_k».proof.Proof.ExpertsTab
public import proofs.«01_k».proof.Proof.Gen.Reference5Ideal
public import proofs.«01_k».proof.Proof.Gen.Reference5Ideal.Run
public import Idealize.ShloMosaic.Lib.ValueLayout

@[expose] public section

set_option maxRecDepth 16384

noncomputable section

namespace Cert.Proof.Experts.Ref

open Idealize.ShloMosaic.StableHlo Idealize.ShloMosaic.Scf
open Cert.Reference5Ideal Cert.Reference5Ideal.Gen Cert.Reference5Ideal.Value Idealize.ShloMosaic Idealize.ShloMosaic.TcCoe
  Idealize.ShloMosaic.ValueIdx Idealize.SL.Sem Cert.Proof.Experts
open scoped BigOperators

/-! ## A product at an index -/

theorem dot1 (a : FVec Ideal S128x4096 .f32) (w : FVec Ideal S4096x768 .f32) (r : Fin 128) (n : Fin 768) :
    (show EReal from Host.dotGeneral (F := Ideal) (φ₁ := .f32) (φ₂ := .f32) dot_S128x4096_S4096x768_S128x768_1_0_0_1_n_n none a w (ix2 r n))
      = ∑ k : Fin 4096, (show EReal from a (ix2 r k)) * (show EReal from w (ix2 k n)) :=
  Idealize.ShloMosaic.StackMember.dotGeneral_plain_apply none a w r n

theorem dot2 (a : FVec Ideal S128x768 .f32) (w : FVec Ideal S768x4096 .f32) (r : Fin 128) (p : Fin 4096) :
    (show EReal from Host.dotGeneral (F := Ideal) (φ₁ := .f32) (φ₂ := .f32) dot_S128x768_S768x4096_S128x4096_1_0_0_1_n_n none a w (ix2 r p))
      = ∑ n : Fin 768, (show EReal from a (ix2 r n)) * (show EReal from w (ix2 n p)) :=
  Idealize.ShloMosaic.StackMember.dotGeneral_plain_apply none a w r p

/-! ## One trip -/

/-- A buffer of the loop, as the array it holds. -/
abbrev Val := Valuation τ sig (Elt Ideal)
abbrev tb (V : Val) : IVec S160 32 := V (Proc.devRef .tc main_v41_0)
abbrev xb (V : Val) : FVec Ideal S160x128x4096 .f32 := V (Proc.devRef .tc main_v41_1)
abbrev gb (V : Val) : FVec Ideal S32x4096x768 .f32 := V (Proc.devRef .tc main_v41_2)
abbrev ub (V : Val) : FVec Ideal S32x4096x768 .f32 := V (Proc.devRef .tc main_v41_3)
abbrev db (V : Val) : FVec Ideal S32x768x4096 .f32 := V (Proc.devRef .tc main_v41_4)
abbrev kb (V : Val) : IVec S_ 32 := V (Proc.devRef .tc main_v41_5)
abbrev ob (V : Val) : FVec Ideal S160x128x4096 .f32 := V (Proc.devRef .tc main_v41_6)

variable (V : Val) (k : Fin 160) (hk : kb V = fun _ => BitVec.ofNat 32 k.val)
include hk

theorem ctr_int (q : S_.Idx) : (kb V q).toInt = (k.val : Int) := by
  rw [hk]; exact toInt_ofNat_of_lt (by have := k.isLt; omega)

/-- The trip's expert. -/
theorem vE_eq (q : S_.Idx) : (show BitVec 32 from res_main_while0b_v43 V q) = tb V (ix1 k) := by
  unfold res_main_while0b_v43
  exact slice_word (tb V) _ _ k (ctr_int V k hk _) _

/-- The trip's rows. -/
theorem vX_eq (r : Fin 128) (p : Fin 4096) : (show EReal from res_main_while0b_v44 V (ix2 r p)) = xb V (ix3 k r p) := by
  unfold res_main_while0b_v44
  exact (shapeCast_1ab_ab_apply _ _ r p).trans (slice_one (xb V) _ _ k (ctr_int V k hk _) rfl rfl r p)

variable (e : Fin 32) (he : (tb V (ix1 k)).toNat = e.val)
include he

/-- A start read at the trip's expert. -/
theorem start_e (a : IVec S_ 32) (q : S_.Idx) :
    (select (cmpi .slt (res_main_while0b_v43 V : IVec S_ 32) (constantI S_ 32 0#32)) a (res_main_while0b_v43 V) q).toInt = (e.val : Int) := by
  have h := vE_eq V k hk q
  have h' : (res_main_while0b_v43 V q : BitVec 32).toInt = (e.val : Int) := by
    rw [show (res_main_while0b_v43 V q : BitVec 32) = tb V (ix1 k) from h, BitVec.toInt_eq_toNat_cond, he]
    have := e.isLt
    rw [if_pos (by omega)]
  rw [select_slt_zero_of_nonneg _ _ _ q (by rw [h']; omega)]
  exact h'

omit hk he in
/-- A start at zero, written as a select. -/
theorem start_0 (a : IVec S_ 32) (q : S_.Idx) :
    (select (cmpi .slt (constantI S_ 32 0#32) (constantI S_ 32 0#32)) a (constantI S_ 32 0#32) q).toInt = 0 := by
  rw [select_slt_zero_of_nonneg _ _ _ q (show (0 : Int) ≤ (0#32 : BitVec 32).toInt by decide)]
  rfl

/-- One row of the trip's block times one column of an expert's weights. -/
def pr (w : FVec Ideal S32x4096x768 .f32) (r : Fin 128) (n : Fin 768) : EReal :=
  ∑ q : Fin 4096, (show EReal from xb V (ix3 k r q)) * (show EReal from w (ix3 e q n))

theorem vG_eq (r : Fin 128) (n : Fin 768) : (show EReal from res_main_while0b_v56 V (ix2 r n)) = pr V k e (gb V) r n := by
  unfold res_main_while0b_v56 pr
  refine (dot1 _ _ r n).trans (Finset.sum_congr rfl fun q _ => congrArg₂ (fun a b : EReal => a * b) (vX_eq V k hk r q) ?_)
  exact (shapeCast_1ab_ab_apply _ _ q n).trans (slice_one (gb V) _ _ e (start_e V k hk e he _ _)
        (start_0 (addi (constantI S_ 32 0#32) (constantI S_ 32 4096#32)) (Shape.Idx.first h_S_))
        (start_0 (addi (constantI S_ 32 0#32) (constantI S_ 32 768#32)) (Shape.Idx.first h_S_)) q n)

/-- What a trip leaves: the block's rows through the block's expert, every other block as it was. -/
theorem step_apply (j : Fin 160) (r : Fin 128) (p : Fin 4096) :
    (show EReal from step_main_v41_6 V (ix3 j r p))
      = if j = k then (∑ n : Fin 768, silu (pr V k e (gb V) r n) * pr V k e (ub V) r n * (show EReal from db V (ix3 e n p)))
        else (show EReal from ob V (ix3 j r p)) := by
  unfold step_main_v41_6
  rw [id_eq]
  refine (update_one (ob V) _ _ _ k (ctr_int V k hk _) rfl rfl j r p).trans ?_
  refine if_congr Iff.rfl ?_ rfl
  refine (broadcastInDim_apply _ _ _ (ix3 (0 : Fin 1) r p) (ix2 r p) fun a => ?_).trans ?_
  · match a with
    | ⟨0, _⟩ => rfl
    | ⟨1, _⟩ => rfl
  refine (dot2 _ _ r p).trans (Finset.sum_congr rfl fun n _ => congrArg₂ (fun a b : EReal => a * b) ?_ ?_)
  · refine congrArg₂ (fun a b : EReal => a * b) ?_ ?_
    · exact (silu_ref (res_main_while0b_v56 V (ix2 r n))).trans (congrArg silu (vG_eq V k hk e he r n))
    · refine (dot1 _ _ r n).trans (Finset.sum_congr rfl fun q _ => congrArg₂ (fun a b : EReal => a * b) (vX_eq V k hk r q) ?_)
      exact (shapeCast_1ab_ab_apply _ _ q n).trans (slice_one (ub V) _ _ e (start_e V k hk e he _ _)
        (start_0 (addi (constantI S_ 32 0#32) (constantI S_ 32 4096#32)) (Shape.Idx.first h_S_))
        (start_0 (addi (constantI S_ 32 0#32) (constantI S_ 32 768#32)) (Shape.Idx.first h_S_)) q n)
  · exact (shapeCast_1ab_ab_apply _ _ n p).trans (slice_one (db V) _ _ e (start_e V k hk e he _ _)
      (start_0 (addi (constantI S_ 32 0#32) (constantI S_ 32 768#32)) (Shape.Idx.first h_S_))
      (start_0 (addi (constantI S_ 32 0#32) (constantI S_ 32 4096#32)) (Shape.Idx.first h_S_)) n p)

/-! ## The loop -/

omit hk he in
/-- Row `r` of block `j` through the block's expert, of the arrays the loop starts from. -/
def blockRow (V : Val) (j : Fin 160) (r : Fin 128) (p : Fin 4096) : EReal :=
  ∑ n : Fin 768, silu (pr V j (expertAt (tb V) j) (gb V) r n) * pr V j (expertAt (tb V) j) (ub V) r n
    * (show EReal from db V (ix3 (expertAt (tb V) j) n p))

omit hk he in
/-- After `k` trips the counter is `k`, the arrays read are as they were, and the first `k` blocks are computed. -/
theorem inv (V₀ : Val) (h0 : kb V₀ = fun _ => 0#32) (ht : ∀ t, (tb V₀ (ix1 t)).toNat < 32) : ∀ n : ℕ, n ≤ 160 →
    kb (STEP^[n] V₀) = (fun _ => BitVec.ofNat 32 n) ∧ tb (STEP^[n] V₀) = tb V₀ ∧ xb (STEP^[n] V₀) = xb V₀ ∧ gb (STEP^[n] V₀) = gb V₀
      ∧ ub (STEP^[n] V₀) = ub V₀ ∧ db (STEP^[n] V₀) = db V₀
      ∧ ∀ j : Fin 160, j.val < n → ∀ r p, (show EReal from ob (STEP^[n] V₀) (ix3 j r p)) = blockRow V₀ j r p
  | 0, _ => ⟨h0, rfl, rfl, rfl, rfl, rfl, fun j hj => absurd hj (Nat.not_lt_zero _)⟩
  | n + 1, hn => by
    obtain ⟨ik, it, ix, ig, iu, id', io⟩ := inv V₀ h0 ht n (by omega)
    rw [Function.iterate_succ_apply']
    generalize STEP^[n] V₀ = V at ik it ix ig iu id' io
    refine ⟨?_, (STEP_main_v41_0 V).trans it, (STEP_main_v41_1 V).trans ix, (STEP_main_v41_2 V).trans ig, (STEP_main_v41_3 V).trans iu,
      (STEP_main_v41_4 V).trans id', fun j hj r p => ?_⟩
    · refine (STEP_main_v41_5 V).trans ?_
      unfold step_main_v41_5
      rw [id_eq]
      funext q
      show kb V q + 1#32 = _
      rw [ik]
      show BitVec.ofNat 32 n + BitVec.ofNat 32 1 = _
      rw [← BitVec.ofNat_add]
    · have hlt : n < 160 := by omega
      have e1 : (show EReal from ob (STEP V) (ix3 j r p)) = step_main_v41_6 V (ix3 j r p) := congrFun (STEP_main_v41_6 V) _
      refine e1.trans ((step_apply V ⟨n, hlt⟩ ik (expertAt (tb V) ⟨n, hlt⟩) (by
        show _ = _ % 32
        rw [it]; exact (Nat.mod_eq_of_lt (ht _)).symm) j r p).trans ?_)
      by_cases hjn : j = ⟨n, hlt⟩
      · rw [if_pos hjn, hjn]
        unfold blockRow pr
        rw [it, ix, ig, iu, id']
      · rw [if_neg hjn]
        exact io j (by
          have : j.val ≠ n := fun h => hjn (Fin.ext h)
          omega) r p

/-! ## The result -/

omit hk he in
theorem row_lt (j : Fin 160) (r : Fin 128) : j.val * 128 + r.val < 20480 := by omega

omit hk he in
/-- The rows cut into blocks, and the blocks' rows in one array. -/
theorem rows_apply {α : Type} (X : S20480x4096.Idx → α) (h : S20480x4096.ShapeCasts S160x128x4096) (j : Fin 160) (r : Fin 128) (q : Fin 4096) :
    shapeCast S160x128x4096 X h (ix3 j r q) = X (ix2 (⟨j.val * 128 + r.val, row_lt j r⟩ : Fin 20480) q) :=
  shapeCast_apply _ _ _ _ (by rw [Shape.rowMajor_val_two, Shape.rowMajor_val_three]; rfl)

omit hk he in
theorem flat_apply {α : Type} (Y : S160x128x4096.Idx → α) (h : S160x128x4096.ShapeCasts S20480x4096) (i : S20480x4096.Idx) :
    shapeCast S20480x4096 Y h i
      = Y (ix3 (⟨(i 0).val / 128, blk_lt (i 0)⟩ : Fin 160) (⟨(i 0).val % 128, Nat.mod_lt _ (by decide)⟩ : Fin 128) (i 1)) :=
  shapeCast_apply _ _ _ _ (by
    rw [Shape.rowMajor_val_two, Shape.rowMajor_val_three]
    show ((i 0).val / 128 * 128 + (i 0).val % 128) * 4096 + (i 1).val = (i 0).val * 4096 + (i 1).val
    omega)

omit hk he in
/-- The rows past the last expert's set to zero. -/
def cutOf (c : IVec S32 32) (X : FVec Ideal S20480x4096 .f32) : FVec Ideal S20480x4096 .f32 :=
  select (broadcastInDim S20480x4096 ![0, 1] bcast_S20480x1_S20480x4096_0_1 (cmpi .slt (broadcastInDim S20480x1 ![0] bcast_S20480_S20480x1_0 (iotaInDim S20480 32 0)) (broadcastInDim S20480x1 ![] bcast_S_S20480x1 (shapeCast S_ (lastOf c) shapeCasts_S1_S_)))) X (broadcastInDim S20480x4096 ![] bcast_S_S20480x4096 (id (constant (F := Ideal) S_ .f32 0x00000000#32)))

omit hk he in
theorem cut_apply {en : Fin 16384 → ℕ} (hb : ∀ j, en j < 32) {c : IVec S32 32} (hc : ∀ b : Fin 32, c (ix1 b) = BitVec.ofNat 32 (Dispatch.cnt en b.val))
    (X : FVec Ideal S20480x4096 .f32) (r : Fin 20480) (p : Fin 4096) :
    (show EReal from cutOf c X (ix2 r p)) = if r.val / 128 < (nuOf c (ix1 (0 : Fin 1))).toNat then (show EReal from X (ix2 r p)) else 0 := by
  have hw := before_last hb hc r
  unfold cutOf
  generalize lastOf c = u at hw ⊢
  have hq : broadcastInDim S20480x4096 ![0, 1] bcast_S20480x1_S20480x4096_0_1 (cmpi .slt (broadcastInDim S20480x1 ![0] bcast_S20480_S20480x1_0 (iotaInDim S20480 32 0)) (broadcastInDim S20480x1 ![] bcast_S_S20480x1 (shapeCast S_ u shapeCasts_S1_S_))) (ix2 r p)
      = BitVec.ofBool ((BitVec.ofNat 32 r.val).slt (u (ix1 (0 : Fin 1)))) := by
    refine (broadcastInDim_apply _ _ _ (ix2 r p) (ix2 r (0 : Fin 1)) fun a => ?_).trans ?_
    · match a with
      | ⟨0, _⟩ => rfl
      | ⟨1, _⟩ => rfl
    · refine congrArg₂ (fun a b : BitVec 32 => BitVec.ofBool (a.slt b)) ?_ ?_
      · refine (broadcastInDim_apply _ _ _ (ix2 r (0 : Fin 1)) (ix1 r) fun a => ?_).trans ?_
        · match a with
          | ⟨0, _⟩ => rfl
        · rfl
      · refine (broadcastInDim_apply _ _ _ (ix2 r (0 : Fin 1)) (fun a => a.elim0) fun a => a.elim0).trans ?_
        unfold shapeCast
        exact congrArg u (funext fun a => by
          obtain rfl : a = 0 := Subsingleton.elim _ _
          exact Subsingleton.elim (α := Fin 1) _ _)
  refine (if_congr ((Eq.congr_left hq).trans hw) rfl ?_)
  exact Ideal.ofBits_zero_f32

omit hk he in
/-- A row before the last expert's end goes through its expert as it is; the rest come out as zeros. -/
theorem ffn_cut {en : Fin 16384 → ℕ} (hb : ∀ j, en j < 32) {c : IVec S32 32} (hc : ∀ b : Fin 32, c (ix1 b) = BitVec.ofNat 32 (Dispatch.cnt en b.val))
    (X : FVec Ideal S20480x4096 .f32) (g u : FVec Ideal S32x4096x768 .f32) (d : FVec Ideal S32x768x4096 .f32) (e : Fin 32) (r : Fin 20480) (p : Fin 4096) :
    ffn (cutOf c X) g u d e r p = if r.val / 128 < (nuOf c (ix1 (0 : Fin 1))).toNat then ffn X g u d e r p else 0 := by
  have hx := fun q => cut_apply hb hc X r q
  by_cases h : r.val / 128 < (nuOf c (ix1 (0 : Fin 1))).toNat
  · rw [if_pos h]
    simp only [if_pos h] at hx
    unfold ffn proj
    simp only [hx]
  · rw [if_neg h]
    simp only [if_neg h] at hx
    have hz : ∀ (w : FVec Ideal S32x4096x768 .f32) (n : Fin 768), proj (cutOf c X) w e r n = 0 := fun w n => by
      unfold proj
      simp only [hx, zero_mul, Finset.sum_const_zero]
    unfold ffn
    refine Finset.sum_eq_zero fun n _ => ?_
    rw [hz u n, mul_zero, zero_mul]

variable (m : (ℓ : Loc nD τ sig) → Buf (Elt Ideal) ℓ)

omit hk he in
/-- The counts of the table's experts. -/
abbrev cnts (c : Dev nD) : IVec S32 32 := Dispatch.cntOf (Dispatch.eOf (F := Ideal) (m ((c.tc : Thread nD τ).loc main_arg1)))

omit hk he in
set_option maxHeartbeats 8000000 in
theorem entry (c : Dev nD) : kb (entryContents preI m c) = (fun _ => 0#32) ∧ tb (entryContents preI m c) = beOf (cnts m c)
    ∧ xb (entryContents preI m c) = shapeCast S160x128x4096 (cutOf (cnts m c) (m ((c.tc : Thread nD τ).loc main_arg2))) shapeCasts_S20480x4096_S160x128x4096
    ∧ gb (entryContents preI m c) = m ((c.tc : Thread nD τ).loc main_arg3)
    ∧ ub (entryContents preI m c) = m ((c.tc : Thread nD τ).loc main_arg4)
    ∧ db (entryContents preI m c) = m ((c.tc : Thread nD τ).loc main_arg5) := by
  refine ⟨ctr_entry m c, ?_, ?_, ?_, ?_, ?_⟩
  all_goals
    simp only [entryContents, afterL_cons, afterL_nil]
    after_reads_simp
    try simp only [StableHlo.TRef.toBuf, StableHlo.TRef.ofBuf, cast_eq]
    rfl

omit hk he in
/-- The loop's block rows are the rows of the whole array through their experts. -/
theorem blockRow_eq (c : Dev nD) (j : Fin 160) (r : Fin 128) (p : Fin 4096) :
    blockRow (entryContents preI m c) j r p
      = ffn (cutOf (cnts m c) (m ((c.tc : Thread nD τ).loc main_arg2))) (m ((c.tc : Thread nD τ).loc main_arg3)) (m ((c.tc : Thread nD τ).loc main_arg4))
          (m ((c.tc : Thread nD τ).loc main_arg5)) (expertAt (beOf (cnts m c)) j) ⟨j.val * 128 + r.val, row_lt j r⟩ p := by
  obtain ⟨-, et, ex, eg, eu, ed⟩ := entry m c
  unfold blockRow ffn pr proj
  rw [et, ex, eg, eu, ed]
  have hx := rows_apply (cutOf (cnts m c) (m ((c.tc : Thread nD τ).loc main_arg2))) shapeCasts_S20480x4096_S160x128x4096 j r
  simp only [hx]

omit hk he in
/-- THE REFERENCE'S RESULT. -/
theorem out_eq (c : Dev nD) {C : FVec Ideal S1x128 .f32} (h : Counted C (m ((c.tc : Thread nD τ).loc main_arg1) : FVec Ideal S8192x128 .f32)) :
    (out_main_v42 (STEP^[160] (entryContents preI m c)) : FVec Ideal S20480x4096 .f32)
      = G (beOf (cnts m c)) (nuOf (cnts m c)) (m ((c.tc : Thread nD τ).loc main_arg2))
          (m ((c.tc : Thread nD τ).loc main_arg3)) (m ((c.tc : Thread nD τ).loc main_arg4)) (m ((c.tc : Thread nD τ).loc main_arg5)) := by
  obtain ⟨-, -, -, -, -, -, io⟩ := inv (entryContents preI m c) (entry m c).1 (fun t => by rw [(entry m c).2.1]; exact be_lt _ t) 160 (le_refl _)
  unfold out_main_v42
  funext i
  refine (flat_apply _ _ i).trans ?_
  refine (io _ (blk_lt (i 0)) _ _).trans ((blockRow_eq m c _ _ _).trans ?_)
  have e : (⟨(i 0).val / 128 * 128 + (i 0).val % 128, row_lt ⟨(i 0).val / 128, blk_lt (i 0)⟩ ⟨(i 0).val % 128, Nat.mod_lt _ (by decide)⟩⟩ : Fin 20480) = i 0 :=
    Fin.ext (by show (i 0).val / 128 * 128 + (i 0).val % 128 = (i 0).val; omega)
  exact (congrArg (fun z => ffn _ _ _ _ _ z (i 1)) e).trans (ffn_cut h.num h.at _ _ _ _ _ (i 0) (i 1))

end Cert.Proof.Experts.Ref

end
-- ==== Proof.Experts.lean ====
/- The routed experts: what each grid point leaves is its block of the result, so the array the launch leaves is the
   reference's, and the claims about the call follow. -/
module

public import proofs.«01_k».proof.Defs
public import proofs.«01_k».proof.Proof.ExpertsRun
public import proofs.«01_k».proof.Proof.ExpertsRef
public import proofs.«01_k».proof.Proof.Gen.Kernel5
public import proofs.«01_k».proof.Proof.Gen.Pre_counted
public import Idealize.ShloMosaic.Lib.ReduceAll

@[expose] public section

set_option maxRecDepth 16384

noncomputable section

namespace Cert.Proof.Experts

open Cert.Kernel5Ideal Cert.Kernel5Ideal.Gen Idealize.ShloMosaic Idealize.ShloMosaic.TcCoe
  Idealize.ShloMosaic.ValueIdx Idealize.SL.Sem
open scoped BigOperators

local instance : Cert.Kernel5.Facts := Cert.Kernel5.Gen.facts
local instance : Cert.Reference5Ideal.Facts := Cert.Reference5Ideal.Gen.facts
local instance : Cert.Pre_counted.Facts := Cert.Pre_counted.Gen.facts

/-! ## What the precondition says -/

theorem ofFin_eq {n : ℕ} (t : Fin n) : (Shape.Idx.ofFin t : (⟨1, ![n]⟩ : Shape).Idx) = ix1 t :=
  funext fun a => by
    obtain rfl : a = 0 := Subsingleton.elim _ _
    rfl

theorem nBlocks_eq {F : FTy → Type} [FloatOps F] (m : (ℓ : Loc nD τ sig) → Buf (Elt F) ℓ) : nBlocks m = nuOf (cntsOf m 0) (ix1 (0 : Fin 1)) := by
  unfold nBlocks
  rw [ofFin_eq]
  exact congrFun (V_used m 0) _
theorem expertOf_eq {F : FTy → Type} [FloatOps F] (m : (ℓ : Loc nD τ sig) → Buf (Elt F) ℓ) (t : Fin 160) : expertOf m t = beOf (cntsOf m 0) (ix1 t) := by
  unfold expertOf
  rw [ofFin_eq]
  exact congrFun (V_experts m 0) _

/-- The counts' tables name experts and blocks that exist. -/
theorem blocks {F : FTy → Type} [FloatOps F] (m : (ℓ : Loc nD τ sig) → Buf (Elt F) ℓ) {R : FVec F S8192x128 .f32}
    (h : Counted (m (((0 : Dev nD).tc : Thread nD τ).loc main_arg0) : FVec F S1x128 .f32) R) : Blocks m := by
  have hc : ∀ b : Fin 32, cntsOf m 0 (ix1 b) = BitVec.ofNat 32 (Dispatch.cnt (numOf R) b.val) := fun b => (congrFun h.counts _).trans (h.at b)
  have hn := nu_bounds h.num hc
  refine ⟨fun t => ?_, ?_, ?_⟩
  · rw [expertOf_eq]; exact be_lt _ t
  · rw [nBlocks_eq]; exact hn.1
  · rw [nBlocks_eq]; exact hn.2

attribute [local irreducible] V

/-! ## The block's value -/

theorem mm1 (a : FVec Ideal S128x4096 .bf16) (w : FVec Ideal S4096x768 .bf16) (r : Fin 128) (n : Fin 768) :
    (show EReal from matmul (F := Ideal) (φ₁ := .bf16) (φ₂ := .bf16) dot_S128x4096_S4096x768_S128x768_1_0_0_1_n_n none a w (constant (F := Ideal) S128x768 .f32 0x00000000#32) (ix2 r n))
      = ∑ k : Fin 4096, (show EReal from a (ix2 r k)) * (show EReal from w (ix2 k n)) :=
  (Ideal.matmul_plain_apply none a w _ r n).trans
    ((congrArg (· + _) (show (constant (F := Ideal) S128x768 .f32 0x00000000#32) (ix2 r n) = (0 : EReal) from Ideal.ofBits_zero_f32)).trans (zero_add _))

theorem mm2 (a : FVec Ideal S128x768 .bf16) (w : FVec Ideal S768x4096 .bf16) (r : Fin 128) (p : Fin 4096) :
    (show EReal from matmul (F := Ideal) (φ₁ := .bf16) (φ₂ := .bf16) dot_S128x768_S768x4096_S128x4096_1_0_0_1_n_n none a w (constant (F := Ideal) S128x4096 .f32 0x00000000#32) (ix2 r p))
      = ∑ n : Fin 768, (show EReal from a (ix2 r n)) * (show EReal from w (ix2 n p)) :=
  (Ideal.matmul_plain_apply none a w _ r p).trans
    ((congrArg (· + _) (show (constant (F := Ideal) S128x4096 .f32 0x00000000#32) (ix2 r p) = (0 : EReal) from Ideal.ofBits_zero_f32)).trans (zero_add _))

/-- A row times a column of a block of weights. -/
def prB (a : FVec Ideal S128x4096 .f32) (w : FVec Ideal S1x4096x768 .bf16) (r : Fin 128) (n : Fin 768) : EReal :=
  ∑ k : Fin 4096, (show EReal from a (ix2 r k)) * (show EReal from w (ix3 (0 : Fin 1) k n))

theorem prB_eq (a : FVec Ideal S128x4096 .f32) (w : FVec Ideal S1x4096x768 .bf16) (r : Fin 128) (n : Fin 768) :
    (show EReal from matmul (F := Ideal) (φ₁ := .bf16) (φ₂ := .bf16) dot_S128x4096_S4096x768_S128x768_1_0_0_1_n_n none (truncf .bf16 a bitsLt_bf16_f32)
      (shapeCast S4096x768 w shapeCasts_S1x4096x768_S4096x768) (constant (F := Ideal) S128x768 .f32 0x00000000#32) (ix2 r n)) = prB a w r n :=
  (mm1 _ _ r n).trans (Finset.sum_congr rfl fun k _ => congrArg (fun b : EReal => (show EReal from a (ix2 r k)) * b) (shapeCast_1ab_ab_apply w _ k n))

/-- The used block's payload at an index. -/
theorem pay_apply (a : FVec Ideal S128x4096 .f32) (g u : FVec Ideal S1x4096x768 .bf16) (d : FVec Ideal S1x768x4096 .bf16) (r : Fin 128) (p : Fin 4096) :
    (show EReal from k0_pay2 (F := Ideal) a g u d (ix2 r p))
      = ∑ n : Fin 768, silu (prB a g r n) * prB a u r n * (show EReal from d (ix3 (0 : Fin 1) n p)) := by
  unfold k0_pay2
  dsimp only
  refine (mm2 _ _ r p).trans (Finset.sum_congr rfl fun n _ => congrArg₂ (fun a b : EReal => a * b) ?_ (shapeCast_1ab_ab_apply d _ n p))
  refine congrArg₂ (fun a b : EReal => a * b) ?_ (prB_eq a u r n)
  refine (silu_ker _).trans (congrArg silu (prB_eq a g r n))

/-! ## The blocks in the arrays -/

theorem coords_val : ∀ t : Fin grid0.N, (grid0.coords t 0).val = t.val := by decide +kernel

theorem N_eq : grid0.N = 160 := by decide

variable (m : (ℓ : Loc nD τ sig) → Buf (Elt Ideal) ℓ) (ρ : Dev nD → PrngReg)

theorem t_lt (hb : Blocks m) (t : Fin (cfgB m hb).N) : t.val < 160 := (show t.val < grid0.N from t.isLt).trans_eq N_eq

/-- The word the body reads is the number of blocks used. -/
theorem theWord_eq (c : Dev nD) : theWord m c = nBlocks m := by
  show tabs m 1 _ = tabs m 1 _
  exact congrArg (tabs m 1) (funext fun a => by
    obtain rfl : a = (0 : Fin 1) := Subsingleton.elim (α := Fin 1) _ _
    exact Subsingleton.elim (α := Fin 1) _ _)

/-- The second condition holds where the block is used. -/
theorem cond2_iff (hb : Blocks m) (c : Dev nD) (t : Fin (cfgB m hb).N) :
    k0_cond2 (grid0.coords t) (theWord m c) = 1#1 ↔ t.val < (nBlocks m).toNat := by
  have ht := t_lt m hb t
  have hl := hb.le
  rw [theWord_eq]
  have e : (BitVec.ofNat 32 t.val).toNat = t.val := by rw [BitVec.toNat_ofNat]; omega
  have h := slt_iff (a := BitVec.ofNat 32 t.val) (b := nBlocks m) (by omega) (by omega)
  rw [e] at h
  rw [← h]
  unfold k0_cond2
  dsimp only
  rw [coords_val]
  show (Scalar.cmpi .ne (Scalar.extui (BitVec.ofBool ((BitVec.ofNat 32 t.val).slt (nBlocks m))) : BitVec 32) 0#32 = 1#1) ↔ _
  cases (BitVec.ofNat 32 t.val).slt (nBlocks m) <;> decide

/-- The place in the whole array of place `r` of block `t`. -/
def rowOf (hb : Blocks m) (t : Fin (cfgB m hb).N) (r : Fin 128) : Fin 20480 := ⟨t.val * 128 + r.val, by have := t_lt m hb t; omega⟩
def eAt (hb : Blocks m) (t : Fin (cfgB m hb).N) : Fin 32 := ⟨(expertOf m ⟨t.val, t_lt m hb t⟩).toNat, hb.expert _⟩

theorem emb0 (hb : Blocks m) (t : Fin (cfgB m hb).N) (hu : t.val < (nBlocks m).toNat) (r : Fin 128) (k : Fin 4096) :
    (((cfgB m hb).win 0).blk t).view.emb (ix2 r k : S128x4096.Idx) = (ix2 (rowOf m hb t r) k : S20480x4096.Idx) := by
  have e := ix_rows m hb (grid0.coords t)
  have e0 : cc0_transform_0 (F := Ideal) inb_S1_S1_0 numel1_S1 (tabs m) (grid0.coords t) (0 : Fin 2) = min (grid0.coords t 0).val ((nBlocks m).toNat - 1) := congrFun e 0
  have e1 : cc0_transform_0 (F := Ideal) inb_S1_S1_0 numel1_S1 (tabs m) (grid0.coords t) (1 : Fin 2) = 0 := congrFun e 1
  rw [coords_val] at e0
  funext a; apply Fin.ext
  match a with
  | ⟨0, _⟩ =>
    show cc0_transform_0 (F := Ideal) inb_S1_S1_0 numel1_S1 (tabs m) (grid0.coords t) (0 : Fin 2) * 128 + 1 * r.val = t.val * 128 + r.val
    rw [e0, show min t.val ((nBlocks m).toNat - 1) = t.val by omega]; omega
  | ⟨1, _⟩ =>
    show cc0_transform_0 (F := Ideal) inb_S1_S1_0 numel1_S1 (tabs m) (grid0.coords t) (1 : Fin 2) * 4096 + 1 * k.val = k.val
    rw [e1]; omega

theorem same_point (hb : Blocks m) (t : Fin (cfgB m hb).N) :
    (⟨(grid0.coords t 0).val, coord_lt (grid0.coords t)⟩ : Fin 160) = ⟨t.val, t_lt m hb t⟩ := Fin.ext (coords_val t)

theorem emb1 (hb : Blocks m) (t : Fin (cfgB m hb).N) (k : Fin 4096) (n : Fin 768) :
    (((cfgB m hb).win 1).blk t).view.emb (ix3 (0 : Fin 1) k n : S1x4096x768.Idx) = (ix3 (eAt m hb t) k n : S32x4096x768.Idx) := by
  have e := ix_gate m (grid0.coords t)
  rw [same_point m hb t] at e
  have e0 : cc0_transform_1 (F := Ideal) k0_off1_inb numel1_S1 (tabs m) (grid0.coords t) (0 : Fin 3) = (expertOf m ⟨t.val, t_lt m hb t⟩).toNat := congrFun e 0
  have e1 : cc0_transform_1 (F := Ideal) k0_off1_inb numel1_S1 (tabs m) (grid0.coords t) (1 : Fin 3) = 0 := congrFun e 1
  have e2 : cc0_transform_1 (F := Ideal) k0_off1_inb numel1_S1 (tabs m) (grid0.coords t) (2 : Fin 3) = 0 := congrFun e 2
  funext a; apply Fin.ext
  match a with
  | ⟨0, _⟩ =>
    show cc0_transform_1 (F := Ideal) k0_off1_inb numel1_S1 (tabs m) (grid0.coords t) (0 : Fin 3) * 1 + 1 * 0 = (expertOf m ⟨t.val, t_lt m hb t⟩).toNat
    omega
  | ⟨1, _⟩ =>
    show cc0_transform_1 (F := Ideal) k0_off1_inb numel1_S1 (tabs m) (grid0.coords t) (1 : Fin 3) * 4096 + 1 * k.val = k.val
    omega
  | ⟨2, _⟩ =>
    show cc0_transform_1 (F := Ideal) k0_off1_inb numel1_S1 (tabs m) (grid0.coords t) (2 : Fin 3) * 768 + 1 * n.val = n.val
    omega

theorem emb2 (hb : Blocks m) (t : Fin (cfgB m hb).N) (k : Fin 4096) (n : Fin 768) :
    (((cfgB m hb).win 2).blk t).view.emb (ix3 (0 : Fin 1) k n : S1x4096x768.Idx) = (ix3 (eAt m hb t) k n : S32x4096x768.Idx) := by
  have e := ix_up m (grid0.coords t)
  rw [same_point m hb t] at e
  have e0 : cc0_transform_2 (F := Ideal) k0_off1_inb numel1_S1 (tabs m) (grid0.coords t) (0 : Fin 3) = (expertOf m ⟨t.val, t_lt m hb t⟩).toNat := congrFun e 0
  have e1 : cc0_transform_2 (F := Ideal) k0_off1_inb numel1_S1 (tabs m) (grid0.coords t) (1 : Fin 3) = 0 := congrFun e 1
  have e2 : cc0_transform_2 (F := Ideal) k0_off1_inb numel1_S1 (tabs m) (grid0.coords t) (2 : Fin 3) = 0 := congrFun e 2
  funext a; apply Fin.ext
  match a with
  | ⟨0, _⟩ =>
    show cc0_transform_2 (F := Ideal) k0_off1_inb numel1_S1 (tabs m) (grid0.coords t) (0 : Fin 3) * 1 + 1 * 0 = (expertOf m ⟨t.val, t_lt m hb t⟩).toNat
    omega
  | ⟨1, _⟩ =>
    show cc0_transform_2 (F := Ideal) k0_off1_inb numel1_S1 (tabs m) (grid0.coords t) (1 : Fin 3) * 4096 + 1 * k.val = k.val
    omega
  | ⟨2, _⟩ =>
    show cc0_transform_2 (F := Ideal) k0_off1_inb numel1_S1 (tabs m) (grid0.coords t) (2 : Fin 3) * 768 + 1 * n.val = n.val
    omega

theorem emb3 (hb : Blocks m) (t : Fin (cfgB m hb).N) (n : Fin 768) (p : Fin 4096) :
    (((cfgB m hb).win 3).blk t).view.emb (ix3 (0 : Fin 1) n p : S1x768x4096.Idx) = (ix3 (eAt m hb t) n p : S32x768x4096.Idx) := by
  have e := ix_down m (grid0.coords t)
  rw [same_point m hb t] at e
  have e0 : cc0_transform_3 (F := Ideal) k0_off1_inb numel1_S1 (tabs m) (grid0.coords t) (0 : Fin 3) = (expertOf m ⟨t.val, t_lt m hb t⟩).toNat := congrFun e 0
  have e1 : cc0_transform_3 (F := Ideal) k0_off1_inb numel1_S1 (tabs m) (grid0.coords t) (1 : Fin 3) = 0 := congrFun e 1
  have e2 : cc0_transform_3 (F := Ideal) k0_off1_inb numel1_S1 (tabs m) (grid0.coords t) (2 : Fin 3) = 0 := congrFun e 2
  funext a; apply Fin.ext
  match a with
  | ⟨0, _⟩ =>
    show cc0_transform_3 (F := Ideal) k0_off1_inb numel1_S1 (tabs m) (grid0.coords t) (0 : Fin 3) * 1 + 1 * 0 = (expertOf m ⟨t.val, t_lt m hb t⟩).toNat
    omega
  | ⟨1, _⟩ =>
    show cc0_transform_3 (F := Ideal) k0_off1_inb numel1_S1 (tabs m) (grid0.coords t) (1 : Fin 3) * 768 + 1 * n.val = n.val
    omega
  | ⟨2, _⟩ =>
    show cc0_transform_3 (F := Ideal) k0_off1_inb numel1_S1 (tabs m) (grid0.coords t) (2 : Fin 3) * 4096 + 1 * p.val = p.val
    omega

theorem emb4 (hb : Blocks m) (t : Fin (cfgB m hb).N) (r : Fin 128) (p : Fin 4096) :
    (((cfgB m hb).win 4).blk t).view.emb (ix2 r p : S128x4096.Idx) = (ix2 (rowOf m hb t r) p : S20480x4096.Idx) := by
  have ht := t_lt m hb t
  funext a; apply Fin.ext
  match a with
  | ⟨0, _⟩ =>
    show (BitVec.ofNat 32 (grid0.coords t 0).val).toNat * 128 + 1 * r.val = t.val * 128 + r.val
    rw [coords_val, BitVec.toNat_ofNat]; omega
  | ⟨1, _⟩ => show 0 * 4096 + 1 * p.val = p.val; omega

/-! ## The whole result -/

set_option maxHeartbeats 8000000 in
/-- The weights as the launch finds them: rounding to a narrower format changes no ideal value. -/
theorem V_gate (c : Dev nD) : V m c main_v25 = (m ((c : Thread nD τ).loc main_arg3) : Vec Ideal S32x4096x768 .f32) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxHeartbeats 8000000 in
theorem V_up (c : Dev nD) : V m c main_v26 = (m ((c : Thread nD τ).loc main_arg4) : Vec Ideal S32x4096x768 .f32) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl
set_option maxHeartbeats 8000000 in
theorem V_down (c : Dev nD) : V m c main_v27 = (m ((c : Thread nD τ).loc main_arg5) : Vec Ideal S32x768x4096 .f32) := by
  unfold V
  simp only [List.flatten_cons, List.flatten_nil, List.cons_append, List.nil_append, List.append_nil, StableHlo.TRef.binary, StableHlo.TRef.nullary,
    StableHlo.TRef.ternary, StableHlo.TRef.unary, StableHlo.TRef.toBuf, StableHlo.TRef.ofBuf, cast_eq]
  after_results_simp <;> rfl

/-- The result of the launch's arguments. -/
abbrev res (c : Dev nD) : FVec Ideal S20480x4096 .f32 :=
  G (beOf (cntsOf m c)) (nuOf (cntsOf m c)) (m ((c : Thread nD τ).loc main_arg2))
    (m ((c : Thread nD τ).loc main_arg3)) (m ((c : Thread nD τ).loc main_arg4)) (m ((c : Thread nD τ).loc main_arg5))

theorem used_eq (c : Dev nD) : nBlocks m = nuOf (cntsOf m c) (ix1 (0 : Fin 1)) := by
  obtain rfl : c = 0 := Subsingleton.elim _ _
  exact nBlocks_eq m

theorem expert_eq (hb : Blocks m) (c : Dev nD) (t : Fin (cfgB m hb).N) :
    eAt m hb t = expertAt (beOf (cntsOf m c)) ⟨t.val, t_lt m hb t⟩ := by
  obtain rfl : c = 0 := Subsingleton.elim _ _
  have h := hb.expert ⟨t.val, t_lt m hb t⟩
  refine Fin.ext ?_
  show (expertOf m ⟨t.val, t_lt m hb t⟩).toNat = (beOf (cntsOf m 0) (ix1 (⟨t.val, t_lt m hb t⟩ : Fin 160))).toNat % 32
  rw [← expertOf_eq, Nat.mod_eq_of_lt h]

/-- The blocks the body reads, at an index. -/
theorem rows_at (hb : Blocks m) (c : Dev nD) (t : Fin (cfgB m hb).N) (hu : t.val < (nBlocks m).toNat) (r : Fin 128) (k : Fin 4096) :
    (show FVec Ideal S128x4096 .f32 from blkAt m hb c 0 t) (ix2 r k)
      = (m ((c : Thread nD τ).loc main_arg2) : FVec Ideal S20480x4096 .f32) (ix2 (rowOf m hb t r) k) :=
  (congrArg (V m c main_arg2 : FVec Ideal S20480x4096 .f32) (emb0 m hb t hu r k)).trans (congrFun (V_arg2 m c) _)

theorem gate_at (hb : Blocks m) (c : Dev nD) (t : Fin (cfgB m hb).N) (k : Fin 4096) (n : Fin 768) :
    (show FVec Ideal S1x4096x768 .bf16 from blkAt m hb c 1 t) (ix3 (0 : Fin 1) k n)
      = (m ((c : Thread nD τ).loc main_arg3) : FVec Ideal S32x4096x768 .f32) (ix3 (eAt m hb t) k n) :=
  (congrArg (V m c main_v25 : FVec Ideal S32x4096x768 .bf16) (emb1 m hb t k n)).trans (congrFun (V_gate m c) _)

theorem up_at (hb : Blocks m) (c : Dev nD) (t : Fin (cfgB m hb).N) (k : Fin 4096) (n : Fin 768) :
    (show FVec Ideal S1x4096x768 .bf16 from blkAt m hb c 2 t) (ix3 (0 : Fin 1) k n)
      = (m ((c : Thread nD τ).loc main_arg4) : FVec Ideal S32x4096x768 .f32) (ix3 (eAt m hb t) k n) :=
  (congrArg (V m c main_v26 : FVec Ideal S32x4096x768 .bf16) (emb2 m hb t k n)).trans (congrFun (V_up m c) _)

theorem down_at (hb : Blocks m) (c : Dev nD) (t : Fin (cfgB m hb).N) (n : Fin 768) (p : Fin 4096) :
    (show FVec Ideal S1x768x4096 .bf16 from blkAt m hb c 3 t) (ix3 (0 : Fin 1) n p)
      = (m ((c : Thread nD τ).loc main_arg5) : FVec Ideal S32x768x4096 .f32) (ix3 (eAt m hb t) n p) :=
  (congrArg (V m c main_v27 : FVec Ideal S32x768x4096 .bf16) (emb3 m hb t n p)).trans (congrFun (V_down m c) _)

/-- What a point leaves, at an index, is the result at the place that index is of. -/
theorem point_value (hb : Blocks m) (c : Dev nD) (t : Fin (cfgB m hb).N) (r : Fin 128) (p : Fin 4096) :
    outAt m hb c t (ix2 r p) = res m c (ix2 (rowOf m hb t r) p) := by
  have ht := t_lt m hb t
  have hd : (rowOf m hb t r).val / 128 = t.val := by show (t.val * 128 + r.val) / 128 = t.val; omega
  have hd' : (⟨(rowOf m hb t r).val / 128, blk_lt (rowOf m hb t r)⟩ : Fin 160) = ⟨t.val, ht⟩ := Fin.ext hd
  have hG : res m c (ix2 (rowOf m hb t r) p) = (show EReal from if t.val < (nBlocks m).toNat then
      ffn (m ((c : Thread nD τ).loc main_arg2)) (m ((c : Thread nD τ).loc main_arg3)) (m ((c : Thread nD τ).loc main_arg4))
        (m ((c : Thread nD τ).loc main_arg5)) (eAt m hb t) (rowOf m hb t r) p else 0) := by
    rw [used_eq m c, expert_eq m hb c t]
    show (if (rowOf m hb t r).val / 128 < _ then ffn _ _ _ _ (expertAt _ ⟨(rowOf m hb t r).val / 128, blk_lt (rowOf m hb t r)⟩) (rowOf m hb t r) p else (0 : EReal)) = _
    rw [hd']
    exact if_congr (by rw [hd]) rfl rfl
  rw [hG]
  unfold outAt
  by_cases hu : t.val < (nBlocks m).toNat
  · have h1 : ¬ k0_cond1 (grid0.coords t) (theWord m c) = 1#1 := (cond_not _ _).1 ((cond2_iff m hb c t).2 hu)
    rw [if_neg h1, if_pos hu]
    refine (pay_apply _ _ _ _ r p).trans ?_
    unfold ffn
    have hx : ∀ k, _ := fun k => rows_at m hb c t hu r k
    refine Finset.sum_congr rfl fun n _ => congrArg₂ (fun a b : EReal => a * b) ?_ (down_at m hb c t n p)
    refine congrArg₂ (fun a b : EReal => silu a * b) ?_ ?_
    · exact Finset.sum_congr rfl fun k _ => congrArg₂ (fun a b : EReal => a * b) (hx k) (gate_at m hb c t k n)
    · exact Finset.sum_congr rfl fun k _ => congrArg₂ (fun a b : EReal => a * b) (hx k) (up_at m hb c t k n)
  · have h1 : k0_cond1 (grid0.coords t) (theWord m c) = 1#1 := not_not.1 fun h => hu ((cond2_iff m hb c t).1 ((cond_not _ _).2 h))
    rw [if_pos h1, if_neg hu]
    exact Ideal.ofBits_zero_f32

theorem point_idx (hb : Blocks m) (c : Dev nD) (t : Fin (cfgB m hb).N) (j : S128x4096.Idx) :
    outAt m hb c t j = res m c ((((cfgB m hb).win 4).blk t).view.emb j) := by
  rw [eq_ix2 j]
  exact (point_value m hb c t (j 0) (j 1)).trans (congrArg (res m c) (emb4 m hb t (j 0) (j 1)).symm)

/-- What point `t` writes back is its block of the result. -/
theorem flushed_eq (hb : Blocks m) (c : Dev nD) (t : Fin (cfgB m hb).N) :
    (dats m hb 0 c).flushed 4 t = (((cfgB m hb).win 4).blk t).view.read (Elt Ideal) (res m c) := by
  show ((cfgB m hb).win 4).cut (grid0.coords t) ((dats m hb 0 c).after 4 t) = _
  rw [after4]
  funext j
  exact point_idx m hb c t j

/-- Every place of the result is in some point's block. -/
theorem covered (hb : Blocks m) (i : S20480x4096.Idx) :
    ∃ t : Fin (cfgB m hb).N, ((cfgB m hb).win 4).flush t = true ∧ i ∈ (((cfgB m hb).win 4).blk t).view.set := by
  have h0 : (i 0).val < 20480 := (i 0).isLt
  let t : Fin (cfgB m hb).N := ⟨(i 0).val / 128, (by omega : (i 0).val / 128 < 160).trans_eq N_eq.symm⟩
  refine ⟨t, flush4 m hb t, ?_⟩
  have h := (((cfgB m hb).win 4).blk t).view.emb_mem_set (ix2 (⟨(i 0).val % 128, by omega⟩ : Fin 128) (i 1) : S128x4096.Idx)
  have e : (((cfgB m hb).win 4).blk t).view.emb (ix2 (⟨(i 0).val % 128, by omega⟩ : Fin 128) (i 1) : S128x4096.Idx) = i := by
    refine (emb4 m hb t _ _).trans (Eq.trans ?_ (eq_ix2 i).symm)
    refine congrArg (fun z => (ix2 z (i 1) : S20480x4096.Idx)) (Fin.ext ?_)
    show (i 0).val / 128 * 128 + (i 0).val % 128 = (i 0).val
    omega
  rwa [e] at h

/-- The result array after the run. -/
theorem final (hb : Blocks m) (c : Dev nD) : (dats m hb 0 c).arrAt 4 (cfgB m hb).N = res m c :=
  (dats m hb 0 c).arrAt_eq_of_cover 4 _ (fun t _ => flushed_eq m hb c t) (covered m hb)

/-! ## The claims -/

theorem frame_KernelIdeal : Cert.quiescent_Kernel5Ideal := fun m g hp =>
  (θ_run Cert.Kernel5Ideal.defs _ _).mono (fun _ h => ⟨fun c => (h.1 c).2, h.2⟩)
    (run_ends (F := Ideal) m g (blocks m (counted_of_pre (hp 0))))

set_option maxHeartbeats 4000000 in
/-- The kernel's labels run the same bodies whichever printing of it is read. -/
theorem defs_eq {F : FTy → Type} [FloatOps F] : Cert.Kernel5.defs (F := F) = Cert.Kernel5Ideal.defs (F := F) :=
  congrArg (Pipeline.defs (Cert.Kernel5Ideal.pcfgs (F := F))) (show Cert.Kernel5.defs₀ (F := F) = Cert.Kernel5Ideal.defs₀ from
    congrArg Defs.onTc (funext fun l => funext fun x => match l, x with
      | 0, (t, s) => rfl
      | ⟨_ + 1, h⟩, _ => absurd h (Nat.not_lt.2 (Nat.le_add_left _ _))))

set_option maxHeartbeats 4000000 in
theorem frame_Kernel : Cert.quiescent_Kernel5 := fun m g hp => by
  rw [defs_eq]
  exact (θ_run Cert.Kernel5Ideal.defs _ _).mono (fun _ h => ⟨fun c => (h.1 c).2, h.2⟩)
    (run_ends (F := Bits) m g (blocks m (counted_of_pre (hp 0))))

theorem frame_ReferenceIdeal : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem value_ideal : Cert.algebraic_Kernel5Ideal_Reference5Ideal := fun m g m' g' hp hag =>
  have hw := fun c => counted_of_pre (hp c)
  have hb : Blocks m := blocks m (hw 0)
  ⟨fun c => res m c,
    (θ_run Cert.Kernel5Ideal.defs _ _).mono (fun _ h c => ⟨(h.1 c).1.trans (final m hb c), (h.1 c).2⟩) (run_ends (F := Ideal) m g hb),
    (θ_run Cert.Reference5Ideal.defs _ _).mono (fun _ h c => ⟨(h c).1.trans
        ((Ref.out_eq m' c (by rw [(hag c).2.1]; exact hw c)).trans (by
          have e : Ref.cnts m' c = cntsOf m c := by
            unfold Ref.cnts
            rw [(hag c).2.1]
            exact (hw c).counts.symm
          rw [e, (hag c).2.2.1, (hag c).2.2.2.1, (hag c).2.2.2.2.1, (hag c).2.2.2.2.2])), (h c).2⟩)
      (Cert.Reference5Ideal.Value.run (F := Ideal) m' g')⟩

end Cert.Proof.Experts

end
-- ==== Proof.NormRow.lean ====
/- A row divided by the root of its mean square and weighted, as a kernel's operations and as the host's write it. -/
module

public import Idealize.ShloMosaic.PureOps
public import Idealize.ShloMosaic.Lib.Pipeline.Value
public import Idealize.ShloMosaic.Lib.ValueIdx
public import Idealize.ShloMosaic.PureOps.Ideal.Laws

@[expose] public section

noncomputable section

namespace Cert.Proof.NormRow

open Idealize.ShloMosaic Idealize.ShloMosaic.ValueIdx
open scoped BigOperators

variable {m n : Nat}

/-- Entry `k` of the row `x`, normalised and weighted by `g`; `b` is the row's length as a float, `e` the small number added. -/
def nrm (b e : BitVec 32) (x g : Fin n → EReal) (k : Fin n) : EReal :=
  x k * Ideal.rsqrt (Ideal.div (∑ l, x l * x l) (Ideal.ofBits .f32 b) + Ideal.ofBits .f32 e) * g k

/-- The index a sum along the lanes reads. -/
theorem lift_eq (h : (⟨2, ![m, n]⟩ : Shape).Reduces [1] ⟨1, ![m]⟩) (r : Fin m) (l : Fin n) :
    h.lift (ix1 r) l = (ix2 r l : (⟨2, ![m, n]⟩ : Shape).Idx) := by
  funext a
  match a with
  | ⟨0, _⟩ => rfl
  | ⟨1, _⟩ => rfl

/-- A kernel's sum along the lanes of a block's squares. -/
theorem kernel_sum (x : FVec Ideal ⟨2, ![m, n]⟩ .f32) (h : (⟨2, ![m, n]⟩ : Shape).Reduces [1] ⟨1, ![m]⟩) (hφ : FKind.Formats .f32)
    (ha : (0x00000000#32 : BitVec 32) = FKind.add.neutral .f32 hφ) (r : Fin m) :
    (show EReal from multiReduction .add [1] ⟨1, ![m]⟩ x 0x00000000#32 h hφ ha (ix1 r)) = ∑ l : Fin n, (show EReal from x (ix2 r l)) :=
  (Ideal.multiReduction_add_single x _ h hφ ha (ix1 r)).trans (Finset.sum_congr rfl fun l _ => congrArg x (lift_eq h r l))

/-- The host's. -/
theorem host_sum {u : Shape} (x : FVec Ideal ⟨2, ![m, n]⟩ .f32) (z : FVec Ideal u .f32) (h : (⟨2, ![m, n]⟩ : Shape).ReducesTo [1] ⟨1, ![m]⟩)
    (hr : (⟨2, ![m, n]⟩ : Shape).Reduces [1] ⟨1, ![m]⟩) (hu : 0 < u.numel) (hz : (show EReal from z (Shape.Idx.first hu)) = 0) (r : Fin m) :
    (show EReal from Host.reduceAdd x z h hu (ix1 r)) = ∑ l : Fin n, (show EReal from x (ix2 r l)) :=
  (Ideal.hostReduceAdd_single h hr x _ (ix1 r)).trans
    ((congrArg (· + _) hz).trans ((zero_add _).trans (Finset.sum_congr rfl fun l _ => congrArg x (lift_eq hr r l))))

variable {α : Type}

/-- A column repeated along the lanes. -/
theorem col_to (v : (⟨2, ![m, 1]⟩ : Shape).Idx → α) (h : (⟨2, ![m, 1]⟩ : Shape).Broadcasts ⟨2, ![m, n]⟩) (r : Fin m) (k : Fin n) :
    broadcastTo ⟨2, ![m, n]⟩ v h (ix2 r k) = v (ix2 r (0 : Fin 1)) :=
  broadcastTo_apply v h (ix2 r k) (ix2 r (0 : Fin 1)) fun a => by
    match a with
    | ⟨0, _⟩ =>
      show r.val = if m = 1 then 0 else r.val
      have := r.isLt
      split <;> omega
    | ⟨1, _⟩ => rfl

/-- A row repeated down the block. -/
theorem row_to (v : (⟨2, ![1, n]⟩ : Shape).Idx → α) (h : (⟨2, ![1, n]⟩ : Shape).Broadcasts ⟨2, ![m, n]⟩) (r : Fin m) (k : Fin n) :
    broadcastTo ⟨2, ![m, n]⟩ v h (ix2 r k) = v (ix2 (0 : Fin 1) k) :=
  broadcastTo_apply v h (ix2 r k) (ix2 (0 : Fin 1) k) fun a => by
    match a with
    | ⟨0, _⟩ => rfl
    | ⟨1, _⟩ =>
      show k.val = if n = 1 then 0 else k.val
      have := k.isLt
      split <;> omega

/-- A vector stood up as a column. -/
theorem col_cast (v : (⟨1, ![m]⟩ : Shape).Idx → α) (h : (⟨1, ![m]⟩ : Shape).ShapeCasts ⟨2, ![m, 1]⟩) (r : Fin m) :
    shapeCast ⟨2, ![m, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A vector laid as a row. -/
theorem row_cast (v : (⟨1, ![n]⟩ : Shape).Idx → α) (h : (⟨1, ![n]⟩ : Shape).ShapeCasts ⟨2, ![1, n]⟩) (k : Fin n) :
    shapeCast ⟨2, ![1, n]⟩ v h (ix2 (0 : Fin 1) k) = v (ix1 k) :=
  shapeCast_apply v h (ix2 (0 : Fin 1) k) (ix1 k) (by
    rw [Shape.rowMajor_val_two, Shape.rowMajor_val_one]; show k.val = 0 * n + k.val; omega)

/-- The host's vector stood up as a column. -/
theorem col_in (v : (⟨1, ![m]⟩ : Shape).Idx → α) (h : (⟨1, ![m]⟩ : Shape).BroadcastsInDim ⟨2, ![m, 1]⟩ ![0]) (r : Fin m) :
    broadcastInDim ⟨2, ![m, 1]⟩ ![0] h v (ix2 r (0 : Fin 1)) = v (ix1 r) :=
  broadcastInDim_apply ![0] h v (ix2 r (0 : Fin 1)) (ix1 r) fun a => by
    match a with
    | ⟨0, _⟩ =>
      show r.val = if m = 1 then 0 else r.val
      have := r.isLt
      split <;> omega

/-- The host's column repeated along the lanes. -/
theorem col_in_to (v : (⟨2, ![m, 1]⟩ : Shape).Idx → α) (h : (⟨2, ![m, 1]⟩ : Shape).BroadcastsInDim ⟨2, ![m, n]⟩ ![0, 1]) (r : Fin m)
    (k : Fin n) : broadcastInDim ⟨2, ![m, n]⟩ ![0, 1] h v (ix2 r k) = v (ix2 r (0 : Fin 1)) :=
  broadcastInDim_apply ![0, 1] h v (ix2 r k) (ix2 r (0 : Fin 1)) fun a => by
    match a with
    | ⟨0, _⟩ =>
      show r.val = if m = 1 then 0 else r.val
      have := r.isLt
      split <;> omega
    | ⟨1, _⟩ => rfl

/-- The host's vector laid along every row. -/
theorem row_in_to (v : (⟨1, ![n]⟩ : Shape).Idx → α) (h1 : (⟨1, ![n]⟩ : Shape).BroadcastsInDim ⟨2, ![1, n]⟩ ![1])
    (h : (⟨2, ![1, n]⟩ : Shape).BroadcastsInDim ⟨2, ![m, n]⟩ ![0, 1]) (r : Fin m) (k : Fin n) :
    broadcastInDim ⟨2, ![m, n]⟩ ![0, 1] h (broadcastInDim ⟨2, ![1, n]⟩ ![1] h1 v) (ix2 r k) = v (ix1 k) := by
  have hk := k.isLt
  refine (broadcastInDim_apply ![0, 1] h _ (ix2 r k) (ix2 (0 : Fin 1) k) fun a => ?_).trans
    (broadcastInDim_apply ![1] h1 v (ix2 (0 : Fin 1) k) (ix1 k) fun a => ?_)
  · match a with
    | ⟨0, _⟩ => rfl
    | ⟨1, _⟩ =>
      show k.val = if n = 1 then 0 else k.val
      split <;> omega
  · match a with
    | ⟨0, _⟩ =>
      show k.val = if n = 1 then 0 else k.val
      split <;> omega

/-- The kernel's operations at an index. -/
theorem kernel_norm (b e : BitVec 32) (x : FVec Ideal ⟨2, ![m, n]⟩ .f32) (g : FVec Ideal ⟨2, ![1, n]⟩ .f32)
    (h : (⟨2, ![m, n]⟩ : Shape).Reduces [1] ⟨1, ![m]⟩) (hφ : FKind.Formats .f32)
    (ha : (0x00000000#32 : BitVec 32) = FKind.add.neutral .f32 hφ) (hc : (⟨1, ![m]⟩ : Shape).ShapeCasts ⟨2, ![m, 1]⟩)
    (hb : (⟨2, ![m, 1]⟩ : Shape).Broadcasts ⟨2, ![m, n]⟩) (hg : (⟨2, ![1, n]⟩ : Shape).Broadcasts ⟨2, ![m, n]⟩) (r : Fin m) (k : Fin n) :
    (show EReal from mulf (mulf x (broadcastTo ⟨2, ![m, n]⟩ (rsqrt (addf (divf (shapeCast ⟨2, ![m, 1]⟩
        (multiReduction .add [1] ⟨1, ![m]⟩ (mulf x x) 0x00000000#32 h hφ ha) hc) (broadcast ⟨2, ![m, 1]⟩ (Scalar.ofBits (F := Ideal) .f32 b)))
        (broadcast ⟨2, ![m, 1]⟩ (Scalar.ofBits (F := Ideal) .f32 e)))) hb)) (broadcastTo ⟨2, ![m, n]⟩ g hg) (ix2 r k))
      = nrm b e (fun l => x (ix2 r l)) (fun l => g (ix2 (0 : Fin 1) l)) k := by
  unfold nrm
  refine congrArg₂ (fun u v : EReal => u * v) (congrArg (fun u : EReal => (show EReal from x (ix2 r k)) * u) ((col_to _ hb r k).trans ?_)) (row_to g hg r k)
  refine congrArg (fun u : EReal => Ideal.rsqrt (Ideal.div u (Ideal.ofBits .f32 b) + Ideal.ofBits .f32 e)) ?_
  exact (col_cast _ hc r).trans (kernel_sum (mulf x x) h hφ ha r)

/-- The host's operations at an index. -/
theorem host_norm (b e : BitVec 32) (x : FVec Ideal ⟨2, ![m, n]⟩ .f32) (g : FVec Ideal ⟨1, ![n]⟩ .f32) {u : Shape} (z : FVec Ideal u .f32)
    (h : (⟨2, ![m, n]⟩ : Shape).ReducesTo [1] ⟨1, ![m]⟩) (hd : (⟨2, ![m, n]⟩ : Shape).Reduces [1] ⟨1, ![m]⟩) (hu : 0 < u.numel) (hz : (show EReal from z (Shape.Idx.first hu)) = 0)
    (hc : (⟨1, ![m]⟩ : Shape).BroadcastsInDim ⟨2, ![m, 1]⟩ ![0]) (h0 : (⟨0, ![]⟩ : Shape).BroadcastsInDim ⟨2, ![m, 1]⟩ ![])
    (hb : (⟨2, ![m, 1]⟩ : Shape).BroadcastsInDim ⟨2, ![m, n]⟩ ![0, 1]) (h1 : (⟨1, ![n]⟩ : Shape).BroadcastsInDim ⟨2, ![1, n]⟩ ![1])
    (hg : (⟨2, ![1, n]⟩ : Shape).BroadcastsInDim ⟨2, ![m, n]⟩ ![0, 1]) (r : Fin m) (k : Fin n) :
    (show EReal from mulf (mulf x (broadcastInDim ⟨2, ![m, n]⟩ ![0, 1] hb (Host.rsqrt (addf (Host.divf (broadcastInDim ⟨2, ![m, 1]⟩ ![0] hc
        (Host.reduceAdd (mulf x x) z h hu)) (broadcastInDim ⟨2, ![m, 1]⟩ ![] h0 (constant (F := Ideal) ⟨0, ![]⟩ .f32 b)))
        (broadcastInDim ⟨2, ![m, 1]⟩ ![] h0 (constant (F := Ideal) ⟨0, ![]⟩ .f32 e))))))
        (broadcastInDim ⟨2, ![m, n]⟩ ![0, 1] hg (broadcastInDim ⟨2, ![1, n]⟩ ![1] h1 g)) (ix2 r k))
      = nrm b e (fun l => x (ix2 r l)) (fun l => g (ix1 l)) k := by
  have hs : nrm b e (fun l => x (ix2 r l)) (fun l => g (ix1 l)) k
      = (show EReal from x (ix2 r k)) * Ideal.rsqrt (Ideal.div (show EReal from Host.reduceAdd (mulf x x) z h hu (ix1 r)) (Ideal.ofBits .f32 b)
        + Ideal.ofBits .f32 e) * (show EReal from g (ix1 k)) := by
    rw [host_sum (mulf x x) z h hd hu hz r]
    rfl
  rw [hs]
  generalize Host.reduceAdd (mulf x x) z h hu = q
  refine congrArg₂ (fun u v : EReal => u * v) (congrArg (fun u : EReal => (show EReal from x (ix2 r k)) * u) ((col_in_to _ hb r k).trans ?_))
    (row_in_to g h1 hg r k)
  exact congrArg (fun u : EReal => Ideal.rsqrt (Ideal.div u (Ideal.ofBits .f32 b) + Ideal.ofBits .f32 e)) (col_in q hc r)

end Cert.Proof.NormRow

end
-- ==== Proof.KvProj.lean ====
/- The latent attention's keys and values: each grid point normalises its rows of the latent columns and multiplies them by a
   column block of the weights, which is that block of the whole normalised array times the weights. -/
module

public import proofs.«01_k».proof.Defs
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.NormRow
public import Idealize.ShloMosaic.Lib.MatmulPlain
public import Idealize.ShloMosaic.Lib.StackMember

@[expose] public section

noncomputable section

namespace Cert.Proof.KvProj

open Cert.Kernel6Ideal Cert.Kernel6Ideal.Gen Cert.Kernel6Ideal.Value Idealize.ShloMosaic Idealize.ShloMosaic.TcCoe
  Idealize.ShloMosaic.ValueIdx Idealize.SL.Sem
open Cert.Proof.NormRow
open scoped BigOperators

local instance : Cert.Kernel6.Facts := Cert.Kernel6.Gen.facts
local instance : Cert.Reference6Ideal.Facts := Cert.Reference6Ideal.Gen.facts

/-- Column `k` of the 512 latent columns. -/
def lat (k : Fin 512) : Fin 12800 := ⟨1024 + k.val, by omega⟩

/-- The result at row `r`, column `c`: the normalised latent row of `z` times the column of `w`. -/
def G (z : Vec Ideal S8192x12800 .bf16) (g : Vec Ideal S512 .f32) (w : Vec Ideal S512x4096 .f32) : Vec Ideal S8192x4096 .bf16 :=
  fun i => ∑ k : Fin 512, nrm 0x44000000#32 0x358637BD#32 (fun l : Fin 512 => (show EReal from z (ix2 (i 0) (lat l)))) (fun l => (show EReal from g (ix1 l))) k
    * (show EReal from w (ix2 k (i 1)))

theorem hz : (![0, 0] : Fin 2 → Nat) = fun _ => 0 := funext fun a => by fin_cases a <;> rfl

/-- What the body leaves in the result's block is its one store's payload at the whole blocks. -/
theorem out_eq {F : FTy → Type} [FloatOps F] (x0 : Vec F S1024x512 .bf16) (x1 : Vec F S512x512 .bf16)
    (x2 : Vec F S1x512 .f32) : out0_3 x0 x1 x2 = k0_pay1 x0 x2 x1 := by
  unfold out0_3 r0_0 r0_1 r0_2
  rw [View.canon_unit_zero hz, View.ld_unit_zero hz, View.ld_unit_zero hz, View.ld_unit_zero hz]

/-- The payload at an index: the product of a normalised row and a column of the blocks. -/
theorem pay_apply (x0 : Vec Ideal S1024x512 .bf16) (x2 : Vec Ideal S1x512 .f32) (x1 : Vec Ideal S512x512 .bf16)
    (j : S1024x512.Idx) :
    k0_pay1 x0 x2 x1 j = ∑ k : Fin 512, nrm 0x44000000#32 0x358637BD#32 (fun l : Fin 512 => (show EReal from x0 (ix2 (j 0) l))) (fun l => (show EReal from x2 (ix2 (0 : Fin 1) l))) k
      * (show EReal from x1 (ix2 k (j 1))) := by
  unfold k0_pay1
  simp only [shapeCast_self]
  refine (congrArg (FloatOps.matmul (F := Ideal) (φ₁ := .bf16) (φ₂ := .bf16) (DotDims.plain 1024 512 512) none _ x1 (constant (F := Ideal) S1024x512 .f32 0x00000000#32)) (eq_ix2 j)).trans ?_
  refine (Ideal.matmul_plain_apply none _ x1 _ (j 0) (j 1)).trans ?_
  refine (congrArg (· + _) (show (constant (F := Ideal) S1024x512 .f32 0x00000000#32) (ix2 (j 0) (j 1)) = (0 : EReal) from Ideal.ofBits_zero_f32)).trans ((zero_add _).trans ?_)
  refine Finset.sum_congr rfl fun k _ => congrArg (fun u : EReal => u * (show EReal from x1 (ix2 k (j 1)))) ?_
  exact kernel_norm 0x44000000#32 0x358637BD#32 (extf .f32 x0 _) x2 _ _ _ _ _ _ (j 0) k

/-- The block index of each window at point `t`, the grid's 64 points in row order. -/
theorem idx0 : ∀ t : Fin cfg0.N, win0_0.index t (0 : Fin 2) = t.val / 8 ∧ win0_0.index t (1 : Fin 2) = 2 :=
  (by decide +kernel : ∀ t : Fin grid0.N, _)
theorem idx1 : ∀ t : Fin cfg0.N, win0_1.index t (0 : Fin 2) = 0 ∧ win0_1.index t (1 : Fin 2) = t.val % 8 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val / 8 ∧ win0_3.index t (1 : Fin 2) = t.val % 8 :=
  (by decide +kernel : ∀ t : Fin grid0.N, _)

theorem N_eq : cfg0.N = 64 := by decide

/-- The array row and column of place `j` of the result's block at point `t`. -/
def row (t : Fin cfg0.N) (j : S1024x512.Idx) : Fin 8192 :=
  ⟨t.val / 8 * 1024 + (j 0).val, by
    have h : t.val < 64 := N_eq ▸ t.isLt
    have h0 : (j 0).val < 1024 := (j 0).isLt
    omega⟩
def col (t : Fin cfg0.N) (j : S1024x512.Idx) : Fin 4096 :=
  ⟨t.val % 8 * 512 + (j 1).val, by
    have h : (j 1).val < 512 := (j 1).isLt; omega⟩

theorem emb0 (t : Fin cfg0.N) (j : S1024x512.Idx) (k : Fin 512) :
    ((cfg0.win 0).blk t).view.emb (ix2 (j 0) k) = (ix2 (row t j) (lat k) : S8192x12800.Idx) := by
  obtain ⟨e0, e1⟩ := idx0 t
  funext a; apply Fin.ext
  match a with
  | ⟨0, _⟩ => show win0_0.index t (0 : Fin 2) * 1024 + 1 * (j 0).val = t.val / 8 * 1024 + (j 0).val; omega
  | ⟨1, _⟩ => show win0_0.index t (1 : Fin 2) * 512 + 1 * k.val = 1024 + k.val; omega

theorem emb1 (t : Fin cfg0.N) (j : S1024x512.Idx) (k : Fin 512) :
    ((cfg0.win 1).blk t).view.emb (ix2 k (j 1)) = (ix2 k (col t j) : S512x4096.Idx) := by
  obtain ⟨e0, e1⟩ := idx1 t
  funext a; apply Fin.ext
  match a with
  | ⟨0, _⟩ => show win0_1.index t (0 : Fin 2) * 512 + 1 * k.val = k.val; omega
  | ⟨1, _⟩ => show win0_1.index t (1 : Fin 2) * 512 + 1 * (j 1).val = t.val % 8 * 512 + (j 1).val; omega

theorem emb2 (t : Fin cfg0.N) (k : Fin 512) :
    ((cfg0.win 2).blk t).view.emb (ix2 (0 : Fin 1) k) = (ix2 (0 : Fin 1) k : S1x512.Idx) := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 512 + 1 * k.val = k.val; omega

theorem emb3 (t : Fin cfg0.N) (j : S1024x512.Idx) :
    ((cfg0.win 3).blk t).view.emb j = (ix2 (row t j) (col t j) : S8192x4096.Idx) := by
  obtain ⟨e0, e1⟩ := idx3 t
  funext a; apply Fin.ext
  match a with
  | ⟨0, _⟩ => show win0_3.index t (0 : Fin 2) * 1024 + 1 * (j 0).val = t.val / 8 * 1024 + (j 0).val; omega
  | ⟨1, _⟩ => show win0_3.index t (1 : Fin 2) * 512 + 1 * (j 1).val = t.val % 8 * 512 + (j 1).val; omega

variable (m : (ℓ : Loc nD τ sig) → Buf (Elt Ideal) ℓ) (ρ : Dev nD → PrngReg)

/-- The launch finds the weights as the argument holds them: rounding to a narrower format changes no ideal value. -/
theorem V_main_v0 (c : Dev nD) : V m c main_v0 = (m ((c : Thread nD τ).loc main_arg2) : Vec Ideal S512x4096 .f32) := by
  show StableHlo.after _ _ _ = _
  after_results
  rfl

/-- It finds the norm's weights as one row. -/
theorem V_main_v1 (c : Dev nD) (k : Fin 512) : (V m c main_v1 : Vec Ideal S1x512 .f32) (ix2 (0 : Fin 1) k)
    = (m ((c : Thread nD τ).loc main_arg1) : Vec Ideal S512 .f32) (ix1 k) := by
  have e : V m c main_v1 = shapeCast S1x512 (m ((c : Thread nD τ).loc main_arg1)) Facts₀.shapeCasts_S512_S1x512 := by
    show StableHlo.after _ _ _ = _
    after_results
    rfl
  rw [e]
  exact row_cast _ _ k

/-- What point `t` writes back is its block of `G` of the arguments. -/
theorem flushed_eq (c : Dev nD) (t : Fin cfg0.N) :
    (dats m 0 c).flushed 3 t = ((cfg0.win 3).blk t).view.read (Elt Ideal)
      (G (V m c main_arg0) (m ((c : Thread nD τ).loc main_arg1)) (V m c main_v0)) := by
  rw [flushed3, out_eq]
  funext j
  show k0_pay1 (iblk m c 0 t) (iblk m c 2 t) (iblk m c 1 t) j = G _ _ _ (((cfg0.win 3).blk t).view.emb j)
  rw [pay_apply, emb3]
  unfold G
  refine Finset.sum_congr rfl fun k _ => congrArg₂ (· * ·) ?_ ?_
  · refine congrArg₂ (fun x g : Fin 512 → EReal => nrm 0x44000000#32 0x358637BD#32 x g k) (funext fun l => ?_) (funext fun l => ?_)
    · exact congrArg (V m c main_arg0) (emb0 t j l)
    · exact (congrArg (V m c main_v1) (emb2 t l)).trans (V_main_v1 m c l)
  · exact congrArg (V m c main_v0) (emb1 t j k)

/-- Every place of the result is in some point's block. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  let t : Fin cfg0.N := ⟨(i 0).val / 1024 * 8 + (i 1).val / 512, by rw [N_eq]; omega⟩
  let j : S1024x512.Idx := ix2 (⟨(i 0).val % 1024, by omega⟩ : Fin 1024) (⟨(i 1).val % 512, by omega⟩ : Fin 512)
  refine ⟨t, flush0_3 t, ?_⟩
  have h := ((cfg0.win 3).blk t).view.emb_mem_set j
  have e : ((cfg0.win 3).blk t).view.emb j = i := by
    rw [emb3]
    funext a; apply Fin.ext
    match a with
    | ⟨0, _⟩ => show ((i 0).val / 1024 * 8 + (i 1).val / 512) / 8 * 1024 + (i 0).val % 1024 = (i 0).val; omega
    | ⟨1, _⟩ => show ((i 0).val / 1024 * 8 + (i 1).val / 512) % 8 * 512 + (i 1).val % 512 = (i 1).val; omega
  rwa [e] at h

/-- The result array after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) :=
  ((dats m 0 c).arrAt_eq_of_cover 3 _ (fun t _ => flushed_eq m c t) covered).trans
    (by rw [V_main_arg0, V_main_v0])

/-- The reference's result is `G` of its arguments. -/
theorem ref_eq (z : FVec Ideal S8192x12800 .bf16) (g : FVec Ideal S512 .f32) (w : FVec Ideal S512x4096 .f32) :
    truncf .bf16 (Host.dotGeneral Cert.Reference6Ideal.dot_S8192x512_S512x4096_S8192x4096_1_0_0_1_n_n none (mulf (mulf (extf .f32 (extractStridedSlice Cert.Reference6Ideal.S8192x512 ![0, 1024] z Cert.Reference6Ideal.Facts₀.slices_S8192x12800_S8192x512_0_1024) Cert.Reference6Ideal.Facts₀.bitsLt_bf16_f32) (broadcastInDim Cert.Reference6Ideal.S8192x512 ![0, 1] Cert.Reference6Ideal.Facts₀.bcast_S8192x1_S8192x512_0_1 (Host.rsqrt (addf (Host.divf (broadcastInDim Cert.Reference6Ideal.S8192x1 ![0] Cert.Reference6Ideal.Facts₀.bcast_S8192_S8192x1_0 (Host.reduceAdd (mulf (extf .f32 (extractStridedSlice Cert.Reference6Ideal.S8192x512 ![0, 1024] z Cert.Reference6Ideal.Facts₀.slices_S8192x12800_S8192x512_0_1024) Cert.Reference6Ideal.Facts₀.bitsLt_bf16_f32) (extf .f32 (extractStridedSlice Cert.Reference6Ideal.S8192x512 ![0, 1024] z Cert.Reference6Ideal.Facts₀.slices_S8192x12800_S8192x512_0_1024) Cert.Reference6Ideal.Facts₀.bitsLt_bf16_f32)) (constant Cert.Reference6Ideal.S_ .f32 0x00000000#32) Cert.Reference6Ideal.Facts₀.reducesTo_S8192x512_S8192_d1 Cert.Reference6Ideal.Facts₀.h_S_)) (broadcastInDim Cert.Reference6Ideal.S8192x1 ![] Cert.Reference6Ideal.Facts₀.bcast_S_S8192x1 (constant Cert.Reference6Ideal.S_ .f32 0x44000000#32))) (broadcastInDim Cert.Reference6Ideal.S8192x1 ![] Cert.Reference6Ideal.Facts₀.bcast_S_S8192x1 (constant Cert.Reference6Ideal.S_ .f32 0x358637BD#32)))))) (broadcastInDim Cert.Reference6Ideal.S8192x512 ![0, 1] Cert.Reference6Ideal.Facts₀.bcast_S1x512_S8192x512_0_1 (broadcastInDim S1x512 ![1] Cert.Reference6Ideal.Facts₀.bcast_S512_S1x512_1 g))) w) Cert.Reference6Ideal.Facts₀.bitsLt_bf16_f32 = G z g w := by
  funext i
  refine (congrArg (Host.dotGeneral (F := Ideal) (DotDims.plain 8192 512 4096) none _ w) (eq_ix2 i)).trans
    ((Idealize.ShloMosaic.StackMember.dotGeneral_plain_apply none _ w (i 0) (i 1)).trans ?_)
  unfold G
  refine Finset.sum_congr rfl fun k _ => congrArg (fun u : EReal => u * (show EReal from w (ix2 k (i 1)))) ?_
  refine (host_norm 0x44000000#32 0x358637BD#32 (extf .f32 (extractStridedSlice Cert.Reference6Ideal.S8192x512 ![0, 1024] z Cert.Reference6Ideal.Facts₀.slices_S8192x12800_S8192x512_0_1024) _) g (constant (F := Ideal) Cert.Reference6Ideal.S_ .f32 0x00000000#32) _ (by decide) _ Ideal.ofBits_zero_f32 _ _ _ _ _ (i 0) k).trans ?_
  refine congrArg (fun x : Fin 512 → EReal => nrm 0x44000000#32 0x358637BD#32 x _ k) (funext fun l => ?_)
  exact extractStridedSlice_apply ![0, 1024] z Cert.Reference6Ideal.Facts₀.slices_S8192x12800_S8192x512_0_1024 (ix2 (i 0) l) (ix2 (i 0) (lat l)) fun a => by
    match a with
    | ⟨0, _⟩ => exact (Nat.zero_add _).symm
    | ⟨1, _⟩ => rfl

/-- The kernel's labels run the same bodies whichever printing of it is read. -/
theorem defs_eq {F : FTy → Type} [FloatOps F] : Cert.Kernel6.defs (F := F) = Cert.Kernel6Ideal.defs (F := F) :=
  congrArg (Pipeline.defs (Cert.Kernel6Ideal.pcfgs (F := F))) (show Cert.Kernel6.defs₀ (F := F) = Cert.Kernel6Ideal.defs₀ from
    congrArg Defs.onTc (funext fun l => funext fun x => match l, x with
      | 0, (t, s) => rfl
      | ⟨_ + 1, h⟩, _ => absurd h (Nat.not_lt.2 (Nat.le_add_left _ _))))

theorem frame_KernelIdeal : Cert.quiescent_Kernel6Ideal := fun m g _ => Cert.Kernel6Ideal.Gen.frame (F := Ideal) m g

theorem frame_Kernel : Cert.quiescent_Kernel6 := fun m g _ => by
  rw [defs_eq]
  exact (θ_run Cert.Kernel6Ideal.defs _ _).mono (fun _ h => h) (Cert.Kernel6Ideal.Gen.frame (F := Bits) m g)

theorem frame_ReferenceIdeal : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem value_ideal : Cert.algebraic_Kernel6Ideal_Reference6Ideal := fun m g m' g' _ hag =>
  ⟨fun c => G (m ((c : Thread nD τ).loc main_arg0)) (m ((c : Thread nD τ).loc main_arg1)) (m ((c : Thread nD τ).loc main_arg2)),
    (θ_run Cert.Kernel6Ideal.defs _ _).mono (fun _ h c => ⟨(h c).1.trans (final m c), (h c).2⟩) (run_blocks (F := Ideal) m g),
    (θ_run Cert.Reference6Ideal.defs _ _).mono (fun _ h c => ⟨(h c).1.trans (by
        rw [(hag c).1, (hag c).2.1, (hag c).2.2]
        exact ref_eq _ _ _), (h c).2⟩) (Cert.Reference6Ideal.Value.run (F := Ideal) m' g')⟩

end Cert.Proof.KvProj

end
-- ==== Proof.MemKv.lean ====
/- The memory's keys and values: each grid point's block of the result is the memory rows times a column block of the weights,
   which is that block of the whole product. -/
module

public import proofs.«01_k».proof.Defs
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import Idealize.ShloMosaic.Lib.MatmulPlain
public import Idealize.ShloMosaic.Lib.StackMember

@[expose] public section

noncomputable section

namespace Cert.Proof.MemKv

open Cert.Kernel7Ideal Cert.Kernel7Ideal.Gen Cert.Kernel7Ideal.Value Idealize.ShloMosaic Idealize.ShloMosaic.TcCoe
  Idealize.ShloMosaic.ValueIdx Idealize.SL.Sem
open scoped BigOperators

local instance : Cert.Kernel7.Facts := Cert.Kernel7.Gen.facts
local instance : Cert.Reference7Ideal.Facts := Cert.Reference7Ideal.Gen.facts

/-- The result at row `r`, column `c`: the row of `a` times the column of `w`. -/
def G (a : Vec Ideal S1024x4096 .bf16) (w : Vec Ideal S4096x1024 .f32) : Vec Ideal S1024x1024 .bf16 :=
  fun i => ∑ k : Fin 4096, (show EReal from a (ix2 (i 0) k)) * (show EReal from w (ix2 k (i 1)))

theorem hz : (![0, 0] : Fin 2 → Nat) = fun _ => 0 := funext fun a => by fin_cases a <;> rfl

/-- What the body leaves in the result's block is its one store's payload at the whole blocks. -/
theorem out_eq {F : FTy → Type} [FloatOps F] (x0 : Vec F S1024x4096 .bf16) (x1 : Vec F S4096x512 .bf16) :
    out0_2 x0 x1 = k0_pay1 x0 x1 := by
  unfold out0_2 r0_0 r0_1 r0_2
  rw [View.canon_unit_zero hz, View.ld_unit_zero hz, View.ld_unit_zero hz]

/-- The payload at an index: the product of a row and a column of the blocks. -/
theorem pay_apply (x0 : Vec Ideal S1024x4096 .bf16) (x1 : Vec Ideal S4096x512 .bf16) (j : S1024x512.Idx) :
    k0_pay1 x0 x1 j = ∑ k : Fin 4096, (show EReal from x0 (ix2 (j 0) k)) * (show EReal from x1 (ix2 k (j 1))) := by
  unfold k0_pay1
  simp only [shapeCast_self]
  refine (congrArg (FloatOps.matmul (F := Ideal) (φ₁ := .bf16) (φ₂ := .bf16) (DotDims.plain 1024 4096 512) none x0 x1 (constant (F := Ideal) S1024x512 .f32 0x00000000#32)) (eq_ix2 j)).trans ?_
  refine (Ideal.matmul_plain_apply none x0 x1 _ (j 0) (j 1)).trans ?_
  refine (congrArg (· + _) (show (constant (F := Ideal) S1024x512 .f32 0x00000000#32) (ix2 (j 0) (j 1)) = (0 : EReal) from Ideal.ofBits_zero_f32)).trans (zero_add _)

/-- The block index of each window at point `t`, the grid's 2 points. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)

theorem N_eq : cfg0.N = 2 := by decide

/-- The array column of place `j` of the result's block at point `t`. -/
def col (t : Fin cfg0.N) (j : S1024x512.Idx) : Fin 1024 :=
  ⟨t.val * 512 + (j 1).val, by
    have h : t.val < 2 := N_eq ▸ t.isLt
    have h1 : (j 1).val < 512 := (j 1).isLt
    omega⟩

theorem emb0 (t : Fin cfg0.N) (j : S1024x512.Idx) (k : Fin 4096) :
    ((cfg0.win 0).blk t).view.emb (ix2 (j 0) k) = (ix2 (j 0) k : S1024x4096.Idx) := by
  obtain ⟨e0, e1⟩ := idx0 t
  funext a; apply Fin.ext
  match a with
  | ⟨0, _⟩ => show win0_0.index t (0 : Fin 2) * 1024 + 1 * (j 0).val = (j 0).val; omega
  | ⟨1, _⟩ => show win0_0.index t (1 : Fin 2) * 4096 + 1 * k.val = k.val; omega

theorem emb1 (t : Fin cfg0.N) (j : S1024x512.Idx) (k : Fin 4096) :
    ((cfg0.win 1).blk t).view.emb (ix2 k (j 1)) = (ix2 k (col t j) : S4096x1024.Idx) := by
  obtain ⟨e0, e1⟩ := idx1 t
  funext a; apply Fin.ext
  match a with
  | ⟨0, _⟩ => show win0_1.index t (0 : Fin 2) * 4096 + 1 * k.val = k.val; omega
  | ⟨1, _⟩ => show win0_1.index t (1 : Fin 2) * 512 + 1 * (j 1).val = t.val * 512 + (j 1).val; omega

theorem emb2 (t : Fin cfg0.N) (j : S1024x512.Idx) :
    ((cfg0.win 2).blk t).view.emb j = (ix2 (j 0) (col t j) : S1024x1024.Idx) := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 512 + 1 * (j 1).val = t.val * 512 + (j 1).val; omega

variable (m : (ℓ : Loc nD τ sig) → Buf (Elt Ideal) ℓ) (ρ : Dev nD → PrngReg)

/-- The launch finds the weights as the argument holds them: rounding to a narrower format changes no ideal value. -/
theorem V_main_v0 (c : Dev nD) : V m c main_v0 = (m ((c : Thread nD τ).loc main_arg1) : Vec Ideal S4096x1024 .f32) := by
  show StableHlo.after _ _ _ = _
  after_results
  rfl

/-- What point `t` writes back is its block of `G` of the arguments. -/
theorem flushed_eq (c : Dev nD) (t : Fin cfg0.N) :
    (dats m 0 c).flushed 2 t = ((cfg0.win 2).blk t).view.read (Elt Ideal) (G (V m c main_arg0) (V m c main_v0)) := by
  rw [flushed2, out_eq]
  funext j
  show k0_pay1 (iblk m c 0 t) (iblk m c 1 t) j = G _ _ (((cfg0.win 2).blk t).view.emb j)
  rw [pay_apply, emb2]
  unfold G
  refine Finset.sum_congr rfl fun k _ => congrArg₂ (· * ·) ?_ ?_
  · exact congrArg (V m c main_arg0) (emb0 t j k)
  · exact congrArg (V m c main_v0) (emb1 t j k)

/-- Every place of the result is in some point's block. -/
theorem covered (i : S1024x1024.Idx) :
    ∃ t : Fin cfg0.N, (cfg0.win 2).flush t = true ∧ i ∈ ((cfg0.win 2).blk t).view.set := by
  have h1 : (i 1).val < 1024 := (i 1).isLt
  let t : Fin cfg0.N := ⟨(i 1).val / 512, by rw [N_eq]; omega⟩
  let j : S1024x512.Idx := ix2 (i 0 : Fin 1024) (⟨(i 1).val % 512, by omega⟩ : Fin 512)
  refine ⟨t, flush0_2 t, ?_⟩
  have h := ((cfg0.win 2).blk t).view.emb_mem_set j
  have e : ((cfg0.win 2).blk t).view.emb j = i := by
    rw [emb2]
    funext a; apply Fin.ext
    match a with
    | ⟨0, _⟩ => rfl
    | ⟨1, _⟩ => show (i 1).val / 512 * 512 + (i 1).val % 512 = (i 1).val; omega
  rwa [e] at h

/-- The result array after the run is `G` of the arguments. -/
theorem final (c : Dev nD) : (dats m 0 c).arrAt 2 cfg0.N
    = G (m ((c : Thread nD τ).loc main_arg0)) (m ((c : Thread nD τ).loc main_arg1)) :=
  ((dats m 0 c).arrAt_eq_of_cover 2 _ (fun t _ => flushed_eq m c t) covered).trans
    (by rw [V_main_arg0, V_main_v0])

/-- The reference's result is `G` of its arguments. -/
theorem ref_eq (a : FVec Ideal S1024x4096 .bf16) (w : FVec Ideal S4096x1024 .f32) :
    truncf .bf16 (Host.dotGeneral Cert.Reference7Ideal.dot_S1024x4096_S4096x1024_S1024x1024_1_0_0_1_n_n none
      (extf .f32 a Cert.Reference7Ideal.Facts₀.bitsLt_bf16_f32) w) Cert.Reference7Ideal.Facts₀.bitsLt_bf16_f32 = G a w := by
  funext i
  exact (congrArg (Host.dotGeneral (DotDims.plain 1024 4096 1024) none (extf .f32 a Cert.Reference7Ideal.Facts₀.bitsLt_bf16_f32) w) (eq_ix2 i)).trans
    (Idealize.ShloMosaic.StackMember.dotGeneral_plain_apply none _ w (i 0) (i 1))

/-- The kernel's labels run the same bodies whichever printing of it is read. -/
theorem defs_eq {F : FTy → Type} [FloatOps F] : Cert.Kernel7.defs (F := F) = Cert.Kernel7Ideal.defs (F := F) :=
  congrArg (Pipeline.defs (Cert.Kernel7Ideal.pcfgs (F := F))) (show Cert.Kernel7.defs₀ (F := F) = Cert.Kernel7Ideal.defs₀ from
    congrArg Defs.onTc (funext fun l => funext fun x => match l, x with
      | 0, (t, s) => rfl
      | ⟨_ + 1, h⟩, _ => absurd h (Nat.not_lt.2 (Nat.le_add_left _ _))))

theorem frame_KernelIdeal : Cert.quiescent_Kernel7Ideal := fun m g _ => Cert.Kernel7Ideal.Gen.frame (F := Ideal) m g

theorem frame_Kernel : Cert.quiescent_Kernel7 := fun m g _ => by
  rw [defs_eq]
  exact (θ_run Cert.Kernel7Ideal.defs _ _).mono (fun _ h => h) (Cert.Kernel7Ideal.Gen.frame (F := Bits) m g)

theorem frame_ReferenceIdeal : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem value_ideal : Cert.algebraic_Kernel7Ideal_Reference7Ideal := fun m g m' g' _ hag =>
  ⟨fun c => G (m ((c : Thread nD τ).loc main_arg0)) (m ((c : Thread nD τ).loc main_arg1)),
    (θ_run Cert.Kernel7Ideal.defs _ _).mono (fun _ h c => ⟨(h c).1.trans (final m c), (h c).2⟩) (run_blocks (F := Ideal) m g),
    (θ_run Cert.Reference7Ideal.defs _ _).mono (fun _ h c => ⟨(h c).1.trans (by
        rw [(hag c).1, (hag c).2]
        exact ref_eq _ _), (h c).2⟩) (Cert.Reference7Ideal.Value.run (F := Ideal) m' g')⟩

end Cert.Proof.MemKv

end
-- ==== Proof.QProjRef.lean ====
/- The latent queries' reference, at an index: the normalised latent columns times the weights, each head's last 64 lanes the
   rotary combination of their two halves, scaled, and each head padded with zeros to 256 lanes. -/
module

public import proofs.«01_k».proof.Defs
public import proofs.«01_k».proof.Proof.Gen.Reference8Ideal
public import proofs.«01_k».proof.Proof.Gen.Reference8Ideal.Run
public import proofs.«01_k».proof.Proof.NormRow
public import Idealize.ShloMosaic.Lib.StackMember
public import Idealize.ShloMosaic.Lib.IdealHost
public import Idealize.ShloMosaic.Lib.KernelVsHost
public import Idealize.ShloMosaic.Lib.Pipeline.Value

@[expose] public section

noncomputable section

namespace Cert.Proof.QProj

open Cert.Reference8Ideal Cert.Reference8Ideal.Gen Cert.Reference8Ideal.Value Idealize.ShloMosaic Idealize.ShloMosaic.TcCoe
  Idealize.ShloMosaic.ValueIdx Idealize.SL.Sem
open Cert.Proof.NormRow
open scoped BigOperators

/-- Column `k` of the 1024 latent columns. -/
def lat (k : Fin 1024) : Fin 12800 := ⟨k.val, by omega⟩

/-- The normalised latent columns times the weights, place by place. -/
def prodQ (z : FVec Ideal S8192x12800 .bf16) (g : FVec Ideal S1024 .f32) (w : FVec Ideal S1024x3072 .f32) : FVec Ideal S8192x3072 .f32 :=
  fun i => (show EReal from ∑ k : Fin 1024, nrm 0x44800000#32 0x358637BD#32 (fun l : Fin 1024 => (show EReal from z (ix2 (i 0) (lat l))))
    (fun l => (show EReal from g (ix1 l))) k * (show EReal from w (ix2 k (i 1))))

/-- That array at a row and a natural column. -/
def qat (q : FVec Ideal S8192x3072 .f32) (r : Fin 8192) (n : Nat) : EReal :=
  q (ix2 r (⟨n % 3072, Nat.mod_lt _ (by decide)⟩ : Fin 3072))

/-- It at column `n` of the heads padded to 256 lanes: zero in a head's last 64. -/
def padded (q : FVec Ideal S8192x3072 .f32) (r : Fin 8192) (n : Nat) : EReal :=
  if n % 256 < 192 then qat q r (n / 256 * 192 + n % 256) else 0

/-- A rotary table at a row and a natural lane. -/
def tbl (x : FVec Ideal S8192x32 .f32) (r : Fin 8192) (n : Nat) : EReal :=
  x (ix2 r (⟨n % 32, Nat.mod_lt _ (by decide)⟩ : Fin 32))

/-- The scale. -/
def sc : EReal := Scalar.ofBits (F := Ideal) .f32 0x3D93CD3A#32

/-- The result at row `r`, column `n`. -/
def Gn (q : FVec Ideal S8192x3072 .f32) (co si : FVec Ideal S8192x32 .f32) (r : Fin 8192) (n : Nat) : EReal :=
  if n % 256 < 128 then padded q r n * sc
  else (padded q r n * tbl co r n + (if n % 64 < 32 then -(padded q r (n + 32)) else padded q r (n - 32)) * tbl si r n) * sc

def G (q : FVec Ideal S8192x3072 .f32) (co si : FVec Ideal S8192x32 .f32) : FVec Ideal S8192x4096 .bf16 :=
  fun i => Gn q co si (i 0) (i 1).val

/-- The host's product is that array. -/
theorem dot_eq (z : FVec Ideal S8192x12800 .bf16) (g : FVec Ideal S1024 .f32) (w : FVec Ideal S1024x3072 .f32) :
    Host.dotGeneral dot_S8192x1024_S1024x3072_S8192x3072_1_0_0_1_n_n none (mulf (mulf (extf .f32 (extractStridedSlice S8192x1024 ![0, 0] z slices_S8192x12800_S8192x1024_0_0) bitsLt_bf16_f32) (broadcastInDim S8192x1024 ![0, 1] bcast_S8192x1_S8192x1024_0_1 (Host.rsqrt (addf (Host.divf (broadcastInDim S8192x1 ![0] bcast_S8192_S8192x1_0 (Host.reduceAdd (mulf (extf .f32 (extractStridedSlice S8192x1024 ![0, 0] z slices_S8192x12800_S8192x1024_0_0) bitsLt_bf16_f32) (extf .f32 (extractStridedSlice S8192x1024 ![0, 0] z slices_S8192x12800_S8192x1024_0_0) bitsLt_bf16_f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) w = prodQ z g w := by
  funext i
  refine (congrArg (Host.dotGeneral (F := Ideal) (DotDims.plain 8192 1024 3072) none _ w) (eq_ix2 i)).trans
    ((Idealize.ShloMosaic.StackMember.dotGeneral_plain_apply none _ w (i 0) (i 1)).trans ?_)
  unfold prodQ
  refine Finset.sum_congr rfl fun k _ => congrArg (fun u : EReal => u * (show EReal from w (ix2 k (i 1)))) ?_
  refine (host_norm 0x44800000#32 0x358637BD#32 (extf .f32 (extractStridedSlice S8192x1024 ![0, 0] z slices_S8192x12800_S8192x1024_0_0) _) g (constant (F := Ideal) S_ .f32 0x00000000#32) _ (by decide) _ Ideal.ofBits_zero_f32 _ _ _ _ _ (i 0) k).trans ?_
  refine congrArg (fun x : Fin 1024 → EReal => nrm 0x44800000#32 0x358637BD#32 x _ k) (funext fun l => ?_)
  exact extractStridedSlice_apply ![0, 0] z slices_S8192x12800_S8192x1024_0_0 (ix2 (i 0) l) (ix2 (i 0) (lat l)) fun a => by
    match a with
    | ⟨0, _⟩ => exact (Nat.zero_add _).symm
    | ⟨1, _⟩ => exact (Nat.zero_add _).symm

/-- The columns split into heads. -/
def heads (q : FVec Ideal S8192x3072 .f32) : FVec Ideal S8192x16x192 .f32 := shapeCast _ q shapeCasts_S8192x3072_S8192x16x192

/-- A head's last 64 lanes. -/
def tails (q : FVec Ideal S8192x3072 .f32) : FVec Ideal S8192x16x64 .f32 :=
  extractStridedSlice S8192x16x64 ![0, 0, 128] (heads q) slices_S8192x16x192_S8192x16x64_0_0_128

/-- A table repeated over the heads. -/
def tabs (x : FVec Ideal S8192x32 .f32) : FVec Ideal S8192x16x32 .f32 :=
  broadcastInDim S8192x16x32 ![0, 1, 2] bcast_S8192x1x32_S8192x16x32_0_1_2 (broadcastInDim S8192x1x32 ![0, 2] bcast_S8192x32_S8192x1x32_0_2 x)

/-- The two rotated halves of each head's last lanes. -/
def low (q : FVec Ideal S8192x3072 .f32) (co si : FVec Ideal S8192x32 .f32) : FVec Ideal S8192x16x32 .f32 :=
  subf (mulf (extractStridedSlice S8192x16x32 ![0, 0, 0] (tails q) slices_S8192x16x64_S8192x16x32_0_0_0) (tabs co))
    (mulf (extractStridedSlice S8192x16x32 ![0, 0, 32] (tails q) slices_S8192x16x64_S8192x16x32_0_0_32) (tabs si))
def high (q : FVec Ideal S8192x3072 .f32) (co si : FVec Ideal S8192x32 .f32) : FVec Ideal S8192x16x32 .f32 :=
  addf (mulf (extractStridedSlice S8192x16x32 ![0, 0, 32] (tails q) slices_S8192x16x64_S8192x16x32_0_0_32) (tabs co))
    (mulf (extractStridedSlice S8192x16x32 ![0, 0, 0] (tails q) slices_S8192x16x64_S8192x16x32_0_0_0) (tabs si))

/-- The three groups of each head's lanes. -/
def parts (q : FVec Ideal S8192x3072 .f32) (co si : FVec Ideal S8192x32 .f32) : List ((s : Shape) × (s.Idx → Ideal .f32)) :=
  [⟨S8192x16x128, extractStridedSlice S8192x16x128 ![0, 0, 0] (heads q) slices_S8192x16x192_S8192x16x128_0_0_0⟩,
    ⟨S8192x16x32, low q co si⟩, ⟨S8192x16x32, high q co si⟩]

/-- Side by side, scaled. -/
def cat (q : FVec Ideal S8192x3072 .f32) (co si : FVec Ideal S8192x32 .f32) : FVec Ideal S8192x16x192 .f32 :=
  mulf (concatenate S8192x16x192 2 (parts q co si) concatenates_S8192x16x128_S8192x16x32_S8192x16x32_S8192x16x192_d2)
    (broadcastInDim S8192x16x192 ![] bcast_S_S8192x16x192 (constant S_ .f32 0x3D93CD3A#32))

/-- The heads padded and laid side by side. -/
def whole (q : FVec Ideal S8192x3072 .f32) (co si : FVec Ideal S8192x32 .f32) : FVec Ideal S8192x4096 .f32 :=
  shapeCast _ (pad S8192x16x256 ![0, 0, 0] ![0, 0, 64] ![0, 0, 0] (cat q co si) (sitofp .f32 (constantI S_ 32 0#32))
    pads_S8192x16x192_S8192x16x256_000_000_0640 h_S_) shapeCasts_S8192x16x256_S8192x4096

theorem heads_apply (q : FVec Ideal S8192x3072 .f32) (r : Fin 8192) (h : Fin 16) (d : Fin 192) :
    heads q (ix3 r h d) = qat q r (h.val * 192 + d.val) := by
  have hh := h.isLt
  have hd := d.isLt
  refine shapeCast_apply _ _ (ix3 r h d) _ ?_
  refine (Shape.rowMajor_val_two _).trans (Eq.trans ?_ (Shape.rowMajor_val_three _).symm)
  show r.val * 3072 + (h.val * 192 + d.val) % 3072 = (r.val * 16 + h.val) * 192 + d.val
  omega

theorem half_apply (q : FVec Ideal S8192x3072 .f32) (o : Nat) (hs : S8192x16x64.Slices ![0, 0, o] S8192x16x32) (ho : o ≤ 32)
    (r : Fin 8192) (h : Fin 16) (d : Fin 32) :
    extractStridedSlice S8192x16x32 ![0, 0, o] (tails q) hs (ix3 r h d) = qat q r (h.val * 192 + (128 + (o + d.val))) := by
  have hd := d.isLt
  refine (extractStridedSlice_apply _ _ hs (ix3 r h d) (ix3 r h (⟨o + d.val, by omega⟩ : Fin 64)) fun a => ?_).trans
    ((extractStridedSlice_apply _ _ _ (ix3 r h (⟨o + d.val, by omega⟩ : Fin 64)) (ix3 r h (⟨128 + (o + d.val), by omega⟩ : Fin 192)) fun a => ?_).trans (heads_apply q r h _))
  · match a with
    | ⟨0, _⟩ => show r.val = 0 + r.val; omega
    | ⟨1, _⟩ => show h.val = 0 + h.val; omega
    | ⟨2, _⟩ => rfl
  · match a with
    | ⟨0, _⟩ => show r.val = 0 + r.val; omega
    | ⟨1, _⟩ => show h.val = 0 + h.val; omega
    | ⟨2, _⟩ => rfl

theorem tabs_apply (x : FVec Ideal S8192x32 .f32) (r : Fin 8192) (h : Fin 16) (d : Fin 32) (n : Nat) (hn : n % 32 = d.val) :
    tabs x (ix3 r h d) = tbl x r n := by
  unfold tabs
  refine (broadcastInDim_apply _ _ _ (ix3 r h d) (ix3 r (0 : Fin 1) d) fun a => ?_).trans
    (broadcastInDim_apply _ _ x (ix3 r (0 : Fin 1) d) (ix2 r (⟨n % 32, Nat.mod_lt _ (by decide)⟩ : Fin 32)) fun a => ?_)
  · match a with
    | ⟨0, _⟩ => rfl
    | ⟨1, _⟩ => rfl
    | ⟨2, _⟩ => rfl
  · match a with
    | ⟨0, _⟩ => rfl
    | ⟨1, _⟩ => exact hn

/-- The lanes before each group. -/
theorem pre_0 : (((([S8192x16x128, S8192x16x32, S8192x16x32] : List Shape).take 0)).map fun s => if h : s.rank = S8192x16x192.rank then s.size ((2 : Fin S8192x16x192.rank).cast h.symm) else 0).sum = 0 := by decide +kernel
theorem pre_1 : (((([S8192x16x128, S8192x16x32, S8192x16x32] : List Shape).take 1)).map fun s => if h : s.rank = S8192x16x192.rank then s.size ((2 : Fin S8192x16x192.rank).cast h.symm) else 0).sum = 128 := by decide +kernel
theorem pre_2 : (((([S8192x16x128, S8192x16x32, S8192x16x32] : List Shape).take 2)).map fun s => if h : s.rank = S8192x16x192.rank then s.size ((2 : Fin S8192x16x192.rank).cast h.symm) else 0).sum = 160 := by decide +kernel

theorem part_apply (q : FVec Ideal S8192x3072 .f32) (co si : FVec Ideal S8192x32 .f32) (k W pre : Nat) (hk : k < 3)
    (x : (⟨3, ![8192, 16, W]⟩ : Shape).Idx → Ideal .f32) (hx : (parts q co si)[k]'hk = ⟨⟨3, ![8192, 16, W]⟩, x⟩)
    (hpre : (((([S8192x16x128, S8192x16x32, S8192x16x32] : List Shape).take k)).map fun s => if h : s.rank = S8192x16x192.rank then s.size ((2 : Fin S8192x16x192.rank).cast h.symm) else 0).sum = pre)
    (r : Fin 8192) (h : Fin 16) (d : Fin 192) (p : Fin W) (hp : pre + p.val = d.val) :
    cat q co si (ix3 r h d) = (show EReal from x (ix3 r h p)) * sc := by
  refine congrArg (fun u : EReal => u * sc) ?_
  refine concatenate_apply_piece (t := S8192x16x192) 2 (parts q co si) _ (ix3 r h d) k hk ⟨3, ![8192, 16, W]⟩ x hx rfl pre
    ((congrArg (fun l : List Shape => (l.map fun s => if h : s.rank = S8192x16x192.rank then s.size ((2 : Fin S8192x16x192.rank).cast h.symm) else 0).sum)
      (List.map_take : ((parts q co si).take k).map (·.1) = _)).trans hpre) (ix3 r h p) (fun b hb => ?_) hp
  match b with
  | ⟨0, _⟩ => rfl
  | ⟨1, _⟩ => rfl
  | ⟨2, _⟩ => exact absurd rfl hb

/-- A lane of a head, inside its 192, is the result's value there. -/
theorem cat_apply (q : FVec Ideal S8192x3072 .f32) (co si : FVec Ideal S8192x32 .f32) (r : Fin 8192) (n : Nat) (h : Fin 16) (d : Fin 192)
    (e : n = h.val * 256 + d.val) : cat q co si (ix3 r h d) = Gn q co si r n := by
  have hh := h.isLt
  have hd := d.isLt
  have pd : ∀ (n' : Nat) (d' : Nat), n' = h.val * 256 + d' → d' < 192 → padded q r n' = qat q r (h.val * 192 + d') := fun n' d' e' hd' => by
    unfold padded
    rw [if_pos (by omega)]
    exact congrArg (qat q r) (by omega)
  unfold Gn
  rcases Nat.lt_or_ge d.val 128 with h1 | h1
  · rw [if_pos (by omega), pd n d.val e hd]
    refine (part_apply q co si 0 128 0 (by decide) _ rfl pre_0 r h d (⟨d.val, h1⟩ : Fin 128) (Nat.zero_add _)).trans ?_
    refine congrArg (fun u : EReal => u * sc) ?_
    refine (extractStridedSlice_apply _ _ _ (ix3 r h (⟨d.val, h1⟩ : Fin 128)) (ix3 r h d) fun a => ?_).trans (heads_apply q r h d)
    match a with
    | ⟨0, _⟩ => show r.val = 0 + r.val; omega
    | ⟨1, _⟩ => show h.val = 0 + h.val; omega
    | ⟨2, _⟩ => show d.val = 0 + d.val; omega
  rw [if_neg (by omega), pd n d.val e hd]
  rcases Nat.lt_or_ge d.val 160 with h2 | h2
  · have hp : d.val - 128 < 32 := by omega
    rw [if_pos (by omega), pd (n + 32) (d.val + 32) (by omega) (by omega)]
    refine (part_apply q co si 1 32 128 (by decide) _ rfl pre_1 r h d (⟨d.val - 128, hp⟩ : Fin 32) (by show 128 + (d.val - 128) = d.val; omega)).trans ?_
    refine congrArg (fun u : EReal => u * sc) ?_
    unfold low
    show (show EReal from extractStridedSlice S8192x16x32 ![0, 0, 0] (tails q) _ _) * (show EReal from tabs co _)
      - (show EReal from extractStridedSlice S8192x16x32 ![0, 0, 32] (tails q) _ _) * (show EReal from tabs si _) = _
    rw [half_apply q 0 _ (by decide), half_apply q 32 _ (by decide), tabs_apply co _ _ _ n (by show n % 32 = d.val - 128; omega),
      tabs_apply si _ _ _ n (by show n % 32 = d.val - 128; omega)]
    have e0 : h.val * 192 + (128 + (0 + (d.val - 128))) = h.val * 192 + d.val := by omega
    have e1 : h.val * 192 + (128 + (32 + (d.val - 128))) = h.val * 192 + (d.val + 32) := by omega
    show qat q r (h.val * 192 + (128 + (0 + (d.val - 128)))) * tbl co r n - qat q r (h.val * 192 + (128 + (32 + (d.val - 128)))) * tbl si r n = _
    rw [e0, e1, sub_eq_add_neg, EReal.neg_mul]
  · have hp : d.val - 160 < 32 := by omega
    rw [if_neg (by omega), pd (n - 32) (d.val - 32) (by omega) (by omega)]
    refine (part_apply q co si 2 32 160 (by decide) _ rfl pre_2 r h d (⟨d.val - 160, hp⟩ : Fin 32) (by show 160 + (d.val - 160) = d.val; omega)).trans ?_
    refine congrArg (fun u : EReal => u * sc) ?_
    unfold high
    show (show EReal from extractStridedSlice S8192x16x32 ![0, 0, 32] (tails q) _ _) * (show EReal from tabs co _)
      + (show EReal from extractStridedSlice S8192x16x32 ![0, 0, 0] (tails q) _ _) * (show EReal from tabs si _) = _
    rw [half_apply q 0 _ (by decide), half_apply q 32 _ (by decide), tabs_apply co _ _ _ n (by show n % 32 = d.val - 160; omega),
      tabs_apply si _ _ _ n (by show n % 32 = d.val - 160; omega)]
    have e0 : h.val * 192 + (128 + (0 + (d.val - 160))) = h.val * 192 + (d.val - 32) := by omega
    have e1 : h.val * 192 + (128 + (32 + (d.val - 160))) = h.val * 192 + d.val := by omega
    show qat q r (h.val * 192 + (128 + (32 + (d.val - 160)))) * tbl co r n + qat q r (h.val * 192 + (128 + (0 + (d.val - 160)))) * tbl si r n = _
    rw [e0, e1]

/-- In a head's last 64 lanes the result is zero. -/
theorem tail_zero (q : FVec Ideal S8192x3072 .f32) (co si : FVec Ideal S8192x32 .f32) (r : Fin 8192) (n : Nat) (hn : 192 ≤ n % 256) :
    Gn q co si r n = 0 := by
  have pz : ∀ n' : Nat, 192 ≤ n' % 256 → padded q r n' = 0 := fun n' h => if_neg (by omega)
  unfold Gn
  rw [if_neg (by omega), pz n hn, zero_mul]
  by_cases hc : n % 64 < 32
  · rw [if_pos hc, pz (n + 32) (by omega), neg_zero, zero_mul, add_zero, zero_mul]
  · rw [if_neg hc, pz (n - 32) (by omega), zero_mul, add_zero, zero_mul]

/-- The padding's value. -/
theorem fill_zero (i : S_.Idx) : (show EReal from sitofp (F := Ideal) .f32 (constantI S_ 32 0#32) i) = 0 := by
  show (show EReal from FloatOps.sitofp (F := Ideal) .f32 (0#32)) = 0
  simp [FloatOps.sitofp]

theorem whole_apply (q : FVec Ideal S8192x3072 .f32) (co si : FVec Ideal S8192x32 .f32) (r : Fin 8192) (n : Fin 4096) :
    whole q co si (ix2 r n) = Gn q co si r n.val := by
  have hn := n.isLt
  have hh : n.val / 256 < 16 := by omega
  have hd : n.val % 256 < 256 := by omega
  refine (shapeCast_apply _ _ (ix2 r n) (ix3 r (⟨n.val / 256, hh⟩ : Fin 16) (⟨n.val % 256, hd⟩ : Fin 256)) ?_).trans ?_
  · refine (Shape.rowMajor_val_three _).trans (Eq.trans ?_ (Shape.rowMajor_val_two _).symm)
    show (r.val * 16 + n.val / 256) * 256 + n.val % 256 = r.val * 4096 + n.val
    omega
  rcases Nat.lt_or_ge (n.val % 256) 192 with h | h
  · refine (pad_apply_of_inside _ _ _ (cat q co si) _ _ _ _ (ix3 r (⟨n.val / 256, hh⟩ : Fin 16) (⟨n.val % 256, h⟩ : Fin 192)) fun a => ?_).trans
      (cat_apply q co si r n.val _ _ (by show n.val = n.val / 256 * 256 + n.val % 256; omega))
    match a with
    | ⟨0, _⟩ => show r.val = 0 + r.val * (0 + 1); omega
    | ⟨1, _⟩ => show n.val / 256 = 0 + n.val / 256 * (0 + 1); omega
    | ⟨2, _⟩ => show n.val % 256 = 0 + n.val % 256 * (0 + 1); omega
  · refine (pad_apply_of_not_inside _ _ _ (cat q co si) _ _ _ _ (2 : Fin 3) fun hin => ?_).trans
      ((fill_zero _).trans (tail_zero q co si r n.val h).symm)
    have h' : (n.val % 256 - 0) / (0 + 1) < 192 := hin.2.2
    omega

theorem res_eq (m : (ℓ : Loc nD τ sig) → Buf (Elt Ideal) ℓ) (c : Dev nD) :
    res_main_v38 m c = G (prodQ (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := by
  rw [← dot_eq]
  refine Eq.trans (b := truncf .bf16 (whole _ (m ((c.tc : Thread nD τ).loc main_arg3)) (m ((c.tc : Thread nD τ).loc main_arg4))) bitsLt_bf16_f32)
    (by unfold res_main_v38; rfl) ?_
  funext i
  exact (congrArg (whole _ _ _) (eq_ix2 i)).trans (whole_apply _ _ _ (i 0) (i 1))

end Cert.Proof.QProj

end
-- ==== Proof.QProj.lean ====
/- The latent queries: each grid point normalises its rows of the latent columns, multiplies them by two heads' columns of the
   padded weights, scales them and rotates the second 128 lanes of each head, in four stores of 128 lanes. Each block is that
   block of one array, which is the reference's result. -/
module

public import proofs.«01_k».proof.Proof.QProjRef
public import proofs.«01_k».proof.Proof.InProj
public import proofs.«01_k».proof.Proof.Gen.Kernel8
public import proofs.«01_k».proof.Proof.Gen.Kernel8Ideal
public import proofs.«01_k».proof.Proof.Gen.Kernel8Ideal.Value

@[expose] public section

noncomputable section

namespace Cert.Proof.QProj

open Cert.Kernel8Ideal Cert.Kernel8Ideal.Gen Cert.Kernel8Ideal.Value Idealize.ShloMosaic Idealize.ShloMosaic.TcCoe
  Idealize.ShloMosaic.ValueIdx Idealize.SL.Sem
open Cert.Proof.NormRow
open Cert.Proof.InProj (at2 tab rot E rot_at)
open scoped BigOperators

local instance : Cert.Kernel8.Facts := Cert.Kernel8.Gen.facts
local instance : Cert.Reference8Ideal.Facts := Cert.Reference8Ideal.Gen.facts

theorem hz : (![0, 0] : Fin 2 → Nat) = fun _ => 0 := funext fun a => by fin_cases a <;> rfl

/-- The product of a block's normalised rows and the weights' block, place by place. -/
theorem prod_apply (x0 : Vec Ideal S1024x1024 .bf16) (x2 : Vec Ideal S1x1024 .f32) (x1 : Vec Ideal S1024x512 .bf16) (j : S1024x512.Idx) :
    k0_pay2 x0 x2 x1 j = (show EReal from ∑ k : Fin 1024, nrm 0x44800000#32 0x358637BD#32 (fun l : Fin 1024 => (show EReal from x0 (ix2 (j 0) l))) (fun l => (show EReal from x2 (ix2 (0 : Fin 1) l))) k
      * (show EReal from x1 (ix2 k (j 1)))) := by
  unfold k0_pay2
  simp only [shapeCast_self]
  refine (congrArg (FloatOps.matmul (F := Ideal) (φ₁ := .bf16) (φ₂ := .bf16) (DotDims.plain 1024 1024 512) none _ x1 (constant (F := Ideal) S1024x512 .f32 0x00000000#32)) (eq_ix2 j)).trans ?_
  refine (Ideal.matmul_plain_apply none _ x1 _ (j 0) (j 1)).trans ?_
  refine (congrArg (· + _) (show (constant (F := Ideal) S1024x512 .f32 0x00000000#32) (ix2 (j 0) (j 1)) = (0 : EReal) from Ideal.ofBits_zero_f32)).trans ((zero_add _).trans ?_)
  refine Finset.sum_congr rfl fun k _ => congrArg (fun u : EReal => u * (show EReal from x1 (ix2 k (j 1)))) ?_
  exact kernel_norm 0x44800000#32 0x358637BD#32 (extf .f32 x0 _) x2 _ _ _ _ _ _ (j 0) k

/-- One store's lanes that are only scaled. -/
def plain {F : FTy → Type} [FloatOps F] (x : FVec F S1024x128 .f32) : FVec F S1024x128 .bf16 :=
  truncf .bf16 (mulf x (broadcast S1024x128 (Scalar.ofBits .f32 0x3D93CD3A#32))) bitsLt_bf16_f32

/-- The four stores' payloads are those lanes and the rotated ones. -/
theorem pay3_eq {F : FTy → Type} [FloatOps F] (x0 : Vec F S1024x1024 .bf16) (x2 : Vec F S1x1024 .f32) (x1 : Vec F S1024x512 .bf16) :
    k0_pay3 x0 x2 x1 = plain (extractStridedSlice S1024x128 ![0, 0] (k0_pay2 x0 x2 x1) slices_S1024x512_o0_0_S1024x128) := rfl
theorem pay8_eq {F : FTy → Type} [FloatOps F] (z : FVec F S1024x512 .f32) :
    k0_pay8 z = plain (extractStridedSlice S1024x128 ![0, 256] z slices_S1024x512_o0_256_S1024x128) := rfl
theorem pay7_eq {F : FTy → Type} [FloatOps F] (co si : Vec F S1024x128 .f32) (x0 : Vec F S1024x1024 .bf16) (x2 : Vec F S1x1024 .f32) (x1 : Vec F S1024x512 .bf16) :
    k0_pay7 co si (k0_pay4 x0 x2 x1) (Scalar.select (Scalar.cmpi .eq 64#32 0#32) 1#32 64#32) k0_pay5 k0_pay6 0#32
      = rot (Scalar.ofBits .f32 0x3D93CD3A#32) (extractStridedSlice S1024x128 ![0, 128] (k0_pay2 x0 x2 x1) slices_S1024x512_o0_128_S1024x128) co si := rfl
theorem pay1_eq {F : FTy → Type} [FloatOps F] (co si : Vec F S1024x128 .f32) (z : FVec F S1024x512 .f32) :
    k0_pay1 co si (k0_pay9 z) (Scalar.select (Scalar.cmpi .eq 64#32 0#32) 1#32 64#32) k0_pay10 k0_pay11 k0_pay12 k0_pay13
      = rot (Scalar.ofBits .f32 0x3D93CD3A#32) (extractStridedSlice S1024x128 ![0, 384] z slices_S1024x512_o0_384_S1024x128) co si := rfl

/-- The block at a place. -/
def B (z : FVec Ideal S1024x512 .f32) (co si : FVec Ideal S1024x128 .f32) (y : S1024x512.Idx) : EReal :=
  if (y 1).val % 256 < 128 then at2 z (y 0) (y 1).val * sc else E z co si sc y

theorem plain_at (z : FVec Ideal S1024x512 .f32) (co si : FVec Ideal S1024x128 .f32) (o : Nat) (h : S1024x512.Slices ![0, o] S1024x128)
    (ho : o + 128 ≤ 512) (ho' : o % 256 = 0) (x : S1024x128.Idx) (y : S1024x512.Idx) (h0 : (y 0).val = (x 0).val) (h1 : (y 1).val = o + (x 1).val) :
    (show EReal from plain (F := Ideal) (extractStridedSlice S1024x128 ![0, o] z h) x) = B z co si y := by
  have hx : (x 1).val < 128 := (x 1).isLt
  unfold B
  rw [if_pos (show (y 1).val % 256 < 128 by omega)]
  refine congrArg (fun u : EReal => u * sc) (extractStridedSlice_apply _ z h x _ fun a => ?_)
  match a with
  | ⟨0, _⟩ => show (y 0).val = 0 + (x 0).val; omega
  | ⟨1, _⟩ => show (y 1).val % 512 = o + (x 1).val; omega

theorem turn_at (z : FVec Ideal S1024x512 .f32) (co si : FVec Ideal S1024x128 .f32) (o : Nat) (h : S1024x512.Slices ![0, o] S1024x128)
    (ho : o + 128 ≤ 512) (ho' : o % 256 = 128) (x : S1024x128.Idx) (y : S1024x512.Idx) (h0 : (y 0).val = (x 0).val) (h1 : (y 1).val = o + (x 1).val) :
    (show EReal from rot (F := Ideal) (Scalar.ofBits .f32 0x3D93CD3A#32) (extractStridedSlice S1024x128 ![0, o] z h) co si x) = B z co si y := by
  have hx : (x 1).val < 128 := (x 1).isLt
  unfold B
  rw [if_neg (show ¬ (y 1).val % 256 < 128 by omega)]
  exact rot_at _ z co si o h ho (by omega) x y h0 h1

section Block

variable (c : Dev nD) (i : grid0.Coords) (arg2 : Memref sig .tc .vmem S1024x1024 .bf16) (harg2 : arg2.IsWhole)
  (arg3 : Memref sig .tc .vmem S1024x512 .bf16) (harg3 : arg3.IsWhole) (arg4 : Memref sig .tc .vmem S1x1024 .f32) (harg4 : arg4.IsWhole)
  (arg5 : Memref sig .tc .vmem S1024x128 .f32) (harg5 : arg5.IsWhole) (arg6 : Memref sig .tc .vmem S1024x128 .f32) (harg6 : arg6.IsWhole)
  (arg7 : Memref sig .tc .vmem S1024x512 .bf16) (harg7 : arg7.IsWhole)

/-- What the body leaves in the result's block. -/
theorem out_eq (x0 : Vec Ideal S1024x1024 .bf16) (x1 : Vec Ideal S1024x512 .bf16) (x2 : Vec Ideal S1x1024 .f32) (x3 x4 : Vec Ideal S1024x128 .f32)
    (y : S1024x512.Idx) :
    (show EReal from out0_A_5 c i arg2 harg2 arg3 harg3 arg4 harg4 arg5 harg5 arg6 harg6 arg7 harg7 x0 x1 x2 x3 x4 y) = B (k0_pay2 x0 x2 x1) x3 x4 y := by
  have e0 : View.readAt (Elt Ideal) arg2.view (Rect.unit (s := S1024x1024) ![0, 0] S1024x1024.size inb_S1024x1024_S1024x1024_0_0).toLoadRect (harg2.unread x0) = x0 := by
    rw [View.readAt_eq_ld, harg2.read_unread, View.ld_unit_zero hz]
  have e1 : View.readAt (Elt Ideal) arg3.view (Rect.unit (s := S1024x512) ![0, 0] S1024x512.size inb_S1024x512_S1024x512_0_0).toLoadRect (harg3.unread x1) = x1 := by
    rw [View.readAt_eq_ld, harg3.read_unread, View.ld_unit_zero hz]
  have e2 : View.readAt (Elt Ideal) arg4.view (Rect.unit (s := S1x1024) ![0, 0] S1x1024.size inb_S1x1024_S1x1024_0_0).toLoadRect (harg4.unread x2) = x2 := by
    rw [View.readAt_eq_ld, harg4.read_unread, View.ld_unit_zero hz]
  have e3 : View.readAt (Elt Ideal) arg5.view (Rect.unit (s := S1024x128) ![0, 0] S1024x128.size inb_S1024x128_S1024x128_0_0).toLoadRect (harg5.unread x3) = x3 := by
    rw [View.readAt_eq_ld, harg5.read_unread, View.ld_unit_zero hz]
  have e4 : View.readAt (Elt Ideal) arg6.view (Rect.unit (s := S1024x128) ![0, 0] S1024x128.size inb_S1024x128_S1024x128_0_0).toLoadRect (harg6.unread x4) = x4 := by
    rw [View.readAt_eq_ld, harg6.read_unread, View.ld_unit_zero hz]
  have hcov := cover0_A_5 c i arg2 harg2 arg3 harg3 arg4 harg4 arg5 harg5 arg6 harg6 arg7 harg7 x0 x1 x2 x3 x4 y
  unfold out0_A_5
  rw [View.read_writes_junk_eq_canon]
  refine View.canon_eq_of_allAt _ y _ hcov ?_
  show View.AllAt (Val := Elt Ideal) (S := S1024x512) (e := .bf16)
    [⟨Rect.unit (s := S1024x512) ![0, 384] S1024x128.size inb_S1024x512_S1024x128_0_384,
        k0_pay1 (View.readAt (Elt Ideal) arg5.view (Rect.unit (s := S1024x128) ![0, 0] S1024x128.size inb_S1024x128_S1024x128_0_0).toLoadRect (harg5.unread x3)) (View.readAt (Elt Ideal) arg6.view (Rect.unit (s := S1024x128) ![0, 0] S1024x128.size inb_S1024x128_S1024x128_0_0).toLoadRect (harg6.unread x4)) (k0_pay9 (k0_pay2 (View.readAt (Elt Ideal) arg2.view (Rect.unit (s := S1024x1024) ![0, 0] S1024x1024.size inb_S1024x1024_S1024x1024_0_0).toLoadRect (harg2.unread x0)) (View.readAt (Elt Ideal) arg4.view (Rect.unit (s := S1x1024) ![0, 0] S1x1024.size inb_S1x1024_S1x1024_0_0).toLoadRect (harg4.unread x2)) (View.readAt (Elt Ideal) arg3.view (Rect.unit (s := S1024x512) ![0, 0] S1024x512.size inb_S1024x512_S1024x512_0_0).toLoadRect (harg3.unread x1)))) (Scalar.select (Scalar.cmpi .eq 64#32 0#32) 1#32 64#32) k0_pay10 k0_pay11 k0_pay12 k0_pay13⟩,
      ⟨Rect.unit (s := S1024x512) ![0, 256] S1024x128.size inb_S1024x512_S1024x128_0_256, k0_pay8 (k0_pay2 (View.readAt (Elt Ideal) arg2.view (Rect.unit (s := S1024x1024) ![0, 0] S1024x1024.size inb_S1024x1024_S1024x1024_0_0).toLoadRect (harg2.unread x0)) (View.readAt (Elt Ideal) arg4.view (Rect.unit (s := S1x1024) ![0, 0] S1x1024.size inb_S1x1024_S1x1024_0_0).toLoadRect (harg4.unread x2)) (View.readAt (Elt Ideal) arg3.view (Rect.unit (s := S1024x512) ![0, 0] S1024x512.size inb_S1024x512_S1024x512_0_0).toLoadRect (harg3.unread x1)))⟩,
      ⟨Rect.unit (s := S1024x512) ![0, 128] S1024x128.size inb_S1024x512_S1024x128_0_128,
        k0_pay7 (View.readAt (Elt Ideal) arg5.view (Rect.unit (s := S1024x128) ![0, 0] S1024x128.size inb_S1024x128_S1024x128_0_0).toLoadRect (harg5.unread x3)) (View.readAt (Elt Ideal) arg6.view (Rect.unit (s := S1024x128) ![0, 0] S1024x128.size inb_S1024x128_S1024x128_0_0).toLoadRect (harg6.unread x4)) (k0_pay4 (View.readAt (Elt Ideal) arg2.view (Rect.unit (s := S1024x1024) ![0, 0] S1024x1024.size inb_S1024x1024_S1024x1024_0_0).toLoadRect (harg2.unread x0)) (View.readAt (Elt Ideal) arg4.view (Rect.unit (s := S1x1024) ![0, 0] S1x1024.size inb_S1x1024_S1x1024_0_0).toLoadRect (harg4.unread x2)) (View.readAt (Elt Ideal) arg3.view (Rect.unit (s := S1024x512) ![0, 0] S1024x512.size inb_S1024x512_S1024x512_0_0).toLoadRect (harg3.unread x1))) (Scalar.select (Scalar.cmpi .eq 64#32 0#32) 1#32 64#32) k0_pay5 k0_pay6 0#32⟩,
      ⟨Rect.unit (s := S1024x512) ![0, 0] S1024x128.size inb_S1024x512_S1024x128_0_0, k0_pay3 (View.readAt (Elt Ideal) arg2.view (Rect.unit (s := S1024x1024) ![0, 0] S1024x1024.size inb_S1024x1024_S1024x1024_0_0).toLoadRect (harg2.unread x0)) (View.readAt (Elt Ideal) arg4.view (Rect.unit (s := S1x1024) ![0, 0] S1x1024.size inb_S1x1024_S1x1024_0_0).toLoadRect (harg4.unread x2)) (View.readAt (Elt Ideal) arg3.view (Rect.unit (s := S1024x512) ![0, 0] S1024x512.size inb_S1024x512_S1024x512_0_0).toLoadRect (harg3.unread x1))⟩] y _
  rw [e0, e1, e2, e3, e4, pay1_eq, pay8_eq, pay7_eq, pay3_eq]
  refine View.allAt_cons_unit _ _ _ _ _ (fun x hx => turn_at _ _ _ 384 _ (by decide) (by decide) x y ((hx 0).trans (Nat.zero_add _)) (hx 1)) ?_
  refine View.allAt_cons_unit _ _ _ _ _ (fun x hx => plain_at _ _ _ 256 _ (by decide) (by decide) x y ((hx 0).trans (Nat.zero_add _)) (hx 1)) ?_
  refine View.allAt_cons_unit _ _ _ _ _ (fun x hx => turn_at _ _ _ 128 _ (by decide) (by decide) x y ((hx 0).trans (Nat.zero_add _)) (hx 1)) ?_
  exact View.allAt_cons_unit _ _ _ _ _ (fun x hx => plain_at _ _ _ 0 _ (by decide) (by decide) x y ((hx 0).trans (Nat.zero_add _)) (hx 1)) (View.allAt_nil _ _)

end Block

/-- The padded weights the host prepares. -/
def padW (w : FVec Ideal S1024x3072 .f32) : FVec Ideal S1024x4096 .f32 :=
  shapeCast S1024x4096 (pad S1024x16x256 ![0, 0, 0] ![0, 0, 64] ![0, 0, 0] (shapeCast S1024x16x192 w shapeCasts_S1024x3072_S1024x16x192)
    (sitofp .f32 (constantI S_ 32 0#32)) pads_S1024x16x192_S1024x16x256_000_000_0640 h_S_) shapeCasts_S1024x16x256_S1024x4096

theorem padW_apply (w : FVec Ideal S1024x3072 .f32) (k : Fin 1024) (n : Fin 4096) :
    padW w (ix2 k n) = (show EReal from if n.val % 256 < 192 then w (ix2 k (⟨(n.val / 256 * 192 + n.val % 256) % 3072, Nat.mod_lt _ (by decide)⟩ : Fin 3072)) else (0 : EReal)) := by
  have hn := n.isLt
  have hh : n.val / 256 < 16 := by omega
  have hd : n.val % 256 < 256 := by omega
  refine (shapeCast_apply _ _ (ix2 k n) (ix3 k (⟨n.val / 256, hh⟩ : Fin 16) (⟨n.val % 256, hd⟩ : Fin 256)) ?_).trans ?_
  · refine (Shape.rowMajor_val_three _).trans (Eq.trans ?_ (Shape.rowMajor_val_two _).symm)
    show (k.val * 16 + n.val / 256) * 256 + n.val % 256 = k.val * 4096 + n.val
    omega
  rcases Nat.lt_or_ge (n.val % 256) 192 with h | h
  · refine (pad_apply_of_inside _ _ _ (shapeCast S1024x16x192 w shapeCasts_S1024x3072_S1024x16x192) _ _ _ _ (ix3 k (⟨n.val / 256, hh⟩ : Fin 16) (⟨n.val % 256, h⟩ : Fin 192)) fun a => ?_).trans
      ((shapeCast_apply w _ (ix3 k (⟨n.val / 256, hh⟩ : Fin 16) (⟨n.val % 256, h⟩ : Fin 192)) _ ?_).trans (if_pos h).symm)
    · match a with
      | ⟨0, _⟩ => show k.val = 0 + k.val * (0 + 1); omega
      | ⟨1, _⟩ => show n.val / 256 = 0 + n.val / 256 * (0 + 1); omega
      | ⟨2, _⟩ => show n.val % 256 = 0 + n.val % 256 * (0 + 1); omega
    · refine (Shape.rowMajor_val_two _).trans (Eq.trans ?_ (Shape.rowMajor_val_three _).symm)
      show k.val * 3072 + (n.val / 256 * 192 + n.val % 256) % 3072 = (k.val * 16 + n.val / 256) * 192 + n.val % 256
      omega
  · refine (pad_apply_of_not_inside _ _ _ (shapeCast S1024x16x192 w shapeCasts_S1024x3072_S1024x16x192) _ _ _ _ (2 : Fin 3) fun hin => ?_).trans
      ((fill_zero _).trans (if_neg (by omega)).symm)
    have h' : (n.val % 256 - 0) / (0 + 1) < 192 := hin.2.2
    omega

/-- The block index of each window at point `t`, the grid's 64 points in row order. -/
theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 8 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val / 8 ∧ win0_3.index t (1 : Fin 2) = 0 :=
  (by decide +kernel : ∀ t : Fin grid0.N, _)
theorem idx4 : ∀ t : Fin cfg0.N, win0_4.index t (0 : Fin 2) = t.val / 8 ∧ win0_4.index t (1 : Fin 2) = 0 :=
  (by decide +kernel : ∀ t : Fin grid0.N, _)
theorem idx5 : ∀ t : Fin cfg0.N, win0_5.index t (0 : Fin 2) = t.val / 8 ∧ win0_5.index t (1 : Fin 2) = t.val % 8 :=
  (by decide +kernel : ∀ t : Fin grid0.N, _)

theorem N_eq : cfg0.N = 64 := by decide

/-- The array row of block row `r` at point `t`, and the column of block column `q`. -/
def row (t : Fin cfg0.N) (r : Fin 1024) : Fin 8192 :=
  ⟨t.val / 8 * 1024 + r.val, by
    have h : t.val < 64 := N_eq ▸ t.isLt
    have h0 := r.isLt
    omega⟩
def col (t : Fin cfg0.N) (q : Fin 512) : Fin 4096 :=
  ⟨t.val % 8 * 512 + q.val, by have h := q.isLt; omega⟩

theorem emb1 (t : Fin cfg0.N) (q : Fin 512) (k : Fin 1024) :
    ((cfg0.win 1).blk t).view.emb (ix2 k q) = (ix2 k (col t q) : S1024x4096.Idx) := by
  obtain ⟨e0, e1⟩ := idx1 t
  funext a; apply Fin.ext
  match a with
  | ⟨0, _⟩ => show win0_1.index t (0 : Fin 2) * 1024 + 1 * k.val = k.val; omega
  | ⟨1, _⟩ => show win0_1.index t (1 : Fin 2) * 512 + 1 * q.val = t.val % 8 * 512 + q.val; omega

theorem emb2 (t : Fin cfg0.N) (k : Fin 1024) :
    ((cfg0.win 2).blk t).view.emb (ix2 (0 : Fin 1) k) = (ix2 (0 : Fin 1) k : S1x1024.Idx) := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 1024 + 1 * k.val = k.val; omega

theorem emb3 (t : Fin cfg0.N) (r : Fin 1024) (l : Fin 128) :
    ((cfg0.win 3).blk t).view.emb (ix2 r l) = (ix2 (row t r) l : S8192x128.Idx) := by
  obtain ⟨e0, e1⟩ := idx3 t
  funext a; apply Fin.ext
  match a with
  | ⟨0, _⟩ => show win0_3.index t (0 : Fin 2) * 1024 + 1 * r.val = t.val / 8 * 1024 + r.val; omega
  | ⟨1, _⟩ => show win0_3.index t (1 : Fin 2) * 128 + 1 * l.val = l.val; omega

theorem emb4 (t : Fin cfg0.N) (r : Fin 1024) (l : Fin 128) :
    ((cfg0.win 4).blk t).view.emb (ix2 r l) = (ix2 (row t r) l : S8192x128.Idx) := by
  obtain ⟨e0, e1⟩ := idx4 t
  funext a; apply Fin.ext
  match a with
  | ⟨0, _⟩ => show win0_4.index t (0 : Fin 2) * 1024 + 1 * r.val = t.val / 8 * 1024 + r.val; omega
  | ⟨1, _⟩ => show win0_4.index t (1 : Fin 2) * 128 + 1 * l.val = l.val; omega

theorem emb5 (t : Fin cfg0.N) (j : S1024x512.Idx) :
    ((cfg0.win 5).blk t).view.emb j = (ix2 (row t (j 0)) (col t (j 1)) : S8192x4096.Idx) := by
  obtain ⟨e0, e1⟩ := idx5 t
  funext a; apply Fin.ext
  match a with
  | ⟨0, _⟩ => show win0_5.index t (0 : Fin 2) * 1024 + 1 * (j 0).val = t.val / 8 * 1024 + (j 0).val; omega
  | ⟨1, _⟩ => show win0_5.index t (1 : Fin 2) * 512 + 1 * (j 1).val = t.val % 8 * 512 + (j 1).val; omega

variable (m : (ℓ : Loc nD τ sig) → Buf (Elt Ideal) ℓ) (ρ : Dev nD → PrngReg)

/-- What the launch finds in the arrays the host prepares. -/
theorem V_main_v9 (c : Dev nD) : V m c main_v9 = truncf (F := Ideal) .bf16 (padW (m ((c : Thread nD τ).loc main_arg2))) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append, StableHlo.TRef.unary, StableHlo.TRef.binary]
  after_results
  rfl

theorem V_main_v10 (c : Dev nD) : V m c main_v10 = shapeCast S1x1024 (m ((c : Thread nD τ).loc main_arg1)) shapeCasts_S1024_S1x1024 := by
  show StableHlo.after (List.flatten [hostOps0, hostOps0_1, hostOps0_2]) _ _ = _
  simp only [hostOps0, hostOps0_1, hostOps0_2, List.flatten_cons, List.flatten_nil, List.append_nil, List.cons_append, List.nil_append, StableHlo.TRef.unary, StableHlo.TRef.binary]
  after_results
  rfl

theorem V_main_v5 (c : Dev nD) : V m c main_v5 = shapeCast S8192x128 (broadcastInDim S1x8192x4x32 ![0, 1, 2, 3] bcast_S1x8192x1x32_S1x8192x4x32_0_1_2_3
      (shapeCast S1x8192x1x32 (m ((c : Thread nD τ).loc main_arg3)) shapeCasts_S8192x32_S1x8192x1x32)) shapeCasts_S1x8192x4x32_S8192x128 := by
  show StableHlo.after (List.flatten [hostOps0, hostOps0_1, hostOps0_2]) _ _ = _
  simp only [hostOps0, hostOps0_1, hostOps0_2, List.flatten_cons, List.flatten_nil, List.append_nil, List.cons_append, List.nil_append, StableHlo.TRef.unary, StableHlo.TRef.binary]
  after_results
  rfl

theorem V_main_v8 (c : Dev nD) : V m c main_v8 = shapeCast S8192x128 (broadcastInDim S1x8192x4x32 ![0, 1, 2, 3] bcast_S1x8192x1x32_S1x8192x4x32_0_1_2_3
      (shapeCast S1x8192x1x32 (m ((c : Thread nD τ).loc main_arg4)) shapeCasts_S8192x32_S1x8192x1x32)) shapeCasts_S1x8192x4x32_S8192x128 := by
  show StableHlo.after (List.flatten [hostOps0, hostOps0_1, hostOps0_2]) _ _ = _
  simp only [hostOps0, hostOps0_1, hostOps0_2, List.flatten_cons, List.flatten_nil, List.append_nil, List.cons_append, List.nil_append, StableHlo.TRef.unary, StableHlo.TRef.binary]
  after_results
  rfl

/-- The latent rows a point reads. -/
theorem block_lat (c : Dev nD) (t : Fin cfg0.N) (r k : Fin 1024) :
    X0_0 m c t (ix2 r k) = (m ((c : Thread nD τ).loc main_arg0) : FVec Ideal S8192x12800 .bf16) (ix2 (row t r) (lat k)) := by
  obtain ⟨e0, e1⟩ := idx0 t
  unfold X0_0 Pipeline.Window.fill
  rw [dif_pos (moved0_0 t _)]
  refine Eq.trans ?_ (congrFun (V_main_arg0 m c) _)
  refine congrArg (V m c main_arg0) (funext fun a => Fin.ext ?_)
  match a with
  | ⟨0, _⟩ => show win0_0.index t (0 : Fin 2) * 1024 + 1 * r.val = t.val / 8 * 1024 + r.val; omega
  | ⟨1, _⟩ => show win0_0.index t (1 : Fin 2) * 1024 + 1 * k.val = k.val; omega

/-- The product of the arguments. -/
def Q (c : Dev nD) : FVec Ideal Cert.Reference8Ideal.S8192x3072 .f32 :=
  prodQ (m ((c : Thread nD τ).loc main_arg0)) (m ((c : Thread nD τ).loc main_arg1)) (m ((c : Thread nD τ).loc main_arg2))

/-- A point's product block is the whole product's, its heads padded. -/
theorem block_prod (c : Dev nD) (t : Fin cfg0.N) (r : Fin 1024) (n : Nat) (hn : n < 512) :
    at2 (k0_pay2 (X0_0 m c t) (iblk m c 2 t) (iblk m c 1 t)) r n = padded (Q m c) (row t r) (t.val % 8 * 512 + n) := by
  have hm : n % 512 = n := Nat.mod_eq_of_lt hn
  have hw : ∀ k : Fin 1024, (show EReal from (iblk m c 1 t : Vec Ideal S1024x512 .bf16) (ix2 k (⟨n % 512, Nat.mod_lt _ (by decide)⟩ : Fin 512)))
      = if (t.val % 8 * 512 + n) % 256 < 192 then (show EReal from (m ((c : Thread nD τ).loc main_arg2) : FVec Ideal S1024x3072 .f32) (ix2 k (⟨((t.val % 8 * 512 + n) / 256 * 192 + (t.val % 8 * 512 + n) % 256) % 3072, Nat.mod_lt _ (by decide)⟩ : Fin 3072))) else 0 := fun k => by
    refine (congrArg (V m c main_v9) (emb1 t (⟨n % 512, Nat.mod_lt _ (by decide)⟩ : Fin 512) k)).trans ?_
    rw [V_main_v9]
    refine (padW_apply _ k (col t _)).trans ?_
    have e : (col t (⟨n % 512, Nat.mod_lt _ (by decide)⟩ : Fin 512)).val = t.val % 8 * 512 + n := by
      show t.val % 8 * 512 + n % 512 = _
      omega
    simp only [e]
  have hN : ∀ k : Fin 1024, nrm 0x44800000#32 0x358637BD#32 (fun l : Fin 1024 => (show EReal from X0_0 m c t (ix2 r l))) (fun l => (show EReal from (iblk m c 2 t : Vec Ideal S1x1024 .f32) (ix2 (0 : Fin 1) l))) k
      = nrm 0x44800000#32 0x358637BD#32 (fun l : Fin 1024 => (show EReal from (m ((c : Thread nD τ).loc main_arg0) : FVec Ideal S8192x12800 .bf16) (ix2 (row t r) (lat l)))) (fun l => (show EReal from (m ((c : Thread nD τ).loc main_arg1) : FVec Ideal S1024 .f32) (ix1 l))) k := fun k => by
    refine congrArg₂ (fun x g : Fin 1024 → EReal => nrm 0x44800000#32 0x358637BD#32 x g k) (funext fun l => block_lat m c t r l) (funext fun l => ?_)
    refine (congrArg (V m c main_v10) (emb2 t l)).trans ?_
    rw [V_main_v10]
    exact row_cast _ _ l
  unfold at2
  refine (prod_apply _ _ _ _).trans ?_
  refine (Finset.sum_congr rfl fun k _ => congrArg₂ (fun a b : EReal => a * b) (hN k) (hw k)).trans ?_
  unfold padded
  by_cases h : (t.val % 8 * 512 + n) % 256 < 192
  · rw [if_pos h]
    exact Finset.sum_congr rfl fun k _ => congrArg (fun b : EReal => _ * b) (if_pos h)
  · rw [if_neg h]
    exact Finset.sum_eq_zero fun k _ => (congrArg (fun b : EReal => _ * b) (if_neg h)).trans (mul_zero _)

theorem block_cos (c : Dev nD) (t : Fin cfg0.N) (r : Fin 1024) (n : Nat) :
    tab (iblk m c 3 t) r n = tbl (m ((c : Thread nD τ).loc main_arg3)) (row t r) (t.val % 8 * 512 + n) := by
  unfold tab
  refine (congrArg (V m c main_v5) (emb3 t r _)).trans ?_
  rw [V_main_v5]
  refine (InProj.tiled_apply _ _ _).trans ?_
  unfold tbl InProj.tbl
  refine congrArg (fun q => (m ((c : Thread nD τ).loc main_arg3) : FVec Ideal S8192x32 .f32) (ix2 (row t r) q)) (Fin.ext ?_)
  show n % 128 % 32 = (t.val % 8 * 512 + n) % 32
  omega

theorem block_sin (c : Dev nD) (t : Fin cfg0.N) (r : Fin 1024) (n : Nat) :
    tab (iblk m c 4 t) r n = tbl (m ((c : Thread nD τ).loc main_arg4)) (row t r) (t.val % 8 * 512 + n) := by
  unfold tab
  refine (congrArg (V m c main_v8) (emb4 t r _)).trans ?_
  rw [V_main_v8]
  refine (InProj.tiled_apply _ _ _).trans ?_
  unfold tbl InProj.tbl
  refine congrArg (fun q => (m ((c : Thread nD τ).loc main_arg4) : FVec Ideal S8192x32 .f32) (ix2 (row t r) q)) (Fin.ext ?_)
  show n % 128 % 32 = (t.val % 8 * 512 + n) % 32
  omega

/-- The block at a place is the result's value there. -/
theorem place (c : Dev nD) (t : Fin cfg0.N) (r : Fin 1024) (q : Fin 512) :
    B (k0_pay2 (X0_0 m c t) (iblk m c 2 t) (iblk m c 1 t)) (iblk m c 3 t) (iblk m c 4 t) (ix2 r q)
      = Gn (Q m c) (m ((c : Thread nD τ).loc main_arg3)) (m ((c : Thread nD τ).loc main_arg4)) (row t r) (t.val % 8 * 512 + q.val) := by
  have hq := q.isLt
  have e : (t.val % 8 * 512 + q.val) % 256 = q.val % 256 := by omega
  have e' : (t.val % 8 * 512 + q.val) % 64 = q.val % 64 := by omega
  unfold B Gn
  rw [e, e']
  show (if q.val % 256 < 128 then at2 (k0_pay2 (X0_0 m c t) (iblk m c 2 t) (iblk m c 1 t)) r q.val * sc
    else (at2 (k0_pay2 (X0_0 m c t) (iblk m c 2 t) (iblk m c 1 t)) r q.val * tab (iblk m c 3 t) r q.val
      + (if q.val % 64 < 32 then -(at2 (k0_pay2 (X0_0 m c t) (iblk m c 2 t) (iblk m c 1 t)) r (q.val + 32)) else at2 (k0_pay2 (X0_0 m c t) (iblk m c 2 t) (iblk m c 1 t)) r (q.val - 32))
        * tab (iblk m c 4 t) r q.val) * sc) = _
  rw [block_cos, block_sin, block_prod m c t r _ hq]
  by_cases h : q.val % 256 < 128
  · rw [if_pos h, if_pos h]
  rw [if_neg h, if_neg h]
  by_cases hc : q.val % 64 < 32
  · rw [if_pos hc, if_pos hc, block_prod m c t r _ (by omega), Nat.add_assoc]
  · have e2 : t.val % 8 * 512 + (q.val - 32) = t.val % 8 * 512 + q.val - 32 := by omega
    rw [if_neg hc, if_neg hc, block_prod m c t r _ (by omega), e2]

/-- What point `t` writes back is its block of `G` of the arguments. -/
theorem flushed_eq (c : Dev nD) (t : Fin cfg0.N) :
    (dats m 0 c).flushed 5 t = ((cfg0.win 5).blk t).view.read (Elt Ideal)
      (G (Q m c) (m ((c : Thread nD τ).loc main_arg3)) (m ((c : Thread nD τ).loc main_arg4))) := by
  funext (j : S1024x512.Idx)
  refine Eq.trans ?_ (congrArg (G (Q m c) (m ((c : Thread nD τ).loc main_arg3)) (m ((c : Thread nD τ).loc main_arg4))) (emb5 t j)).symm
  rw [flushed5_A]
  refine (out_eq c _ _ _ _ _ _ _ _ _ _ _ _ _ _ _ _ _ _ j).trans ?_
  exact (congrArg (B _ _ _) (eq_ix2 j)).trans (place m c t (j 0) (j 1))

/-- Every place of the result is in some point's block. -/
theorem covered (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  let t : Fin cfg0.N := ⟨(i 0).val / 1024 * 8 + (i 1).val / 512, by rw [N_eq]; omega⟩
  let j : S1024x512.Idx := ix2 (⟨(i 0).val % 1024, by omega⟩ : Fin 1024) (⟨(i 1).val % 512, by omega⟩ : Fin 512)
  refine ⟨t, flush0_5 t, ?_⟩
  have h := ((cfg0.win 5).blk t).view.emb_mem_set j
  have e : ((cfg0.win 5).blk t).view.emb j = i := by
    rw [emb5]
    funext a; apply Fin.ext
    match a with
    | ⟨0, _⟩ => show ((i 0).val / 1024 * 8 + (i 1).val / 512) / 8 * 1024 + (i 0).val % 1024 = (i 0).val; omega
    | ⟨1, _⟩ => show ((i 0).val / 1024 * 8 + (i 1).val / 512) % 8 * 512 + (i 1).val % 512 = (i 1).val; omega
  rwa [e] at h

/-- The result array after the run is `G` of the arguments. -/
theorem final (c : Dev nD) : (dats m 0 c).arrAt 5 cfg0.N
    = G (Q m c) (m ((c : Thread nD τ).loc main_arg3)) (m ((c : Thread nD τ).loc main_arg4)) :=
  (dats m 0 c).arrAt_eq_of_cover 5 _ (fun t _ => flushed_eq m c t) covered

/-- The kernel's labels run the same bodies whichever printing of it is read. -/
theorem defs_eq {F : FTy → Type} [FloatOps F] : Cert.Kernel8.defs (F := F) = Cert.Kernel8Ideal.defs (F := F) :=
  congrArg (Pipeline.defs (Cert.Kernel8Ideal.pcfgs (F := F))) (show Cert.Kernel8.defs₀ (F := F) = Cert.Kernel8Ideal.defs₀ from
    congrArg Defs.onTc (funext fun l => funext fun x => match l, x with
      | 0, (t, s) => rfl
      | ⟨_ + 1, h⟩, _ => absurd h (Nat.not_lt.2 (Nat.le_add_left _ _))))

theorem frame_KernelIdeal : Cert.quiescent_Kernel8Ideal := fun m g _ => Cert.Kernel8Ideal.Gen.frame (F := Ideal) m g

theorem frame_Kernel : Cert.quiescent_Kernel8 := fun m g _ => by
  rw [defs_eq]
  exact (θ_run Cert.Kernel8Ideal.defs _ _).mono (fun _ h => h) (Cert.Kernel8Ideal.Gen.frame (F := Bits) m g)

theorem frame_ReferenceIdeal : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem value_ideal : Cert.algebraic_Kernel8Ideal_Reference8Ideal := fun m g m' g' _ hag =>
  ⟨fun c => G (Q m c) (m ((c : Thread nD τ).loc main_arg3)) (m ((c : Thread nD τ).loc main_arg4)),
    (θ_run Cert.Kernel8Ideal.defs _ _).mono (fun _ h c => ⟨(h c).1.trans (final m c), (h c).2⟩) (run_blocks (F := Ideal) m g),
    (θ_run Cert.Reference8Ideal.defs _ _).mono (fun _ h c => ⟨(h c).1.trans ((res_eq m' c).trans (by
        rw [(hag c).1, (hag c).2.1, (hag c).2.2.1, (hag c).2.2.2.1, (hag c).2.2.2.2]
        rfl)), (h c).2⟩) (Cert.Reference8Ideal.Value.run (F := Ideal) m' g')⟩

end Cert.Proof.QProj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Pre_routed
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.DispatchClaims
public import proofs.«01_k».proof.Proof.Gen.Pre_counted
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.InProj
public import proofs.«01_k».proof.Proof.OutProj
public import proofs.«01_k».proof.Proof.Merge
public import proofs.«01_k».proof.Proof.Experts
public import proofs.«01_k».proof.Proof.KvProj
public import proofs.«01_k».proof.Proof.MemKv
public import proofs.«01_k».proof.Proof.QProj

@[expose] public section

noncomputable section

namespace Cert.Proof

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts,
    Cert.Kernel7Ideal.Gen.facts, Cert.Reference7Ideal.Gen.facts,
    Cert.Kernel8.Gen.facts, Cert.Kernel8Ideal.Gen.facts, Cert.Reference8Ideal.Gen.facts,
    Cert.Pre_routed.Gen.facts, Cert.Pre_counted.Gen.facts,
    Dispatch.frame_Kernel, Dispatch.frame_KernelIdeal, Dispatch.frame_ReferenceIdeal, Dispatch.frame_Reference,
    InProj.frame_Kernel, InProj.frame_KernelIdeal, InProj.frame_ReferenceIdeal, OutProj.frame_Kernel,
    OutProj.frame_KernelIdeal, OutProj.frame_ReferenceIdeal, Merge.frame_Kernel, Merge.frame_KernelIdeal,
    Merge.frame_ReferenceIdeal, Experts.frame_Kernel, Experts.frame_KernelIdeal, Experts.frame_ReferenceIdeal,
    KvProj.frame_Kernel, KvProj.frame_KernelIdeal, KvProj.frame_ReferenceIdeal, MemKv.frame_Kernel, MemKv.frame_KernelIdeal,
    MemKv.frame_ReferenceIdeal,
    QProj.frame_Kernel, QProj.frame_KernelIdeal, QProj.frame_ReferenceIdeal,
    trivial, Dispatch.value_bits, Dispatch.value_ideal, trivial,
    InProj.value_ideal, trivial, OutProj.value_ideal, trivial,
    Merge.value_ideal, trivial, Experts.value_ideal, trivial,
    KvProj.value_ideal, trivial, MemKv.value_ideal, trivial,
    QProj.value_ideal⟩

end Cert.Proof

end
